-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)) (v5 : (c : Dev Cert.KernelIdeal.nD) → Buf (Elt Ideal) ((c.tc : Thread Cert.KernelIdeal.nD Cert.KernelIdeal.τ).loc Cert.KernelIdeal.main_v38_5)) (v6 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_v38_5) = v5 c
          ∧ r.2.mem ((c.tc : Thread Cert.KernelIdeal.nD Cert.KernelIdeal.τ).loc Cert.KernelIdeal.main_v40) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_v99) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "gelu_c01" .f32 0x3D122279#32 ((80338380498831 / 2251799813685248 : ℝ) : EReal)
  ∧ IdealRules.named_const.Statement Cert.Kernel5Ideal.κ "gelu_c01_3" .f32 0x3D5B33B6#32 ((241015141496493 / 4503599627370496 : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v66_0)) (v1 : (c : Dev Cert.Kernel5Ideal.nD) → Buf (Elt Ideal) ((c.tc : Thread Cert.Kernel5Ideal.nD Cert.Kernel5Ideal.τ).loc Cert.Kernel5Ideal.main_v72)) (v2 : (c : Dev Cert.Kernel5Ideal.nD) → Buf (Elt Ideal) ((c.tc : Thread Cert.Kernel5Ideal.nD Cert.Kernel5Ideal.τ).loc Cert.Kernel5Ideal.main_v66_2)) (v3 : (c : Dev Cert.Kernel5Ideal.nD) → Buf (Elt Ideal) ((c.tc : Thread Cert.Kernel5Ideal.nD Cert.Kernel5Ideal.τ).loc Cert.Kernel5Ideal.main_v68)) (v4 : (c : Dev Cert.Kernel5Ideal.nD) → Buf (Elt Ideal) ((c.tc : Thread Cert.Kernel5Ideal.nD Cert.Kernel5Ideal.τ).loc Cert.Kernel5Ideal.main_v71)) (v5 : (c : Dev Cert.Kernel5Ideal.nD) → Buf (Elt Ideal) ((c.tc : Thread Cert.Kernel5Ideal.nD Cert.Kernel5Ideal.τ).loc Cert.Kernel5Ideal.main_v73)) (v6 : (c : Dev Cert.Kernel5Ideal.nD) → Buf (Elt Ideal) ((c.tc : Thread Cert.Kernel5Ideal.nD Cert.Kernel5Ideal.τ).loc Cert.Kernel5Ideal.main_v74)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v66_0) = v0 c
          ∧ r.2.mem ((c.tc : Thread Cert.Kernel5Ideal.nD Cert.Kernel5Ideal.τ).loc Cert.Kernel5Ideal.main_v72) = v1 c
          ∧ r.2.mem ((c.tc : Thread Cert.Kernel5Ideal.nD Cert.Kernel5Ideal.τ).loc Cert.Kernel5Ideal.main_v66_2) = v2 c
          ∧ r.2.mem ((c.tc : Thread Cert.Kernel5Ideal.nD Cert.Kernel5Ideal.τ).loc Cert.Kernel5Ideal.main_v68) = v3 c
          ∧ r.2.mem ((c.tc : Thread Cert.Kernel5Ideal.nD Cert.Kernel5Ideal.τ).loc Cert.Kernel5Ideal.main_v71) = v4 c
          ∧ r.2.mem ((c.tc : Thread Cert.Kernel5Ideal.nD Cert.Kernel5Ideal.τ).loc Cert.Kernel5Ideal.main_v73) = v5 c
          ∧ r.2.mem ((c.tc : Thread Cert.Kernel5Ideal.nD Cert.Kernel5Ideal.τ).loc Cert.Kernel5Ideal.main_v74) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v158) = v0 c
          ∧ r.2.mem ((c.tc : Thread Cert.Reference5Ideal.nD Cert.Reference5Ideal.τ).loc Cert.Reference5Ideal.main_v85) = v1 c
          ∧ r.2.mem ((c.tc : Thread Cert.Reference5Ideal.nD Cert.Reference5Ideal.τ).loc Cert.Reference5Ideal.main_v159) = v2 c
          ∧ r.2.mem ((c.tc : Thread Cert.Reference5Ideal.nD Cert.Reference5Ideal.τ).loc Cert.Reference5Ideal.main_v112) = v3 c
          ∧ r.2.mem ((c.tc : Thread Cert.Reference5Ideal.nD Cert.Reference5Ideal.τ).loc Cert.Reference5Ideal.main_v107) = v4 c
          ∧ r.2.mem ((c.tc : Thread Cert.Reference5Ideal.nD Cert.Reference5Ideal.τ).loc Cert.Reference5Ideal.main_v122) = v5 c
          ∧ r.2.mem ((c.tc : Thread Cert.Reference5Ideal.nD Cert.Reference5Ideal.τ).loc Cert.Reference5Ideal.main_v116) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v5) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v52) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S16384x1024 .f32) (main_v2 : IVec S16384x1024 1) (main_v5 : IVec S1024 1) (main_v8 : IVec S1024 1) (main_v11 : IVec S1024x2816 1) (main_v14 : IVec S1024x2816 1) (main_v17 : IVec S2816x1024 1) : IVec S16384x1024 1 × IVec S1024 1 × IVec S1024 1 × IVec S1024x2816 1 × IVec S1024x2816 1 × IVec S2816x1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S16384x1024 .f32) : IVec S16384x1024 1 × IVec S1024 1 × IVec S1024 1 × IVec S1024x2816 1 × IVec S1024x2816 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Pre_finite4.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S16384x1024 .f32) (main_arg1 : FVec F S1024 .f32) (main_arg2 : FVec F S1024x2816 .f32) (main_arg3 : FVec F S1024x2816 .f32) : IVec S16384x1024 1 × IVec S1024 1 × IVec S1024x2816 1 × IVec S1024x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  (main_v2, main_v5, main_v8, main_v11)
-- ==== Pre_finite5.lean ====
abbrev S16384x4096 : Shape := ⟨2, ![16384, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩

class Facts : Prop where
  bcast_S_S16384x4096 : S_.BroadcastsInDim S16384x4096 (![] : Fin 0 → Fin S16384x4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S2048x1024 : S_.BroadcastsInDim S2048x1024 (![] : Fin 0 → Fin S2048x1024.rank)
  bcast_S_S1024 : S_.BroadcastsInDim S1024 (![] : Fin 0 → Fin S1024.rank)
  bcast_S_S16384x1024 : S_.BroadcastsInDim S16384x1024 (![] : Fin 0 → Fin S16384x1024.rank)

variable [Facts]

def fn_part1 {F : FTy → Type} [FloatOps F] (main_arg6 : FVec F S1024 .f32) (main_arg7 : FVec F S16384x1024 .f32) (main_v2 : IVec S16384x4096 1) (main_v5 : IVec S2048 1) (main_v8 : IVec S2048 1) (main_v11 : IVec S8x128x128 1) (main_v14 : IVec S8x128 1) (main_v17 : IVec S2048x1024 1) : IVec S16384x4096 1 × IVec S2048 1 × IVec S2048 1 × IVec S8x128x128 1 × IVec S8x128 1 × IVec S2048x1024 1 × IVec S1024 1 × IVec S16384x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S16384x1024 .f32 := Host.absf main_arg7
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  (main_v2, main_v5, main_v8, main_v11, main_v14, main_v17, main_v20, main_v23)

def fn {F : FTy → Type} [FloatOps F] (main_arg0 : FVec F S16384x4096 .f32) (main_arg1 : FVec F S2048 .f32) (main_arg2 : FVec F S2048 .f32) (main_arg3 : FVec F S8x128x128 .f32) (main_arg4 : FVec F S8x128 .f32) (main_arg5 : FVec F S2048x1024 .f32) (main_arg6 : FVec F S1024 .f32) (main_arg7 : FVec F S16384x1024 .f32) : IVec S16384x4096 1 × IVec S2048 1 × IVec S2048 1 × IVec S8x128x128 1 × IVec S8x128 1 × IVec S2048x1024 1 × IVec S1024 1 × IVec S16384x1024 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  fn_part1 (F := F) main_arg6 main_arg7 main_v2 main_v5 main_v8 main_v11 main_v14 main_v17
-- ==== Kernel.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩
abbrev S256x256 : Shape := ⟨2, ![256, 256]⟩

abbrev nBuf : Space → Nat
  | .hbm => 61
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S16384x1024, .bf16⟩
  | .hbm, ⟨46, _⟩ => ⟨S1x1024, .f32⟩
  | .hbm, ⟨47, _⟩ => ⟨S16384x2816, .bf16⟩
  | .hbm, ⟨48, _⟩ => ⟨S16384x2816, .bf16⟩
  | .hbm, ⟨49, _⟩ => ⟨S1x1024, .f32⟩
  | .hbm, ⟨50, _⟩ => ⟨S16384x1024, .bf16⟩
  | .hbm, ⟨51, _⟩ => ⟨S8x1024, .f32⟩
  | .hbm, ⟨52, _⟩ => ⟨S16384x2816, .bf16⟩
  | .hbm, ⟨53, _⟩ => ⟨S16384x2816, .bf16⟩
  | .hbm, ⟨54, _⟩ => ⟨S16384x1024, .f32⟩
  | .hbm, ⟨55, _⟩ => ⟨S16384x1024, .bf16⟩
  | .hbm, ⟨56, _⟩ => ⟨S8x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2816x1024, .bf16⟩
  | .local _ .vmem, ⟨14, _⟩ => ⟨S2816x1024, .bf16⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev main_v38_5 : Ref sig .tc := ⟨.hbm, 55, rfl⟩
abbrev main_v38_6 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024x2816, .f32⟩
  | 4 => ⟨S1024x2816, .f32⟩
  | 5 => ⟨S2816x1024, .f32⟩
  | 6 => ⟨S16384x1024, .f32⟩
  | 7 => ⟨S_, .f32⟩
  | 8 => ⟨S16384x2816, .f32⟩
  | 9 => ⟨S_, .f32⟩
  | 10 => ⟨S16384x1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1024, .f32⟩
  | 27 => ⟨S16384x1024, .f32⟩
  | 28 => ⟨S1x1024, .f32⟩
  | 29 => ⟨S16384x1024, .f32⟩
  | 30 => ⟨S16384x1024, .f32⟩
  | 31 => ⟨S16384x2816, .f32⟩
  | 32 => ⟨S16384x2816, .f32⟩
  | 33 => ⟨S16384x2816, .f32⟩
  | 34 => ⟨S16384x2816, .f32⟩
  | 35 => ⟨S16384x2816, .f32⟩
  | 36 => ⟨S16384x2816, .f32⟩
  | 37 => ⟨S_, .f32⟩
  | 38 => ⟨S16384x2816, .f32⟩
  | 39 => ⟨S16384x2816, .f32⟩
  | 40 => ⟨S_, .f32⟩
  | 41 => ⟨S16384x2816, .f32⟩
  | 42 => ⟨S16384x2816, .f32⟩
  | 43 => ⟨S_, .f32⟩
  | 44 => ⟨S16384x2816, .f32⟩
  | 45 => ⟨S16384x2816, .f32⟩
  | 46 => ⟨S16384x2816, .f32⟩
  | 47 => ⟨S16384x2816, .f32⟩
  | 48 => ⟨S16384x2816, .f32⟩
  | 49 => ⟨S16384x1024, .f32⟩
  | 50 => ⟨S16384x1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1024, .f32⟩
  | 67 => ⟨S16384x1024, .f32⟩
  | 68 => ⟨S1x1024, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S16384x1024, .f32⟩
  | 80 => ⟨S_, .f32⟩
  | 81 => ⟨S1024, .f32⟩
  | 82 => ⟨S1x1024, .f32⟩
  | 83 => ⟨S16384x1024, .f32⟩
  | 84 => ⟨S16384x1024, .f32⟩
  | 85 => ⟨S_, .f32⟩
  | 86 => ⟨S1024, .f32⟩
  | 87 => ⟨S16384x1024, .f32⟩
  | 88 => ⟨S_, .f32⟩
  | 89 => ⟨S16384, .f32⟩
  | 90 => ⟨S16384x1, .f32⟩
  | 91 => ⟨S16384x1024, .f32⟩
  | 92 => ⟨S16384x1024, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S16384x2816, .f32⟩
  | 105 => ⟨S16384x2816, .f32⟩
  | 106 => ⟨S16384x2816, .f32⟩
  | 107 => ⟨S16384x2816, .f32⟩
  | 108 => ⟨S16384x2816, .f32⟩
  | 109 => ⟨S16384x2816, .f32⟩
  | 110 => ⟨S16384x2816, .f32⟩
  | 111 => ⟨S16384x1024, .f32⟩
  | 112 => ⟨S16384x1024, .f32⟩
  | 113 => ⟨S16384x1024, .f32⟩
  | 114 => ⟨S16384x1024, .f32⟩
  | 115 => ⟨S_, .f32⟩
  | 116 => ⟨S1024, .f32⟩
  | 117 => ⟨S1x1024, .f32⟩
  | 118 => ⟨S16384x1024, .f32⟩
  | 119 => ⟨S16384x1024, .f32⟩
  | 120 => ⟨S_, .f32⟩
  | 121 => ⟨S1024, .f32⟩
  | 122 => ⟨S16384x1024, .f32⟩
  | 123 => ⟨S_, .f32⟩
  | 124 => ⟨S16384, .f32⟩
  | 125 => ⟨S16384x1, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .bf16⟩
  | 13 => ⟨S16384x2816, .bf16⟩
  | 14 => ⟨S16384x2816, .bf16⟩
  | 15 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩

abbrev nD : Nat := 1
abbrev τ : Topo := Topo.v7x

variable {F : FTy → Type} [FloatOps F]
-- ==== Kernel2.lean ====
abbrev S16384x2816 : Shape := ⟨2, ![16384, 2816]⟩
abbrev S16384x1024 : Shape := ⟨2, ![16384, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S16384x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S1024, .f32⟩
  | .hbm, ⟨4, _⟩ => ⟨S16384x2816, .bf16⟩
  | .hbm, ⟨5, _⟩ => ⟨S2816x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S16384x2816, .bf16⟩
  | .hbm, ⟨10, _⟩ => ⟨S16384x2816, .bf16⟩
  | .hbm, ⟨11, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .bf16⟩
  | .hbm, ⟨53, _⟩ => ⟨S16384x2816, .bf16⟩
  | .hbm, ⟨54, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩

abbrev nD : Nat := 1
abbrev τ : Topo := Topo.v7x

variable {F : FTy → Type} [FloatOps F]
-- ==== Kernel5.lean ====
abbrev S16384x4096 : Shape := ⟨2, ![16384, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x256 : Shape := ⟨3, ![128, 8, 256]⟩
abbrev S128x2048 : Shape := ⟨2, ![128, 2048]⟩
abbrev S16384x2048 : Shape := ⟨2, ![16384, 2048]⟩
abbrev S16384 : Shape := ⟨1, ![16384]⟩
abbrev S16384x1 : Shape := ⟨2, ![16384, 1]⟩
abbrev S1x2048 : Shape := ⟨2, ![1, 2048]⟩
abbrev S128x128x8x256 : Shape := ⟨4, ![128, 128, 8, 256]⟩
abbrev S8x128x256x128 : Shape := ⟨4, ![8, 128, 256, 128]⟩
abbrev S1x128x8x1 : Shape := ⟨4, ![1, 128, 8, 1]⟩
abbrev S1x1024 : Shape := ⟨2, ![1, 1024]⟩
abbrev S8x1024 : Shape := ⟨2, ![8, 1024]⟩
abbrev S8x2048 : Shape := ⟨2, ![8, 2048]⟩
abbrev S256x1024 : Shape := ⟨2, ![256, 1024]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S32x8x1024 : Shape := ⟨3, ![32, 8, 1024]⟩
abbrev S128x256 : Shape := ⟨2, ![128, 256]⟩
abbrev S32x8x2048 : Shape := ⟨3, ![32, 8, 2048]⟩

abbrev nBuf : Space → Nat
  | .hbm => 132
  | .vmem => 25
  | .smem => 0
  | _ => 0

abbrev hbmTy0_0 (i : Nat) : BufTy := match i % 128 with
  | 0 => ⟨S16384x4096, .f32⟩
  | 1 => ⟨S2048, .f32⟩
  | 2 => ⟨S2048, .f32⟩
  | 3 => ⟨S8x128x128, .f32⟩
  | 4 => ⟨S8x128, .f32⟩
  | 5 => ⟨S2048x1024, .f32⟩
  | 6 => ⟨S1024, .f32⟩
  | 7 => ⟨S16384x1024, .f32⟩
  | 8 => ⟨S_, .i1⟩
  | 9 => ⟨S128x128, .i1⟩
  | 10 => ⟨S128x128, .i32⟩
  | 11 => ⟨S_, .i32⟩
  | 12 => ⟨S128x128, .i32⟩
  | 13 => ⟨S128x128, .i32⟩
  | 14 => ⟨S128x128, .i32⟩
  | 15 => ⟨S128x128, .i1⟩
  | 16 => ⟨S_, .i1⟩
  | 17 => ⟨S128x128, .i1⟩
  | 18 => ⟨S128x128, .i1⟩
  | 19 => ⟨S1x128x128, .i1⟩
  | 20 => ⟨S_, .f32⟩
  | 21 => ⟨S_, .f32⟩
  | 22 => ⟨S8x128x128, .i1⟩
  | 23 => ⟨S8x128x128, .f32⟩
  | 24 => ⟨S8x128x128, .f32⟩
  | 25 => ⟨S8x128x128, .bf16⟩
  | 26 => ⟨S128x8, .f32⟩
  | 27 => ⟨S128x8x256, .f32⟩
  | 28 => ⟨S128x2048, .f32⟩
  | 29 => ⟨S16384x4096, .f32⟩
  | 30 => ⟨S16384x4096, .f32⟩
  | 31 => ⟨S_, .f32⟩
  | 32 => ⟨S16384x4096, .f32⟩
  | 33 => ⟨S16384x4096, .f32⟩
  | 34 => ⟨S16384x4096, .f32⟩
  | 35 => ⟨S_, .f32⟩
  | 36 => ⟨S16384x4096, .f32⟩
  | 37 => ⟨S16384x4096, .f32⟩
  | 38 => ⟨S16384x4096, .f32⟩
  | 39 => ⟨S_, .f32⟩
  | 40 => ⟨S16384x4096, .f32⟩
  | 41 => ⟨S16384x4096, .f32⟩
  | 42 => ⟨S_, .f32⟩
  | 43 => ⟨S16384x4096, .f32⟩
  | 44 => ⟨S16384x4096, .f32⟩
  | 45 => ⟨S16384x4096, .f32⟩
  | 46 => ⟨S16384x2048, .f32⟩
  | 47 => ⟨S16384x2048, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S16384x2048, .f32⟩
  | 55 => ⟨S16384x2048, .f32⟩
  | 56 => ⟨S16384x2048, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x2048, .f32⟩
  | 68 => ⟨S16384x2048, .f32⟩
  | 69 => ⟨S1x2048, .f32⟩
  | 70 => ⟨S16384x2048, .f32⟩
  | 71 => ⟨S16384x2048, .f32⟩
  | 72 => ⟨S1x2048, .f32⟩
  | 73 => ⟨S16384x2048, .f32⟩
  | 74 => ⟨S16384x2048, .f32⟩
  | 75 => ⟨S128x128x8x256, .f32⟩
  | 76 => ⟨S_, .i1⟩
  | 77 => ⟨S128x128, .i1⟩
  | 78 => ⟨S128x128, .i32⟩
  | 79 => ⟨S_, .i32⟩
  | 80 => ⟨S128x128, .i32⟩
  | 81 => ⟨S128x128, .i32⟩
  | 82 => ⟨S128x128, .i32⟩
  | 83 => ⟨S128x128, .i1⟩
  | 84 => ⟨S_, .i1⟩
  | 85 => ⟨S128x128, .i1⟩
  | 86 => ⟨S128x128, .i1⟩
  | 87 => ⟨S1x128x128, .i1⟩
  | 88 => ⟨S_, .i32⟩
  | 89 => ⟨S_, .f32⟩
  | 90 => ⟨S8x128x128, .i1⟩
  | 91 => ⟨S8x128x128, .f32⟩
  | 92 => ⟨S8x128x128, .f32⟩
  | 93 => ⟨S8x128x256x128, .f32⟩
  | 94 => ⟨S128x128x8x256, .f32⟩
  | 95 => ⟨S128x8, .f32⟩
  | 96 => ⟨S1x128x8x1, .f32⟩
  | 97 => ⟨S128x128x8x256, .f32⟩
  | 98 => ⟨S128x128x8x256, .f32⟩
  | 99 => ⟨S16384x2048, .f32⟩
  | 100 => ⟨S16384x2048, .f32⟩
  | 101 => ⟨S16384x1024, .f32⟩
  | 102 => ⟨S16384x1024, .bf16⟩
  | 103 => ⟨S1x1024, .f32⟩
  | 104 => ⟨S2048x1024, .bf16⟩
  | 105 => ⟨S16384x4096, .bf16⟩
  | 106 => ⟨S1x2048, .f32⟩
  | 107 => ⟨S1x2048, .f32⟩
  | 108 => ⟨S8x128x128, .bf16⟩
  | 109 => ⟨S16384x1024, .bf16⟩
  | 110 => ⟨S8x1024, .f32⟩
  | 111 => ⟨S16384x4096, .bf16⟩
  | 112 => ⟨S8x128x128, .f32⟩
  | 113 => ⟨S128x2048, .f32⟩
  | 114 => ⟨S8x2048, .f32⟩
  | 115 => ⟨S8x2048, .f32⟩
  | 116 => ⟨S1x128x128, .i1⟩
  | 117 => ⟨S_, .f32⟩
  | 118 => ⟨S_, .f32⟩
  | 119 => ⟨S8x128x128, .i1⟩
  | 120 => ⟨S8x128x128, .f32⟩
  | 121 => ⟨S8x128x128, .f32⟩
  | 122 => ⟨S128x8x256, .f32⟩
  | 123 => ⟨S_, .f32⟩
  | 124 => ⟨S128x8, .f32⟩
  | 125 => ⟨S8x128, .f32⟩
  | 126 => ⟨S_, .f32⟩
  | 127 => ⟨S1024, .f32⟩
  | _ => ⟨S16384x4096, .f32⟩

abbrev hbmTy0_1 (i : Nat) : BufTy := match i % 128 with
  | 0 => ⟨S_, .f32⟩
  | 1 => ⟨S2048, .f32⟩
  | 2 => ⟨S_, .f32⟩
  | 3 => ⟨S2048, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S2048x1024, .bf16⟩
  | .local _ .vmem, ⟨6, _⟩ => ⟨S256x4096, .bf16⟩
  | .local _ .vmem, ⟨7, _⟩ => ⟨S256x4096, .bf16⟩
  | .local _ .vmem, ⟨8, _⟩ => ⟨S1x2048, .f32⟩
  | .local _ .vmem, ⟨9, _⟩ => ⟨S1x2048, .f32⟩
  | .local _ .vmem, ⟨10, _⟩ => ⟨S8x128x128, .bf16⟩
  | .local _ .vmem, ⟨11, _⟩ => ⟨S8x128x128, .bf16⟩
  | .local _ .vmem, ⟨12, _⟩ => ⟨S128x2048, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | .local _ .vmem, ⟨16, _⟩ => ⟨S256x4096, .bf16⟩
  | .local _ .vmem, ⟨17, _⟩ => ⟨S256x4096, .bf16⟩
  | .local _ .vmem, ⟨18, _⟩ => ⟨S8x128x128, .f32⟩
  | .local _ .vmem, ⟨19, _⟩ => ⟨S128x2048, .f32⟩
  | .local _ .vmem, ⟨20, _⟩ => ⟨S8x2048, .f32⟩
  | .local _ .vmem, ⟨21, _⟩ => ⟨S8x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_0 : Ref sig .tc := ⟨.hbm, 84, rfl⟩
abbrev main_call2_v5 : Ref sig .tc := ⟨.hbm, 85, rfl⟩
abbrev main_v47 : Ref sig .tc := ⟨.hbm, 86, rfl⟩
abbrev main_v48 : Ref sig .tc := ⟨.hbm, 87, rfl⟩
abbrev main_c_10 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66_0 : Ref sig .tc := ⟨.hbm, 109, rfl⟩
abbrev main_v66_1 : Ref sig .tc := ⟨.hbm, 110, rfl⟩
abbrev main_v66_2 : Ref sig .tc := ⟨.hbm, 111, rfl⟩
abbrev main_v66_3 : Ref sig .tc := ⟨.hbm, 112, rfl⟩
abbrev main_v66_4 : Ref sig .tc := ⟨.hbm, 113, rfl⟩
abbrev main_v66_5 : Ref sig .tc := ⟨.hbm, 114, rfl⟩
abbrev main_v66_6 : Ref sig .tc := ⟨.hbm, 115, rfl⟩
abbrev main_v67 : Ref sig .tc := ⟨.hbm, 116, rfl⟩
abbrev main_cst_11 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v68 : Ref sig .tc := ⟨.hbm, 121, rfl⟩
abbrev main_v69 : Ref sig .tc := ⟨.hbm, 122, rfl⟩
abbrev main_cst_12 : Ref sig .tc := ⟨.hbm, 123, rfl⟩
abbrev main_v70 : Ref sig .tc := ⟨.hbm, 124, rfl⟩
abbrev main_v71 : Ref sig .tc := ⟨.hbm, 125, rfl⟩
abbrev main_cst_13 : Ref sig .tc := ⟨.hbm, 126, rfl⟩
abbrev main_v72 : Ref sig .tc := ⟨.hbm, 127, rfl⟩
abbrev main_cst_14 : Ref sig .tc := ⟨.hbm, 128, rfl⟩
abbrev main_v73 : Ref sig .tc := ⟨.hbm, 129, rfl⟩
abbrev main_cst_15 : Ref sig .tc := ⟨.hbm, 130, rfl⟩
abbrev main_v74 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel5Ideal.lean ====
variable {F : FTy → Type} [FloatOps F] [Named F]
def κ : String → Option EReal := fun
  | "gelu_c01" => some ((80338380498831 / 2251799813685248 : ℝ) : EReal)
  | "gelu_c01_3" => some ((241015141496493 / 4503599627370496 : ℝ) : EReal)
  | _ => none
-- ==== Reference5Ideal.lean ====
abbrev S16384x4096 : Shape := ⟨2, ![16384, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩
abbrev S16384x2048 : Shape := ⟨2, ![16384, 2048]⟩
abbrev S16384 : Shape := ⟨1, ![16384]⟩
abbrev S16384x1 : Shape := ⟨2, ![16384, 1]⟩
abbrev S1x2048 : Shape := ⟨2, ![1, 2048]⟩
abbrev S128x128x8x256 : Shape := ⟨4, ![128, 128, 8, 256]⟩
abbrev S128x128 : Shape := ⟨2, ![128, 128]⟩
abbrev S1x128x128 : Shape := ⟨3, ![1, 128, 128]⟩
abbrev S8x128x256x128 : Shape := ⟨4, ![8, 128, 256, 128]⟩
abbrev S128x8 : Shape := ⟨2, ![128, 8]⟩
abbrev S1x128x8x1 : Shape := ⟨4, ![1, 128, 8, 1]⟩
abbrev S1x1024 : Shape := ⟨2, ![1, 1024]⟩

abbrev nBuf : Space → Nat
  | .hbm => 223
  | .vmem => 0
  | .smem => 0
  | _ => 0

abbrev hbmTy0_0 (i : Nat) : BufTy := match i % 128 with
  | 0 => ⟨S16384x4096, .f32⟩
  | 1 => ⟨S2048, .f32⟩
  | 2 => ⟨S2048, .f32⟩
  | 3 => ⟨S8x128x128, .f32⟩
  | 4 => ⟨S8x128, .f32⟩
  | 5 => ⟨S2048x1024, .f32⟩
  | 6 => ⟨S1024, .f32⟩
  | 7 => ⟨S16384x1024, .f32⟩
  | 8 => ⟨S_, .f32⟩
  | 9 => ⟨S16384x1024, .f32⟩
  | 10 => ⟨S16384x4096, .f32⟩
  | 11 => ⟨S16384x4096, .f32⟩
  | 12 => ⟨S16384x4096, .f32⟩
  | 13 => ⟨S_, .f32⟩
  | 14 => ⟨S16384x4096, .f32⟩
  | 15 => ⟨S16384x4096, .f32⟩
  | 16 => ⟨S_, .f32⟩
  | 17 => ⟨S16384x4096, .f32⟩
  | 18 => ⟨S16384x4096, .f32⟩
  | 19 => ⟨S16384x4096, .f32⟩
  | 20 => ⟨S_, .f32⟩
  | 21 => ⟨S16384x4096, .f32⟩
  | 22 => ⟨S16384x4096, .f32⟩
  | 23 => ⟨S16384x4096, .f32⟩
  | 24 => ⟨S_, .f32⟩
  | 25 => ⟨S16384x4096, .f32⟩
  | 26 => ⟨S16384x4096, .f32⟩
  | 27 => ⟨S_, .f32⟩
  | 28 => ⟨S16384x4096, .f32⟩
  | 29 => ⟨S16384x4096, .f32⟩
  | 30 => ⟨S16384x4096, .f32⟩
  | 31 => ⟨S_, .f32⟩
  | 32 => ⟨S16384x4096, .f32⟩
  | 33 => ⟨S16384x4096, .f32⟩
  | 34 => ⟨S_, .f32⟩
  | 35 => ⟨S16384x4096, .f32⟩
  | 36 => ⟨S16384x4096, .f32⟩
  | 37 => ⟨S16384x4096, .f32⟩
  | 38 => ⟨S16384x2048, .f32⟩
  | 39 => ⟨S16384x2048, .f32⟩
  | 40 => ⟨S_, .f32⟩
  | 41 => ⟨S16384, .f32⟩
  | 42 => ⟨S16384x1, .f32⟩
  | 43 => ⟨S_, .f32⟩
  | 44 => ⟨S16384x1, .f32⟩
  | 45 => ⟨S16384x1, .f32⟩
  | 46 => ⟨S16384x2048, .f32⟩
  | 47 => ⟨S16384x2048, .f32⟩
  | 48 => ⟨S16384x2048, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x2048, .f32⟩
  | 64 => ⟨S16384x2048, .f32⟩
  | 65 => ⟨S1x2048, .f32⟩
  | 66 => ⟨S16384x2048, .f32⟩
  | 67 => ⟨S16384x2048, .f32⟩
  | 68 => ⟨S1x2048, .f32⟩
  | 69 => ⟨S16384x2048, .f32⟩
  | 70 => ⟨S16384x2048, .f32⟩
  | 71 => ⟨S128x128x8x256, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S_, .i32⟩
  | 85 => ⟨S_, .f32⟩
  | 86 => ⟨S8x128x128, .i1⟩
  | 87 => ⟨S8x128x128, .f32⟩
  | 88 => ⟨S8x128x128, .f32⟩
  | 89 => ⟨S_, .f32⟩
  | 90 => ⟨S8x128x128, .f32⟩
  | 91 => ⟨S8x128x256x128, .f32⟩
  | 92 => ⟨S128x128x8x256, .f32⟩
  | 93 => ⟨S128x8, .f32⟩
  | 94 => ⟨S1x128x8x1, .f32⟩
  | 95 => ⟨S128x128x8x256, .f32⟩
  | 96 => ⟨S128x128x8x256, .f32⟩
  | 97 => ⟨S16384x2048, .f32⟩
  | 98 => ⟨S16384x2048, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384x1, .f32⟩
  | 110 => ⟨S16384x1, .f32⟩
  | 111 => ⟨S16384x1, .f32⟩
  | 112 => ⟨S16384x1, .f32⟩
  | 113 => ⟨S_, .f32⟩
  | 114 => ⟨S16384x1, .f32⟩
  | 115 => ⟨S16384x1, .f32⟩
  | 116 => ⟨S16384x1024, .f32⟩
  | 117 => ⟨S16384x1024, .f32⟩
  | 118 => ⟨S1x1024, .f32⟩
  | 119 => ⟨S16384x1024, .f32⟩
  | 120 => ⟨S16384x1024, .f32⟩
  | 121 => ⟨S16384x1024, .f32⟩
  | 122 => ⟨S_, .f32⟩
  | 123 => ⟨S1024, .f32⟩
  | 124 => ⟨S1x1024, .f32⟩
  | 125 => ⟨S16384x1024, .f32⟩
  | 126 => ⟨S16384x1024, .f32⟩
  | 127 => ⟨S_, .f32⟩
  | _ => ⟨S16384x4096, .f32⟩

abbrev hbmTy0_1 (i : Nat) : BufTy := match i % 128 with
  | 0 => ⟨S1024, .f32⟩
  | 1 => ⟨S16384x1024, .f32⟩
  | 2 => ⟨S_, .f32⟩
  | 3 => ⟨S16384, .f32⟩
  | 4 => ⟨S16384x1, .f32⟩
  | 5 => ⟨S16384x1024, .f32⟩
  | 6 => ⟨S16384x1024, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x2048, .f32⟩
  | 19 => ⟨S16384x2048, .f32⟩
  | 20 => ⟨S16384x2048, .f32⟩
  | 21 => ⟨S128x128x8x256, .f32⟩
  | 22 => ⟨S_, .f32⟩
  | 23 => ⟨S128x8, .f32⟩
  | 24 => ⟨S1x128x8x1, .f32⟩
  | 25 => ⟨S_, .f32⟩
  | 26 => ⟨S128x8, .f32⟩
  | 27 => ⟨S8x128, .f32⟩
  | 28 => ⟨S8x128x256x128, .f32⟩
  | 29 => ⟨S8x128x128, .f32⟩
  | 30 => ⟨S8x128x256x128, .f32⟩
  | 31 => ⟨S128x128x8x256, .f32⟩
  | 32 => ⟨S_, .f32⟩
  | 33 => ⟨S8x128x128, .f32⟩
  | 34 => ⟨S8x128x128, .f32⟩
  | 35 => ⟨S16384x2048, .f32⟩
  | 36 => ⟨S_, .f32⟩
  | 37 => ⟨S2048, .f32⟩
  | 38 => ⟨S1x2048, .f32⟩
  | 39 => ⟨S_, .f32⟩
  | 40 => ⟨S2048, .f32⟩
  | 41 => ⟨S16384x2048, .f32⟩
  | 42 => ⟨S_, .f32⟩
  | 43 => ⟨S2048, .f32⟩
  | 44 => ⟨S1x2048, .f32⟩
  | 45 => ⟨S16384x2048, .f32⟩
  | 46 => ⟨S16384x2048, .f32⟩
  | 47 => ⟨S_, .f32⟩
  | 48 => ⟨S2048, .f32⟩
  | 49 => ⟨S16384x2048, .f32⟩
  | 50 => ⟨S_, .f32⟩
  | 51 => ⟨S16384, .f32⟩
  | 52 => ⟨S16384x1, .f32⟩
  | 53 => ⟨S16384x2048, .f32⟩
  | 54 => ⟨S16384x2048, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384, .f32⟩
  | 61 => ⟨S16384x2048, .f32⟩
  | 62 => ⟨S16384x2048, .f32⟩
  | 63 => ⟨S16384x2048, .f32⟩
  | 64 => ⟨S16384x2048, .f32⟩
  | 65 => ⟨S16384x2048, .f32⟩
  | 66 => ⟨S16384x2048, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S_, .f32⟩
  | 74 => ⟨S16384, .f32⟩
  | 75 => ⟨S16384x2048, .f32⟩
  | 76 => ⟨S16384x2048, .f32⟩
  | 77 => ⟨S16384x4096, .f32⟩
  | 78 => ⟨S16384x4096, .f32⟩
  | 79 => ⟨S16384x4096, .f32⟩
  | 80 => ⟨S_, .f32⟩
  | 81 => ⟨S16384x4096, .f32⟩
  | 82 => ⟨S16384x4096, .f32⟩
  | 83 => ⟨S16384x4096, .f32⟩
  | 84 => ⟨S_, .f32⟩
  | 85 => ⟨S16384x4096, .f32⟩
  | 86 => ⟨S16384x4096, .f32⟩
  | 87 => ⟨S16384x4096, .f32⟩
  | 88 => ⟨S_, .f32⟩
  | 89 => ⟨S16384x4096, .f32⟩
  | 90 => ⟨S16384x4096, .f32⟩
  | 91 => ⟨S16384x4096, .f32⟩
  | 92 => ⟨S16384x4096, .f32⟩
  | 93 => ⟨S16384x1024, .bf16⟩
  | 94 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c : Ref sig .tc := ⟨.hbm, 72, rfl⟩
abbrev main_v50 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v51 : Ref sig .tc := ⟨.hbm, 82, rfl⟩
abbrev main_v52 : Ref sig .tc := ⟨.hbm, 83, rfl⟩
abbrev main_c_13 : Ref sig .tc := ⟨.hbm, 84, rfl⟩
abbrev main_call1_v0 : Ref sig .tc := ⟨.hbm, 85, rfl⟩
abbrev main_v53_1 : Ref sig .tc := ⟨.hbm, 86, rfl⟩
abbrev main_call1_v2 : Ref sig .tc := ⟨.hbm, 87, rfl⟩
abbrev main_v53_0 : Ref sig .tc := ⟨.hbm, 88, rfl⟩
abbrev main_call1_cst : Ref sig .tc := ⟨.hbm, 89, rfl⟩
abbrev main_v53_2 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_cst_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_cst_24 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_call2_cst : Ref sig .tc := ⟨.hbm, 160, rfl⟩
abbrev main_call2_v0 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_cst_26 : Ref sig .tc := ⟨.hbm, 167, rfl⟩
abbrev main_v116 : Ref sig .tc := ⟨.hbm, 168, rfl⟩
abbrev main_v117 : Ref sig .tc := ⟨.hbm, 169, rfl⟩
abbrev main_cst_27 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_28 : Ref sig .tc := ⟨.hbm, 175, rfl⟩
abbrev main_v122 : Ref sig .tc := ⟨.hbm, 176, rfl⟩
abbrev main_v123 : Ref sig .tc := ⟨.hbm, 177, rfl⟩
abbrev main_cst_29 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_cst_31 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_32 : Ref sig .tc := ⟨.hbm, 195, rfl⟩
abbrev main_v138 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_cst_34 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_35 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_36 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_37 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S1x1024 : Shape := ⟨2, ![1, 1024]⟩
abbrev S4096x1024 : Shape := ⟨2, ![4096, 1024]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S1x1024, .f32⟩
  | .hbm, ⟨6, _⟩ => ⟨S16384x4096, .bf16⟩
  | .hbm, ⟨7, _⟩ => ⟨S4096x1024, .f32⟩
  | .hbm, ⟨8, _⟩ => ⟨S4096x1024, .bf16⟩
  | .hbm, ⟨9, _⟩ => ⟨S16384x1024, .f32⟩
  | .hbm, ⟨10, _⟩ => ⟨S16384x1024, .bf16⟩
  | .hbm, ⟨11, _⟩ => ⟨S8x1024, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.Ffn.Real.lean ====
/- The feed-forward sub-layer's gradient over the real numbers, and the rules by which the ideal operations compute on
   extended reals that are real numbers. -/
module

public import Idealize.ShloMosaic.PureOps.Ideal.Laws
public import Idealize.ShloMosaic.Lib.ValueIdx

@[expose] public section

noncomputable section

open Idealize.ShloMosaic

namespace Ffn

/-! ### Ideal operations at real numbers -/

theorem div_coe (a : ℝ) {b : ℝ} (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

theorem rsqrt_coe {a : ℝ} (ha : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.mpr ha.le), if_neg ha.ne']

theorem exp_coe (a : ℝ) : Ideal.exp (a : EReal) = ((Real.exp a : ℝ) : EReal) := rfl

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem zero_add_coe (a : ℝ) : (0 : EReal) + (a : EReal) = (a : EReal) := zero_add _
theorem add_zero_coe (a : ℝ) : (a : EReal) + (0 : EReal) = (a : EReal) := add_zero _

/-- The number a mean square has added before its root is taken: the format's nearest to one millionth. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]; norm_num
theorem ofBits_1024 : Ideal.ofBits .f32 0x44800000#32 = ((1024 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num

/-! ### One row's normalisation and its gradient -/

/-- A row's mean square, `eps` added. -/
def ms (v : Fin 1024 → ℝ) : ℝ := (∑ k, v k * v k) / 1024 + eps

/-- The factor that normalises a row. -/
def rstd (v : Fin 1024 → ℝ) : ℝ := (√(ms v))⁻¹

/-- The gradient of a row's normalisation at the row `v`, of the cotangent `w`. -/
def rmsGrad (v w : Fin 1024 → ℝ) (d : Fin 1024) : ℝ :=
  rstd v * (w d - v d * rstd v * ((∑ e, w e * (v e * rstd v)) / 1024))

theorem ms_pos (v : Fin 1024 → ℝ) : 0 < ms v := by
  have : 0 ≤ ∑ k, v k * v k := Finset.sum_nonneg fun k _ => mul_self_nonneg _
  have := eps_pos
  unfold ms; positivity

theorem rstd_div_ms (v : Fin 1024 → ℝ) : rstd v / ms v = rstd v * rstd v * rstd v := by
  have h : rstd v * rstd v = (ms v)⁻¹ := by
    rw [rstd, ← mul_inv, Real.mul_self_sqrt (ms_pos v).le]
  rw [div_eq_mul_inv, ← h]; ring

/-- The same gradient as reverse differentiation writes it: the cotangent scaled, and the row times the inverse root's own
    derivative, twice (the square's two factors). -/
theorem rmsGrad_eq (v w : Fin 1024 → ℝ) (d : Fin 1024) :
    w d * rstd v + v d * ((∑ e, v e * w e) * (-(1 / 2) * (rstd v / ms v)) / 1024)
      + (∑ e, v e * w e) * (-(1 / 2) * (rstd v / ms v)) / 1024 * v d = rmsGrad v w d := by
  have h : ∑ e, w e * (v e * rstd v) = (∑ e, v e * w e) * rstd v := by
    rw [Finset.sum_mul]; exact Finset.sum_congr rfl fun e _ => by ring
  rw [rstd_div_ms, rmsGrad, h]; ring

def sigm (y : ℝ) : ℝ := 1 / (1 + Real.exp (-y))

theorem one_add_exp_ne (y : ℝ) : (1 : ℝ) + Real.exp y ≠ 0 := by positivity

/-! ### The sub-layer -/

/-- The sub-layer's arguments: the tokens, the two normalisations' gains, the three weights, and the result's cotangent. -/
structure Args where
  x : Fin 16384 → Fin 1024 → ℝ
  gpre : Fin 1024 → ℝ
  gpost : Fin 1024 → ℝ
  wg : Fin 1024 → Fin 2816 → ℝ
  wu : Fin 1024 → Fin 2816 → ℝ
  wd : Fin 2816 → Fin 1024 → ℝ
  ct : Fin 16384 → Fin 1024 → ℝ

namespace Args
variable (A : Args)

def hn (p : Fin 16384) (d : Fin 1024) : ℝ := A.x p d * rstd (A.x p) * A.gpre d
def gate (p : Fin 16384) (f : Fin 2816) : ℝ := ∑ d, A.hn p d * A.wg d f
def up (p : Fin 16384) (f : Fin 2816) : ℝ := ∑ d, A.hn p d * A.wu d f
def silu (p : Fin 16384) (f : Fin 2816) : ℝ := A.gate p f * sigm (A.gate p f)
def act (p : Fin 16384) (f : Fin 2816) : ℝ := A.silu p f * A.up p f
def o (p : Fin 16384) (d : Fin 1024) : ℝ := ∑ f, A.act p f * A.wd f d
/-- What the forward pass saves of the gate: the derivative of the gated product by the gate's argument. -/
def dact (p : Fin 16384) (f : Fin 2816) : ℝ :=
  A.up p f * (sigm (A.gate p f) + A.silu p f - A.silu p f * sigm (A.gate p f))
/-- The cotangent of the normalised product. -/
def dmh (p : Fin 16384) (d : Fin 1024) : ℝ := 1 / 2 * A.ct p d * A.gpost d
/-- The product's cotangent. -/
def dm (p : Fin 16384) (d : Fin 1024) : ℝ := rmsGrad (A.o p) (A.dmh p) d
def da (p : Fin 16384) (f : Fin 2816) : ℝ := ∑ d, A.dm p d * A.wd f d
def dup (p : Fin 16384) (f : Fin 2816) : ℝ := A.da p f * A.silu p f
def dgate (p : Fin 16384) (f : Fin 2816) : ℝ := A.da p f * A.dact p f
def dh (p : Fin 16384) (d : Fin 1024) : ℝ := ∑ f, A.dgate p f * A.wg d f + ∑ f, A.dup p f * A.wu d f
def dx (p : Fin 16384) (d : Fin 1024) : ℝ := A.ct p d + rmsGrad (A.x p) (fun e => A.dh p e * A.gpre e) d
/-- A token's part of the second gain's gradient, and of the first's. -/
def dgpostAt (p : Fin 16384) (d : Fin 1024) : ℝ := 1 / 2 * A.ct p d * (A.o p d * rstd (A.o p))
def dgpreAt (p : Fin 16384) (d : Fin 1024) : ℝ := A.dh p d * (A.x p d * rstd (A.x p))
def dgpost (d : Fin 1024) : ℝ := ∑ p, A.dgpostAt p d
def dgpre (d : Fin 1024) : ℝ := ∑ p, A.dgpreAt p d

end Args

end Ffn

end
-- ==== Proof.Ffn.Ops.lean ====
/- The kernel's vector operations on two-axis vectors of real numbers, each as the real operation on the entries. -/
module

public import proofs.«01_k».proof.Proof.Ffn.Real
public import Idealize.ShloMosaic.Lib.Pipeline.Value

@[expose] public section

noncomputable section

open Idealize.ShloMosaic

namespace Ffn

/-- The two-axis vector whose entries are the real numbers `r`. -/
def E2 {a b : ℕ} (r : Fin a → Fin b → ℝ) : (⟨2, ![a, b]⟩ : Shape).Idx → EReal := fun i => ((r (i 0) (i 1) : ℝ) : EReal)

/-- The one-axis vector whose entries are the real numbers `r`. -/
def E1 {a : ℕ} (r : Fin a → ℝ) : (⟨1, ![a]⟩ : Shape).Idx → EReal := fun i => ((r (i 0) : ℝ) : EReal)

variable {a b : ℕ} {φ : FTy}

theorem E2_mulf (r s : Fin a → Fin b → ℝ) :
    mulf (F := Ideal) (φ := φ) (E2 r) (E2 s) = E2 fun p d => r p d * s p d := by
  funext i; exact (EReal.coe_mul _ _).symm

theorem E2_addf (r s : Fin a → Fin b → ℝ) :
    addf (F := Ideal) (φ := φ) (E2 r) (E2 s) = E2 fun p d => r p d + s p d := by
  funext i; exact (EReal.coe_add _ _).symm

theorem E2_subf (r s : Fin a → Fin b → ℝ) :
    subf (F := Ideal) (φ := φ) (E2 r) (E2 s) = E2 fun p d => r p d - s p d := by
  funext i; exact (EReal.coe_sub _ _).symm

theorem E2_divf (r s : Fin a → Fin b → ℝ) (h : ∀ p d, s p d ≠ 0) :
    divf (F := Ideal) (φ := φ) (E2 r) (E2 s) = E2 fun p d => r p d / s p d := by
  funext i; exact div_coe _ (h _ _)

theorem E2_rsqrt (r : Fin a → Fin b → ℝ) (h : ∀ p d, 0 < r p d) :
    rsqrt (F := Ideal) (φ := φ) (E2 r) = E2 fun p d => (√(r p d))⁻¹ := by
  funext i; exact rsqrt_coe (h _ _)

theorem E2_extf {ψ : FTy} (r : Fin a → Fin b → ℝ) (h : φ.bits < ψ.bits) : (extf (F := Ideal) ψ (φ := φ) (E2 r) h) = E2 r := rfl

theorem E2_truncf {ψ : FTy} (r : Fin a → Fin b → ℝ) (h : ψ.bits < φ.bits) : (truncf (F := Ideal) ψ (φ := φ) (E2 r) h) = E2 r := rfl

/-- A splat of a format's word that is the real number `r`. -/
theorem E2_broadcast {w : BitVec φ.bits} {r : ℝ} (h : Ideal.ofBits φ w = ((r : ℝ) : EReal)) :
    (broadcast (⟨2, ![a, b]⟩ : Shape) (Scalar.ofBits (F := Ideal) φ w)) = E2 (a := a) (b := b) fun _ _ => r := by
  funext i; exact h

/-- A column broadcast along the rows. -/
theorem E2_broadcastTo_col (r : Fin a → Fin 1 → ℝ) (hb : b ≠ 1)
    (h : (⟨2, ![a, 1]⟩ : Shape).Broadcasts ⟨2, ![a, b]⟩) : broadcastTo ⟨2, ![a, b]⟩ (E2 r) h = E2 fun p _ => r p 0 := by
  funext i
  have h0 : (i 0).val < a := (i 0).isLt
  refine (broadcastTo_apply (E2 r) h i (ValueIdx.ix2 (i 0) 0) fun x => ?_).trans rfl
  match x with
  | ⟨0, _⟩ =>
    show (i 0).val = if a = 1 then 0 else (i 0).val
    split <;> omega
  | ⟨1, _⟩ => rfl

/-- A row broadcast along the columns. -/
theorem E2_broadcastTo_row (r : Fin 1 → Fin b → ℝ) (ha : b ≠ 1)
    (h : (⟨2, ![1, b]⟩ : Shape).Broadcasts ⟨2, ![a, b]⟩) : broadcastTo ⟨2, ![a, b]⟩ (E2 r) h = E2 fun _ d => r 0 d := by
  funext i
  refine (broadcastTo_apply (E2 r) h i (ValueIdx.ix2 0 (i 1)) fun x => ?_).trans rfl
  match x with
  | ⟨0, _⟩ => rfl
  | ⟨1, _⟩ =>
    show (i 1).val = if b = 1 then 0 else (i 1).val
    rw [if_neg ha]

/-- Each row's sum. -/
theorem E2_rowSum (r : Fin a → Fin b → ℝ) (h : (⟨2, ![a, b]⟩ : Shape).Reduces [1] ⟨1, ![a]⟩) (hφ : FKind.Formats φ)
    (w : BitVec φ.bits) (hw : w = FKind.add.neutral φ hφ) :
    multiReduction (F := Ideal) .add [1] ⟨1, ![a]⟩ (E2 r) w h hφ hw = E1 fun p => ∑ k, r p k := by
  funext j
  rw [Ideal.multiReduction_add_single]
  refine Eq.trans (Finset.sum_congr rfl fun k _ => ?_) (sum_coe Finset.univ fun k : Fin b => r (j 0) k)
  rfl

/-- A one-axis vector as a column. -/
theorem E1_col (r : Fin a → ℝ) (h : (⟨1, ![a]⟩ : Shape).ShapeCasts ⟨2, ![a, 1]⟩) :
    shapeCast ⟨2, ![a, 1]⟩ (E1 r) h = E2 fun p _ => r p := by
  funext i
  have h1 : (i 1).val < 1 := (i 1).isLt
  refine (shapeCast_apply (E1 r) h i (ValueIdx.ix1 (i 0)) ?_).trans rfl
  rw [Shape.rowMajor_val_one, Shape.rowMajor_val_two]
  show (i 0).val = (i 0).val * 1 + (i 1).val
  omega

theorem group_lt {n : ℕ} (hn : n * b = a) (k : Fin n) (s : Fin b) : k.val * b + s.val < a :=
  calc k.val * b + s.val < (k.val + 1) * b := by rw [Nat.succ_mul]; exact Nat.add_lt_add_left s.isLt _
    _ ≤ n * b := Nat.mul_le_mul_right _ k.isLt
    _ = a := hn

/-- The sum over groups of `b` consecutive rows, row by row within the group. -/
theorem E2_groupSum {n : ℕ} (hn : n * b = a) {d : ℕ} (r : Fin a → Fin d → ℝ)
    (hc : (⟨2, ![a, d]⟩ : Shape).ShapeCasts ⟨3, ![n, b, d]⟩) (h : (⟨3, ![n, b, d]⟩ : Shape).Reduces [0] ⟨2, ![b, d]⟩)
    (hφ : FKind.Formats φ) (w : BitVec φ.bits) (hw : w = FKind.add.neutral φ hφ) :
    multiReduction (F := Ideal) .add [0] ⟨2, ![b, d]⟩ (shapeCast ⟨3, ![n, b, d]⟩ (E2 r) hc) w h hφ hw
      = E2 fun (s : Fin b) e => ∑ k : Fin n, r ⟨k.val * b + s.val, group_lt hn k s⟩ e := by
  funext j
  rw [Ideal.multiReduction_add_single]
  refine Eq.trans (Finset.sum_congr rfl fun k _ => ?_) (sum_coe Finset.univ _)
  refine (shapeCast_apply (E2 r) hc _ (ValueIdx.ix2 ⟨k.val * b + (j 0).val, group_lt hn k (j 0)⟩ (j 1)) ?_).trans rfl
  rw [Shape.rowMajor_val_two, Shape.rowMajor_val_three]
  rfl

/-- A product of two vectors with one contracted axis, accumulated into zero. -/
theorem matmul_coe {sl sr so : Shape} {φ₁ φ₂ : FTy} (D : DotDims sl sr so) (n : ℕ) (hr : D.contr.rank = 1)
    (hs : D.contr.size ⟨0, by omega⟩ = n) (prec : Option ContractPrecision) (L : sl.Idx → ℝ) (R : sr.Idx → ℝ) (j : so.Idx)
    (l : Fin n → sl.Idx) (r : Fin n → sr.Idx)
    (hl : ∀ q x, (D.lhsIdx j q x).val = (l (ValueIdx.contrEquiv1 D n hr hs q) x).val)
    (hr' : ∀ q x, (D.rhsIdx j q x).val = (r (ValueIdx.contrEquiv1 D n hr hs q) x).val) :
    matmul (F := Ideal) (φ₁ := φ₁) (φ₂ := φ₂) D prec (fun i => ((L i : ℝ) : EReal)) (fun i => ((R i : ℝ) : EReal)) (constant so .f32 0x00000000#32) j
      = ((∑ k, L (l k) * R (r k) : ℝ) : EReal) := by
  simp only [matmul]
  rw [Ideal.matmul_constant_zero_apply, ← sum_coe, ← Equiv.sum_comp (ValueIdx.contrEquiv1 D n hr hs)]
  refine Finset.sum_congr rfl fun q _ => ?_
  rw [EReal.coe_mul]
  have el : D.lhsIdx j q = l (ValueIdx.contrEquiv1 D n hr hs q) := funext fun x => Fin.ext (hl q x)
  have er : D.rhsIdx j q = r (ValueIdx.contrEquiv1 D n hr hs q) := funext fun x => Fin.ext (hr' q x)
  rw [el, er]

end Ffn

end
-- ==== Proof.Ffn.HostOps.lean ====
/- The host's operations on vectors of real numbers, each as the real operation on the entries. -/
module

public import proofs.«01_k».proof.Proof.Ffn.Ops
public import Idealize.ShloMosaic.Lib.StackMember

@[expose] public section

noncomputable section

open Idealize.ShloMosaic

namespace Ffn

variable {a b : ℕ} {φ : FTy}

theorem E2_hostDivf (r s : Fin a → Fin b → ℝ) (h : ∀ p d, s p d ≠ 0) :
    Host.divf (F := Ideal) (φ := φ) (E2 r) (E2 s) = E2 fun p d => r p d / s p d := by
  funext i; exact div_coe _ (h _ _)

theorem E2_hostRsqrt (r : Fin a → Fin b → ℝ) (h : ∀ p d, 0 < r p d) :
    Host.rsqrt (F := Ideal) (φ := φ) (E2 r) = E2 fun p d => (√(r p d))⁻¹ := by
  funext i; exact rsqrt_coe (h _ _)

theorem E2_hostExp (r : Fin a → Fin b → ℝ) : Host.exp (F := Ideal) (φ := φ) (E2 r) = E2 fun p d => Real.exp (r p d) := rfl

theorem E2_hostNegf (r : Fin a → Fin b → ℝ) : Host.negf (F := Ideal) (φ := φ) (E2 r) = E2 fun p d => -r p d := by
  funext i; exact (EReal.coe_neg _).symm

/-- A constant filled into a vector. -/
theorem E2_fill {w : BitVec 32} {r : ℝ} (hw : Ideal.ofBits .f32 w = ((r : ℝ) : EReal)) (h : (⟨0, ![]⟩ : Shape).BroadcastsInDim ⟨2, ![a, b]⟩ ![]) :
    broadcastInDim (⟨2, ![a, b]⟩ : Shape) ![] h (constant (F := Ideal) ⟨0, ![]⟩ .f32 w) = E2 (a := a) (b := b) fun _ _ => r := by
  funext i; exact hw

/-- A one-axis vector set as a column. -/
theorem E1_inCol (r : Fin a → ℝ) (h : (⟨1, ![a]⟩ : Shape).BroadcastsInDim ⟨2, ![a, 1]⟩ ![0]) :
    broadcastInDim (⟨2, ![a, 1]⟩ : Shape) ![0] h (E1 r) = E2 fun p _ => r p := by
  funext i
  have h0 : (i 0).val < a := (i 0).isLt
  refine (broadcastInDim_apply _ h (E1 r) i (ValueIdx.ix1 (i 0)) fun x => ?_).trans rfl
  match x with
  | ⟨0, _⟩ =>
    show (i 0).val = if a = 1 then 0 else (i 0).val
    split <;> omega

/-- A column repeated along the rows. -/
theorem E2_inCols (r : Fin a → Fin 1 → ℝ) (h : (⟨2, ![a, 1]⟩ : Shape).BroadcastsInDim ⟨2, ![a, b]⟩ ![0, 1]) :
    broadcastInDim (⟨2, ![a, b]⟩ : Shape) ![0, 1] h (E2 r) = E2 fun p _ => r p 0 := by
  funext i
  have h0 : (i 0).val < a := (i 0).isLt
  refine (broadcastInDim_apply _ h (E2 r) i (ValueIdx.ix2 (i 0) 0) fun x => ?_).trans rfl
  match x with
  | ⟨0, _⟩ =>
    show (i 0).val = if a = 1 then 0 else (i 0).val
    split <;> omega
  | ⟨1, _⟩ => rfl

/-- A row repeated along the columns. -/
theorem E2_inRows (r : Fin 1 → Fin b → ℝ) (h : (⟨2, ![1, b]⟩ : Shape).BroadcastsInDim ⟨2, ![a, b]⟩ ![0, 1]) :
    broadcastInDim (⟨2, ![a, b]⟩ : Shape) ![0, 1] h (E2 r) = E2 fun _ d => r 0 d := by
  funext i
  have h1 : (i 1).val < b := (i 1).isLt
  refine (broadcastInDim_apply _ h (E2 r) i (ValueIdx.ix2 0 (i 1)) fun x => ?_).trans rfl
  match x with
  | ⟨0, _⟩ => rfl
  | ⟨1, _⟩ =>
    show (i 1).val = if b = 1 then 0 else (i 1).val
    split <;> omega

/-- A one-axis vector as a row. -/
theorem E1_row (r : Fin b → ℝ) (h : (⟨1, ![b]⟩ : Shape).ShapeCasts ⟨2, ![1, b]⟩) :
    shapeCast ⟨2, ![1, b]⟩ (E1 r) h = E2 fun _ d => r d := by
  funext i
  have h0 : (i 0).val < 1 := (i 0).isLt
  refine (shapeCast_apply (E1 r) h i (ValueIdx.ix1 (i 1)) ?_).trans rfl
  rw [Shape.rowMajor_val_one, Shape.rowMajor_val_two]
  show (i 1).val = (i 0).val * b + (i 1).val
  have : (i 0).val = 0 := by omega
  rw [this, Nat.zero_mul, Nat.zero_add]

theorem E2_transpose (r : Fin a → Fin b → ℝ) (h : (⟨2, ![a, b]⟩ : Shape).Transposes [1, 0] ⟨2, ![b, a]⟩) :
    transpose ⟨2, ![b, a]⟩ [1, 0] (E2 r) h = E2 fun p d => r d p := by
  funext i
  refine (transpose_apply [1, 0] (E2 r) h i (ValueIdx.ix2 (i 1) (i 0)) fun x => ?_).trans rfl
  match x with
  | ⟨0, _⟩ => rfl
  | ⟨1, _⟩ => rfl

/-- Each row's sum, on the host. -/
theorem E2_hostRowSum (r : Fin a → Fin b → ℝ) (h' : (⟨2, ![a, b]⟩ : Shape).ReducesTo [1] ⟨1, ![a]⟩) (h : (⟨2, ![a, b]⟩ : Shape).Reduces [1] ⟨1, ![a]⟩)
    (h0 : 0 < (⟨0, ![]⟩ : Shape).numel) :
    Host.reduceAdd (F := Ideal) (φ := .f32) (E2 r) (constant ⟨0, ![]⟩ .f32 0x00000000#32) h' h0 = E1 fun p => ∑ k, r p k := by
  funext j
  refine (Ideal.hostReduceAdd_single h' h (E2 r) _ j).trans ?_
  refine (congrArg₂ (· + ·) Ideal.ofBits_zero_f32 (sum_coe Finset.univ fun k : Fin b => r (j 0) k)).trans (zero_add _)

/-- Each column's sum, on the host. -/
theorem E2_hostColSum (r : Fin a → Fin b → ℝ) (h' : (⟨2, ![a, b]⟩ : Shape).ReducesTo [0] ⟨1, ![b]⟩) (h : (⟨2, ![a, b]⟩ : Shape).Reduces [0] ⟨1, ![b]⟩)
    (h0 : 0 < (⟨0, ![]⟩ : Shape).numel) :
    Host.reduceAdd (F := Ideal) (φ := .f32) (E2 r) (constant ⟨0, ![]⟩ .f32 0x00000000#32) h' h0 = E1 fun d => ∑ k, r k d := by
  funext j
  refine (Ideal.hostReduceAdd_single h' h (E2 r) _ j).trans ?_
  refine (congrArg₂ (· + ·) Ideal.ofBits_zero_f32 (sum_coe Finset.univ fun k : Fin a => r k (j 0))).trans (zero_add _)

/-- The host's plain product. -/
theorem E2_dot {k : ℕ} {φ₁ φ₂ : FTy} (prec : Option ContractPrecision) (r : Fin a → Fin k → ℝ) (s : Fin k → Fin b → ℝ) :
    Host.dotGeneral (F := Ideal) (φ₁ := φ₁) (φ₂ := φ₂) (DotDims.plain a k b) prec (E2 r) (E2 s) = E2 fun p d => ∑ f, r p f * s f d := by
  funext i
  have hi : i = ValueIdx.ix2 (i 0) (i 1) := by
    funext x
    match x with
    | ⟨0, _⟩ => rfl
    | ⟨1, _⟩ => rfl
  rw [hi]
  refine (StackMember.dotGeneral_plain_apply (m := a) (k := k) (n := b) (φ₁ := φ₁) (φ₂ := φ₂) prec (E2 r) (E2 s) (i 0) (i 1)).trans ?_
  refine Eq.trans (Finset.sum_congr rfl fun f _ => ?_) (sum_coe Finset.univ fun f : Fin k => r (i 0) f * s f (i 1))
  exact (EReal.coe_mul _ _).symm

end Ffn

end
-- ==== Proof.Ffn.Entry.lean ====
/- What the host hands to the region: the arrays of the forward pass, each as the forward pass's real values. -/
module

public import proofs.«01_k».proof.Proof.Ffn.HostOps
public import proofs.«01_k».proof.Proof.Gen.KernelIdeal.Frame

@[expose] public section

set_option maxRecDepth 16384

noncomputable section

open Idealize.ShloMosaic Idealize.ShloMosaic.Tactic Cert.KernelIdeal Cert.KernelIdeal.Gen

namespace Ffn

variable (m : (ℓ : Loc nD τ Cert.KernelIdeal.sig) → Buf (Elt Ideal) ℓ) (c : Dev nD) (A : Args)

theorem V_eq (b : Ref Cert.KernelIdeal.sig .tc) : V m c b = StableHlo.after hostOps0 (fun b => m (c, b)) (Proc.devRef .tc b) := by
  have h : ([hostOps0] : List (List (HloOp τ Cert.KernelIdeal.sig (Elt Ideal)))).flatten = hostOps0 := by
    simp only [List.flatten_cons, List.flatten_nil, List.append_nil]
  show StableHlo.after ([hostOps0] : List (List (HloOp τ Cert.KernelIdeal.sig (Elt Ideal)))).flatten _ _ = _
  rw [h]

/-- The device's arguments are the real numbers of `A`. -/
structure HoldsArgs : Prop where
  x : (m (c, Proc.devRef .tc main_arg0) : FVec Ideal S16384x1024 .f32) = E2 A.x
  gpre : (m (c, Proc.devRef .tc main_arg1) : FVec Ideal S1024 .f32) = E1 A.gpre
  gpost : (m (c, Proc.devRef .tc main_arg2) : FVec Ideal S1024 .f32) = E1 A.gpost
  wg : (m (c, Proc.devRef .tc main_arg3) : FVec Ideal S1024x2816 .f32) = E2 A.wg
  wu : (m (c, Proc.devRef .tc main_arg4) : FVec Ideal S1024x2816 .f32) = E2 A.wu
  wd : (m (c, Proc.devRef .tc main_arg5) : FVec Ideal S2816x1024 .f32) = E2 A.wd
  ct : (m (c, Proc.devRef .tc main_arg6) : FVec Ideal S16384x1024 .f32) = E2 A.ct

theorem host_rstd :
    Host.rsqrt (F := Ideal) (φ := .f32) (addf (Host.divf (broadcastInDim S16384x1 ![0] bcast_S16384_S16384x1_0
      (Host.reduceAdd (mulf (E2 A.x : FVec Ideal S16384x1024 .f32) (E2 A.x)) (constant S_ .f32 0x00000000#32) reducesTo_S16384x1024_S16384_d1 h_S_))
      (broadcastInDim S16384x1 ![] bcast_S_S16384x1 (constant S_ .f32 1149239296#32)))
      (broadcastInDim S16384x1 ![] bcast_S_S16384x1 (constant S_ .f32 897988541#32))) = E2 (b := 1) fun p _ => rstd (A.x p) := by
  have e1 := E2_hostRowSum (fun p d => A.x p d * A.x p d) reducesTo_S16384x1024_S16384_d1 (by decide +kernel) h_S_
  have e2 := E1_inCol (fun p => ∑ k, A.x p k * A.x p k) bcast_S16384_S16384x1_0
  have e3 := E2_fill (a := 16384) (b := 1) ofBits_1024 bcast_S_S16384x1
  have e4 := E2_fill (a := 16384) (b := 1) ofBits_eps bcast_S_S16384x1
  erw [E2_mulf, e1, e2, e3, e4, E2_hostDivf _ _ (fun _ _ => by norm_num), E2_addf, E2_hostRsqrt _ (fun p _ => ms_pos (A.x p))]
  rfl

theorem host_hn :
    mulf (F := Ideal) (φ := .f32) (mulf (E2 A.x : FVec Ideal S16384x1024 .f32)
      (broadcastInDim S16384x1024 ![0, 1] bcast_S16384x1_S16384x1024_0_1 (E2 (b := 1) fun p _ => rstd (A.x p) : FVec Ideal S16384x1 .f32)))
      (broadcastInDim S16384x1024 ![0, 1] bcast_S1x1024_S16384x1024_0_1 (fun i => shapeCast S1x1024 (E1 A.gpre : FVec Ideal S1024 .f32) shapeCasts_S1024_S1x1024 i))
      = E2 A.hn := by
  have e1 := E2_inCols (b := 1024) (fun p _ => rstd (A.x p)) bcast_S16384x1_S16384x1024_0_1
  have e2 := E1_row A.gpre shapeCasts_S1024_S1x1024
  have e3 := E2_inRows (a := 16384) (fun _ d => A.gpre d) bcast_S1x1024_S16384x1024_0_1
  have e4 : (fun i => shapeCast S1x1024 (E1 A.gpre : FVec Ideal S1024 .f32) shapeCasts_S1024_S1x1024 i)
    = (E2 (a := 1) fun _ d => A.gpre d : FVec Ideal S1x1024 .f32) := e2
  rw [e4]
  erw [e1, e3, E2_mulf, E2_mulf]
  rfl

theorem host_gate (w : Fin 1024 → Fin 2816 → ℝ) :
    Host.dotGeneral (F := Ideal) (φ₁ := .f32) (φ₂ := .f32) dot_S16384x1024_S1024x2816_S16384x2816_1_0_0_1_n_n none
      (E2 A.hn : FVec Ideal S16384x1024 .f32) (E2 w : FVec Ideal S1024x2816 .f32) = E2 fun p f => ∑ d, A.hn p d * w d f :=
  E2_dot none A.hn w

theorem host_sigm :
    Host.divf (F := Ideal) (φ := .f32) (broadcastInDim S16384x2816 ![] bcast_S_S16384x2816 (constant S_ .f32 1065353216#32))
      (addf (broadcastInDim S16384x2816 ![] bcast_S_S16384x2816 (constant S_ .f32 1065353216#32))
        (Host.exp (Host.negf (E2 A.gate : FVec Ideal S16384x2816 .f32)))) = E2 fun p f => sigm (A.gate p f) := by
  have e1 := E2_fill (a := 16384) (b := 2816) ofBits_one bcast_S_S16384x2816
  erw [e1, E2_hostNegf, E2_hostExp, E2_addf, E2_hostDivf _ _ (fun p f => one_add_exp_ne _)]
  rfl

theorem host_o (r : Fin 16384 → Fin 2816 → ℝ) :
    Host.dotGeneral (F := Ideal) (φ₁ := .f32) (φ₂ := .f32) dot_S16384x2816_S2816x1024_S16384x1024_1_0_0_1_n_n none
      (E2 r : FVec Ideal S16384x2816 .f32) (E2 A.wd : FVec Ideal S2816x1024 .f32) = E2 fun p d => ∑ f, r p f * A.wd f d :=
  E2_dot none r A.wd

variable {m c A} (H : HoldsArgs m c A)
include H

theorem V_x : (V m c main_arg0 : FVec Ideal S16384x1024 .f32) = E2 A.x := (V_main_arg0 m c).trans H.x
theorem V_ct : (V m c main_arg6 : FVec Ideal S16384x1024 .f32) = E2 A.ct := (V_main_arg6 m c).trans H.ct

theorem V_gate : (V m c main_v1 : FVec Ideal S2816x1024 .bf16) = E2 fun f d => A.wg d f := by
  rw [V_eq]; unfold hostOps0; entry_read
  erw [H.wg, E2_transpose, E2_truncf]

theorem V_up : (V m c main_v3 : FVec Ideal S2816x1024 .bf16) = E2 fun f d => A.wu d f := by
  rw [V_eq]; unfold hostOps0; entry_read
  erw [H.wu, E2_transpose, E2_truncf]

theorem V_down : (V m c main_v4 : FVec Ideal S2816x1024 .bf16) = E2 A.wd := by
  rw [V_eq]; unfold hostOps0; entry_read
  erw [H.wd, E2_truncf]

theorem V_gpost : (V m c main_v34 : FVec Ideal S1x1024 .f32) = E2 (a := 1) fun _ d => A.gpost d := by
  rw [V_eq]; unfold hostOps0; entry_read
  erw [H.gpost]
  exact E1_row A.gpost shapeCasts_S1024_S1x1024

theorem V_gpre : (V m c main_v37 : FVec Ideal S1x1024 .f32) = E2 (a := 1) fun _ d => A.gpre d := by
  rw [V_eq]; unfold hostOps0; entry_read
  erw [H.gpre]
  exact E1_row A.gpre shapeCasts_S1024_S1x1024

theorem V_silu : (V m c main_v35 : FVec Ideal S16384x2816 .bf16) = E2 A.silu := by
  rw [V_eq]; unfold hostOps0; entry_read
  erw [H.x, H.gpre, H.wg, host_rstd, host_hn, host_gate, host_sigm, E2_mulf, E2_truncf]
  rfl

set_option maxHeartbeats 2000000 in
theorem V_dact : (V m c main_v36 : FVec Ideal S16384x2816 .bf16) = E2 A.dact := by
  rw [V_eq]; unfold hostOps0; entry_read
  erw [H.x, H.gpre, H.wg, H.wu, host_rstd, host_hn, host_gate A A.wg, host_gate A A.wu, host_sigm, E2_mulf, E2_addf, E2_mulf, E2_subf, E2_mulf, E2_truncf]
  rfl

set_option maxHeartbeats 2000000 in
theorem V_o : (V m c main_v33 : FVec Ideal S16384x1024 .bf16) = E2 A.o := by
  rw [V_eq]; unfold hostOps0; entry_read
  erw [H.x, H.gpre, H.wg, H.wu, H.wd, host_rstd, host_hn, host_gate A A.wg, host_gate A A.wu, host_sigm, E2_mulf, E2_mulf, host_o, E2_truncf]
  rfl

end Ffn

end
-- ==== Proof.Ffn.Block.lean ====
/- What one block of the kernel computes, from blocks of real numbers: the values it stores, in the program's order. -/
module

public import proofs.«01_k».proof.Proof.Ffn.Ops
public import proofs.«01_k».proof.Proof.Gen.KernelIdeal.Skeleton

@[expose] public section

set_option maxRecDepth 16384

noncomputable section

open Idealize.ShloMosaic Cert.KernelIdeal Cert.KernelIdeal.Gen

namespace Ffn

/-- A product with the transpose: each row of the one against each row of the other. -/
theorem matmul_nt (A B : Fin 256 → Fin 1024 → ℝ) :
    matmul (F := Ideal) (φ₁ := .bf16) (φ₂ := .bf16) dot_S256x1024_S256x1024_S256x256_1_1_0_0_n_n none (E2 A) (E2 B) (constant S256x256 .f32 0x00000000#32)
      = E2 fun q f => ∑ d, A q d * B f d := by
  funext j
  refine (matmul_coe dot_S256x1024_S256x1024_S256x256_1_1_0_0_n_n 1024 rfl rfl none (fun i => A (i 0) (i 1)) (fun i => B (i 0) (i 1)) j
    (fun k => ValueIdx.ix2 (j 0) k) (fun k => ValueIdx.ix2 (j 1) k) (fun q x => ?_) (fun q x => ?_)).trans rfl
  · match x with
    | ⟨0, _⟩ => rfl
    | ⟨1, _⟩ => rfl
  · match x with
    | ⟨0, _⟩ => rfl
    | ⟨1, _⟩ => rfl

/-- A plain product. -/
theorem matmul_nn (A : Fin 256 → Fin 2816 → ℝ) (B : Fin 2816 → Fin 1024 → ℝ) :
    matmul (F := Ideal) (φ₁ := .bf16) (φ₂ := .bf16) dot_S256x2816_S2816x1024_S256x1024_1_0_0_1_n_n none (E2 A) (E2 B) (constant S256x1024 .f32 0x00000000#32)
      = E2 fun q d => ∑ f, A q f * B f d := by
  funext j
  refine (matmul_coe dot_S256x2816_S2816x1024_S256x1024_1_0_0_1_n_n 2816 rfl rfl none (fun i => A (i 0) (i 1)) (fun i => B (i 0) (i 1)) j
    (fun k => ValueIdx.ix2 (j 0) k) (fun k => ValueIdx.ix2 k (j 1)) (fun q x => ?_) (fun q x => ?_)).trans rfl
  · match x with
    | ⟨0, _⟩ => rfl
    | ⟨1, _⟩ => rfl
  · match x with
    | ⟨0, _⟩ => rfl
    | ⟨1, _⟩ => rfl

variable (c o x : Fin 256 → Fin 1024 → ℝ) (g : Fin 1024 → ℝ)

theorem pay5 : k0_pay5 (F := Ideal) (E2 c) = E2 fun q d => 1 / 2 * c q d := by
  simp only [k0_pay5]
  rw [E2_broadcast ofBits_half, E2_mulf]

theorem pay6 : k0_pay6 (F := Ideal) (E2 o) = E2 o := by
  simp only [k0_pay6, shapeCast_self]
  rfl

theorem pay7 : k0_pay7 (F := Ideal) (E2 o) = E2 fun q _ => rstd (o q) := by
  simp only [k0_pay7, pay6]
  rw [E2_mulf]
  erw [E2_rowSum]
  rw [E1_col, E2_broadcast ofBits_1024, E2_divf _ _ (fun _ _ => by norm_num), E2_broadcast ofBits_eps, E2_addf]
  exact E2_rsqrt (fun q _ => ms (o q)) fun q _ => ms_pos (o q)

theorem pay8 : k0_pay8 (F := Ideal) (E2 o) = E2 fun q d => o q d * rstd (o q) := by
  simp only [k0_pay8, pay6, pay7]
  rw [E2_broadcastTo_col _ (by norm_num), E2_mulf]

theorem pay9 (acc : Fin 8 → Fin 1024 → ℝ) : k0_pay9 (F := Ideal) (E2 c) (E2 o) (E2 acc)
    = E2 fun s d => acc s d + ∑ k : Fin 32, 1 / 2 * c ⟨k.val * 8 + s.val, group_lt rfl k s⟩ d
        * (o ⟨k.val * 8 + s.val, group_lt rfl k s⟩ d * rstd (o ⟨k.val * 8 + s.val, group_lt rfl k s⟩)) := by
  simp only [k0_pay9, pay5, pay8, shapeCast_self]
  rw [E2_mulf]
  erw [E2_groupSum (n := 32) rfl]
  rw [E2_addf]

theorem pay10 : k0_pay10 (F := Ideal) (E2 c) (E2 o) (E2 fun _ => g) = E2 fun q d => 1 / 2 * c q d * g d
    - o q d * rstd (o q) * ((∑ e, 1 / 2 * c q e * g e * (o q e * rstd (o q))) / 1024) := by
  simp only [k0_pay10, pay5, pay8, shapeCast_self]
  rw [E2_broadcastTo_row _ (by norm_num), E2_mulf, E2_mulf]
  erw [E2_rowSum]
  rw [E1_col, E2_broadcast ofBits_1024,
    E2_divf _ _ (fun _ _ => by norm_num), E2_broadcastTo_col _ (by norm_num), E2_mulf, E2_subf]

theorem pay11 (r : Fin 256 → Fin 1 → ℝ) (v : Fin 256 → Fin 1024 → ℝ) :
    k0_pay11 (F := Ideal) (E2 r) (E2 v) = E2 fun q d => r q 0 * v q d := by
  simp only [k0_pay11]
  rw [E2_broadcastTo_col _ (by norm_num), E2_mulf, E2_truncf]

/-- The product's cotangent, a block of it. -/
theorem dm_block : k0_pay11 (F := Ideal) (k0_pay7 (E2 o)) (k0_pay10 (E2 c) (E2 o) (E2 fun _ => g))
    = E2 fun q d => rmsGrad (o q) (fun e => 1 / 2 * c q e * g e) d := by
  rw [pay7, pay10, pay11]
  rfl

/-- One chunk of columns: the block's cotangent against the chunk of the weight's rows, times what the forward saved. -/
theorem chunk (A B : Fin 256 → Fin 1024 → ℝ) (s : Fin 256 → Fin 256 → ℝ) (h : S256x256.ShapeCasts S256x256) (h' : S256x1024.ShapeCasts S256x1024)
    (hb : FTy.bf16.bits < FTy.f32.bits) :
    truncf .bf16 (mulf (matmul (F := Ideal) (φ₁ := .bf16) (φ₂ := .bf16) dot_S256x1024_S256x1024_S256x256_1_1_0_0_n_n none (E2 A) (shapeCast S256x1024 (E2 B) h')
      (constant S256x256 .f32 0x00000000#32)) (extf .f32 (shapeCast S256x256 (E2 s) h : FVec Ideal S256x256 .bf16) hb)) hb
      = E2 fun q f => (∑ d, A q d * B f d) * s q f := by
  rw [shapeCast_self, shapeCast_self, matmul_nt, E2_extf, E2_mulf, E2_truncf]

theorem pay46 (A C : Fin 256 → Fin 2816 → ℝ) (B D : Fin 2816 → Fin 1024 → ℝ) :
    k0_pay46 (F := Ideal) (E2 A) (E2 B) (E2 C) (E2 D) = E2 fun q d => ∑ f, A q f * B f d + ∑ f, C q f * D f d := by
  simp only [k0_pay46, shapeCast_self]
  rw [matmul_nn, matmul_nn, E2_addf]

theorem pay48 : k0_pay48 (F := Ideal) (E2 x) = E2 fun q _ => rstd (x q) := by
  simp only [k0_pay48]
  rw [E2_mulf]
  erw [E2_rowSum]
  rw [E1_col, E2_broadcast ofBits_1024, E2_divf _ _ (fun _ _ => by norm_num), E2_broadcast ofBits_eps, E2_addf]
  exact E2_rsqrt (fun q _ => ms (x q)) fun q _ => ms_pos (x q)

theorem pay49 : k0_pay49 (F := Ideal) (E2 x) = E2 fun q d => x q d * rstd (x q) := by
  simp only [k0_pay49, pay48]
  rw [E2_broadcastTo_col _ (by norm_num), E2_mulf]

theorem pay47 : k0_pay47 (F := Ideal) (E2 fun _ => g) = E2 fun _ => g := by
  simp only [k0_pay47, shapeCast_self]

theorem pay50 : k0_pay50 (F := Ideal) (E2 x) (E2 fun _ => g) = E2 fun q d => x q d * rstd (x q) * g d := by
  simp only [k0_pay50, pay49, pay47]
  rw [E2_broadcastTo_row _ (by norm_num), E2_mulf, E2_truncf]

theorem pay1 (h : Fin 256 → Fin 1024 → ℝ) (y : Fin 256 → Fin 1024 → ℝ) (acc : Fin 8 → Fin 1024 → ℝ) :
    k0_pay1 (F := Ideal) (E2 h) (E2 y) (E2 acc)
      = E2 fun s d => acc s d + ∑ k : Fin 32, h ⟨k.val * 8 + s.val, group_lt rfl k s⟩ d * y ⟨k.val * 8 + s.val, group_lt rfl k s⟩ d := by
  simp only [k0_pay1, shapeCast_self]
  rw [E2_mulf]
  erw [E2_groupSum (n := 32) rfl]
  rw [E2_addf]

/-- The sub-layer's input's cotangent, a block of it. -/
theorem dx_block (h : Fin 256 → Fin 1024 → ℝ) :
    k0_pay2 (F := Ideal) (E2 c) (E2 h) (k0_pay47 (E2 fun _ => g)) (k0_pay48 (E2 x)) (k0_pay49 (E2 x))
      = E2 fun q d => c q d + rmsGrad (x q) (fun e => h q e * g e) d := by
  simp only [k0_pay2, pay47, pay48, pay49]
  rw [E2_broadcastTo_row _ (by norm_num), E2_mulf, E2_mulf]
  erw [E2_rowSum]
  rw [E1_col, E2_broadcast ofBits_1024,
    E2_divf _ _ (fun _ _ => by norm_num), E2_broadcastTo_col _ (by norm_num), E2_broadcastTo_col _ (by norm_num), E2_mulf, E2_subf, E2_mulf,
    E2_addf]
  rfl

theorem zeros : k0_pay3 (F := Ideal) = E2 fun _ _ => 0 := by
  simp only [k0_pay3]
  exact E2_broadcast Ideal.ofBits_zero_f32

theorem zeros' : k0_pay4 (F := Ideal) = E2 fun _ _ => 0 := by
  simp only [k0_pay4]
  exact E2_broadcast Ideal.ofBits_zero_f32

end Ffn

end
-- ==== Proof.Ffn.Out.lean ====
/- What the body leaves in each output's buffer at a grid point whose input blocks hold real numbers. -/
module

public import proofs.«01_k».proof.Proof.Ffn.Block
public import proofs.«01_k».proof.Proof.Gen.KernelIdeal.Frame
public import Idealize.ShloMosaic.Lib.Pipeline.ValueKit.Tiles

@[expose] public section

set_option maxRecDepth 16384

noncomputable section

open Idealize.ShloMosaic Idealize.ShloMosaic.Tactic Cert.KernelIdeal Cert.KernelIdeal.Gen

namespace Ffn

/-- The real numbers in the input blocks of one grid point: 256 tokens' rows, and the whole weights and gains. -/
structure Blk where
  ct : Fin 256 → Fin 1024 → ℝ
  o : Fin 256 → Fin 1024 → ℝ
  gpost : Fin 1024 → ℝ
  wd : Fin 2816 → Fin 1024 → ℝ
  silu : Fin 256 → Fin 2816 → ℝ
  dact : Fin 256 → Fin 2816 → ℝ
  x : Fin 256 → Fin 1024 → ℝ
  gpre : Fin 1024 → ℝ
  wg : Fin 2816 → Fin 1024 → ℝ
  wu : Fin 2816 → Fin 1024 → ℝ

namespace Blk

variable (B : Blk)

def dm (q : Fin 256) : Fin 1024 → ℝ := rmsGrad (B.o q) fun e => 1 / 2 * B.ct q e * B.gpost e
def dup (q : Fin 256) (f : Fin 2816) : ℝ := (∑ d, B.dm q d * B.wd f d) * B.silu q f
def dgate (q : Fin 256) (f : Fin 2816) : ℝ := (∑ d, B.dm q d * B.wd f d) * B.dact q f
def dh (q : Fin 256) (d : Fin 1024) : ℝ := ∑ f, B.dgate q f * B.wg f d + ∑ f, B.dup q f * B.wu f d

end Blk

/-- The input blocks of grid point `t` hold `B`'s numbers. -/
structure HoldsBlk (m : (ℓ : Loc nD τ Cert.KernelIdeal.sig) → Buf (Elt Ideal) ℓ) (c : Dev nD) (t : Fin cfg0.N) (B : Blk) : Prop where
  h0 : iblk m c 0 t = E2 B.ct
  h1 : iblk m c 1 t = E2 B.o
  h2 : iblk m c 2 t = E2 (a := 1) fun _ => B.gpost
  h3 : iblk m c 3 t = E2 B.wd
  h4 : iblk m c 4 t = E2 B.silu
  h5 : iblk m c 5 t = E2 B.dact
  h6 : iblk m c 6 t = E2 B.x
  h7 : iblk m c 7 t = E2 (a := 1) fun _ => B.gpre
  h8 : iblk m c 8 t = E2 B.wg
  h9 : iblk m c 9 t = E2 B.wu

/-- 256 rows of a weight, from row `k`. -/
def rowsOf (B : Fin 2816 → Fin 1024 → ℝ) (k : ℕ) (hr : ∀ a : Fin 2, ![k, 0] a + ![256, 1024] a ≤ S2816x1024.size a) : Vec Ideal S256x1024 .bf16 :=
  View.ld (Val := Elt Ideal) (e' := .bf16) (E2 B) (Rect.unit (s := S2816x1024) ![k, 0] ![256, 1024] hr)

/-- 256 columns of a row block, from column `k`. -/
def colsOf (s : Fin 256 → Fin 2816 → ℝ) (k : ℕ) (hc : ∀ a : Fin 2, ![0, k] a + ![256, 256] a ≤ S256x2816.size a) : Vec Ideal S256x256 .bf16 :=
  View.ld (Val := Elt Ideal) (e' := .bf16) (E2 s) (Rect.unit (s := S256x2816) ![0, k] ![256, 256] hc)

theorem rowsOf_eq (B : Fin 2816 → Fin 1024 → ℝ) (k : ℕ) (hr : ∀ a : Fin 2, ![k, 0] a + ![256, 1024] a ≤ S2816x1024.size a) (hk : k + 256 ≤ 2816) :
    rowsOf B k hr = E2 fun (q : Fin 256) d => B ⟨k + q.val, lt_of_lt_of_le (Nat.add_lt_add_left q.isLt k) hk⟩ d := by
  funext i
  refine (View.ld_unit_apply_of (Val := Elt Ideal) (S := S2816x1024) (e := .bf16) (E2 B) ![k, 0] ![256, 1024] hr i (ValueIdx.ix2 ⟨k + (i 0).val, lt_of_lt_of_le (Nat.add_lt_add_left (i 0).isLt k) hk⟩ (i 1)) fun a => ?_).trans rfl
  match a with
  | ⟨0, _⟩ => rfl
  | ⟨1, _⟩ => exact (Nat.zero_add _).symm

theorem colsOf_eq (s : Fin 256 → Fin 2816 → ℝ) (k : ℕ) (hc : ∀ a : Fin 2, ![0, k] a + ![256, 256] a ≤ S256x2816.size a) (hk : k + 256 ≤ 2816) :
    colsOf s k hc = E2 fun q (f : Fin 256) => s q ⟨k + f.val, lt_of_lt_of_le (Nat.add_lt_add_left f.isLt k) hk⟩ := by
  funext i
  refine (View.ld_unit_apply_of (Val := Elt Ideal) (S := S256x2816) (e := .bf16) (E2 s) ![0, k] ![256, 256] hc i (ValueIdx.ix2 (i 0) ⟨k + (i 1).val, lt_of_lt_of_le (Nat.add_lt_add_left (i 1).isLt k) hk⟩) fun a => ?_).trans rfl
  match a with
  | ⟨0, _⟩ => exact (Nat.zero_add _).symm
  | ⟨1, _⟩ => rfl

/-- One chunk of columns at an index of the whole row block. -/
theorem chunk_apply (A : Fin 256 → Fin 1024 → ℝ) (B : Fin 2816 → Fin 1024 → ℝ) (s : Fin 256 → Fin 2816 → ℝ) (k : ℕ)
    (hr : ∀ a : Fin 2, ![k, 0] a + ![256, 1024] a ≤ S2816x1024.size a) (hc : ∀ a : Fin 2, ![0, k] a + ![256, 256] a ≤ S256x2816.size a)
    (h : S256x256.ShapeCasts S256x256) (h' : S256x1024.ShapeCasts S256x1024) (hb : FTy.bf16.bits < FTy.f32.bits)
    (x : S256x256.Idx) (y : S256x2816.Idx) (hy0 : (y 0 : ℕ) = x 0) (hy1 : (y 1 : ℕ) = k + x 1) :
    truncf .bf16 (mulf (matmul (F := Ideal) (φ₁ := .bf16) (φ₂ := .bf16) dot_S256x1024_S256x1024_S256x256_1_1_0_0_n_n none (E2 A)
      (shapeCast S256x1024 (rowsOf B k hr) h') (constant S256x256 .f32 0x00000000#32))
      (extf .f32 (shapeCast S256x256 (colsOf s k hc) h : FVec Ideal S256x256 .bf16) hb)) hb x
      = E2 (fun q f => (∑ d, A q d * B f d) * s q f) y := by
  have hk : k + 256 ≤ 2816 := hc 1
  rw [rowsOf_eq B k hr hk, colsOf_eq s k hc hk]
  refine (congrFun (chunk A _ _ h h' hb) x).trans ?_
  have e0 : y 0 = x 0 := Fin.ext hy0
  have e1 : y 1 = ⟨k + (x 1).val, lt_of_lt_of_le (Nat.add_lt_add_left (x 1).isLt k) hk⟩ := Fin.ext hy1
  simp only [E2, e0, e1]
  rfl

variable {m : (ℓ : Loc nD τ Cert.KernelIdeal.sig) → Buf (Elt Ideal) ℓ} {c : Dev nD} {t : Fin cfg0.N} {B : Blk}

theorem out10 (H : HoldsBlk m c t B) : (outsAt0 m c t.val t.isLt).1 = E2 B.dm := by
  by_cases h : t.val % 64 = 0
  · rw [outsAt0_A m c t h]
    frame_out
    rw [H.h0, H.h1, H.h2]
    exact dm_block B.ct B.o B.gpost
  · rw [outsAt0_B m c t h]
    frame_out
    rw [H.h0, H.h1, H.h2]
    exact dm_block B.ct B.o B.gpost

theorem out12 (H : HoldsBlk m c t B) : (outsAt0 m c t.val t.isLt).2.2.1 = E2 B.dgate := by
  by_cases h : t.val % 64 = 0
  · rw [outsAt0_A m c t h]
    frame_out
    rw [H.h0, H.h1, H.h2, H.h3, H.h5]
    simp only [k0_pay14, k0_pay17, k0_pay20, k0_pay23, k0_pay26, k0_pay29, k0_pay33, k0_pay36, k0_pay39, k0_pay42, k0_pay45, k0_pay12, k0_pay15, k0_pay18, k0_pay21, k0_pay24, k0_pay27, k0_pay31, k0_pay34, k0_pay37, k0_pay40, k0_pay43, k0_pay30]
    rw [dm_block B.ct B.o B.gpost]
    funext y
    canon_tiles x h
    all_goals refine (chunk_apply _ _ _ _ _ _ _ _ _ x y h0 (by omega)).trans rfl
  · rw [outsAt0_B m c t h]
    frame_out
    rw [H.h0, H.h1, H.h2, H.h3, H.h5]
    simp only [k0_pay14, k0_pay17, k0_pay20, k0_pay23, k0_pay26, k0_pay29, k0_pay33, k0_pay36, k0_pay39, k0_pay42, k0_pay45, k0_pay12, k0_pay15, k0_pay18, k0_pay21, k0_pay24, k0_pay27, k0_pay31, k0_pay34, k0_pay37, k0_pay40, k0_pay43, k0_pay30]
    rw [dm_block B.ct B.o B.gpost]
    funext y
    canon_tiles x h
    all_goals refine (chunk_apply _ _ _ _ _ _ _ _ _ x y h0 (by omega)).trans rfl

theorem out13 (H : HoldsBlk m c t B) : (outsAt0 m c t.val t.isLt).2.2.2.1 = E2 B.dup := by
  by_cases h : t.val % 64 = 0
  · rw [outsAt0_A m c t h]
    frame_out
    rw [H.h0, H.h1, H.h2, H.h3, H.h4]
    simp only [k0_pay13, k0_pay16, k0_pay19, k0_pay22, k0_pay25, k0_pay28, k0_pay32, k0_pay35, k0_pay38, k0_pay41, k0_pay44, k0_pay12, k0_pay15, k0_pay18, k0_pay21, k0_pay24, k0_pay27, k0_pay31, k0_pay34, k0_pay37, k0_pay40, k0_pay43, k0_pay30]
    rw [dm_block B.ct B.o B.gpost]
    funext y
    canon_tiles x h
    all_goals refine (chunk_apply _ _ _ _ _ _ _ _ _ x y h0 (by omega)).trans rfl
  · rw [outsAt0_B m c t h]
    frame_out
    rw [H.h0, H.h1, H.h2, H.h3, H.h4]
    simp only [k0_pay13, k0_pay16, k0_pay19, k0_pay22, k0_pay25, k0_pay28, k0_pay32, k0_pay35, k0_pay38, k0_pay41, k0_pay44, k0_pay12, k0_pay15, k0_pay18, k0_pay21, k0_pay24, k0_pay27, k0_pay31, k0_pay34, k0_pay37, k0_pay40, k0_pay43, k0_pay30]
    rw [dm_block B.ct B.o B.gpost]
    funext y
    canon_tiles x h
    all_goals refine (chunk_apply _ _ _ _ _ _ _ _ _ x y h0 (by omega)).trans rfl

theorem out15 (H : HoldsBlk m c t B) : (outsAt0 m c t.val t.isLt).2.2.2.2.2.1 = E2 fun q d => B.x q d * rstd (B.x q) * B.gpre d := by
  by_cases h : t.val % 64 = 0
  · rw [outsAt0_A m c t h]
    frame_out
    rw [H.h6, H.h7]
    exact pay50 B.x B.gpre
  · rw [outsAt0_B m c t h]
    frame_out
    rw [H.h6, H.h7]
    exact pay50 B.x B.gpre

/-- A whole buffer read back after the stores that fill it. -/
theorem readBack {n k : ℕ} {e : EltTy} (v : View Cert.KernelIdeal.sig .tc .vmem (⟨2, ![n, k]⟩ : Shape) e) (L : List (View.Piece (Elt Ideal) (⟨2, ![n, k]⟩ : Shape) e))
    (G : Vec Ideal (⟨2, ![n, k]⟩ : Shape) e) (h : View.canon L = G) (hi : ∀ a, ![0, 0] a + ![n, k] a ≤ (⟨2, ![n, k]⟩ : Shape).size a) :
    v.readCov L (Rect.unit (s := (⟨2, ![n, k]⟩ : Shape)) ![0, 0] ![n, k] hi).toLoadRect = G := by
  rw [View.readCov_eq_canon', h]
  funext j
  refine congrArg G (funext fun a => Fin.ext ?_)
  match a with
  | ⟨0, _⟩ => exact (Nat.zero_add _).trans (Nat.one_mul _)
  | ⟨1, _⟩ => exact (Nat.zero_add _).trans (Nat.one_mul _)

theorem out14 (H : HoldsBlk m c t B) : (outsAt0 m c t.val t.isLt).2.2.2.2.1
    = E2 fun q d => B.ct q d + rmsGrad (B.x q) (fun e => B.dh q e * B.gpre e) d := by
  have hg := out12 H
  have hu := out13 H
  by_cases h : t.val % 64 = 0
  · rw [outsAt0_A m c t h] at hg hu ⊢
    frame_out at hg
    frame_out at hu
    frame_out
    rw [readBack _ _ _ hg, readBack _ _ _ hu, H.h0, H.h6, H.h7, H.h8, H.h9, pay46]
    exact dx_block B.ct B.x B.gpre B.dh
  · rw [outsAt0_B m c t h] at hg hu ⊢
    frame_out at hg
    frame_out at hu
    frame_out
    rw [readBack _ _ _ hg, readBack _ _ _ hu, H.h0, H.h6, H.h7, H.h8, H.h9, pay46]
    exact dx_block B.ct B.x B.gpre B.dh

end Ffn

end
-- ==== Proof.Ffn.Acc.lean ====
/- The two gains' gradients, accumulated over the grid: after each point, the sum of the parts of the blocks so far. -/
module

public import proofs.«01_k».proof.Proof.Ffn.Out

@[expose] public section

set_option maxRecDepth 16384

noncomputable section

open Idealize.ShloMosaic Idealize.ShloMosaic.Tactic Cert.KernelIdeal Cert.KernelIdeal.Gen

namespace Ffn

namespace Blk

variable (B : Blk)

/-- A block's part of the second gain's gradient, the rows taken in groups of eight. -/
def gpostPart (s : Fin 8) (d : Fin 1024) : ℝ :=
  ∑ k : Fin 32, 1 / 2 * B.ct ⟨k.val * 8 + s.val, group_lt rfl k s⟩ d
    * (B.o ⟨k.val * 8 + s.val, group_lt rfl k s⟩ d * rstd (B.o ⟨k.val * 8 + s.val, group_lt rfl k s⟩))

/-- A block's part of the first gain's gradient. -/
def gprePart (s : Fin 8) (d : Fin 1024) : ℝ :=
  ∑ k : Fin 32, B.dh ⟨k.val * 8 + s.val, group_lt rfl k s⟩ d
    * (B.x ⟨k.val * 8 + s.val, group_lt rfl k s⟩ d * rstd (B.x ⟨k.val * 8 + s.val, group_lt rfl k s⟩))

end Blk

variable {m : (ℓ : Loc nD τ Cert.KernelIdeal.sig) → Buf (Elt Ideal) ℓ} {c : Dev nD} {t : Fin cfg0.N} {B : Blk}

theorem out11_first (H : HoldsBlk m c t B) (h : t.val % 64 = 0) : (outsAt0 m c t.val t.isLt).2.1 = E2 fun s d => 0 + B.gpostPart s d := by
  rw [outsAt0_A m c t h]
  frame_out
  rw [H.h0, H.h1, zeros]
  exact pay9 B.ct B.o _

theorem out11_next (H : HoldsBlk m c t B) (h : ¬t.val % 64 = 0) (acc : Fin 8 → Fin 1024 → ℝ)
    (hp : (outsAt0 m c (t.val - 1) (Nat.lt_of_le_of_lt (Nat.sub_le _ _) t.isLt)).2.1 = E2 acc) :
    (outsAt0 m c t.val t.isLt).2.1 = E2 fun s d => acc s d + B.gpostPart s d := by
  rw [outsAt0_B m c t h]
  frame_out
  rw [H.h0, H.h1, hp]
  exact pay9 B.ct B.o acc

theorem out16_first (H : HoldsBlk m c t B) (h : t.val % 64 = 0) :
    (outsAt0 m c t.val t.isLt).2.2.2.2.2.2 = E2 fun s d => 0 + B.gprePart s d := by
  have hg := out12 H
  have hu := out13 H
  rw [outsAt0_A m c t h] at hg hu ⊢
  frame_out at hg
  frame_out at hu
  frame_out
  rw [readBack _ _ _ hg, readBack _ _ _ hu, H.h6, H.h8, H.h9, pay46, pay49, zeros']
  exact pay1 B.dh _ _

theorem out16_next (H : HoldsBlk m c t B) (h : ¬t.val % 64 = 0) (acc : Fin 8 → Fin 1024 → ℝ)
    (hp : (outsAt0 m c (t.val - 1) (Nat.lt_of_le_of_lt (Nat.sub_le _ _) t.isLt)).2.2.2.2.2.2 = E2 acc) :
    (outsAt0 m c t.val t.isLt).2.2.2.2.2.2 = E2 fun s d => acc s d + B.gprePart s d := by
  have hg := out12 H
  have hu := out13 H
  rw [outsAt0_B m c t h] at hg hu ⊢
  frame_out at hg
  frame_out at hu
  frame_out
  rw [readBack _ _ _ hg, readBack _ _ _ hu, H.h6, H.h8, H.h9, pay46, pay49, hp]
  exact pay1 B.dh _ acc

variable {Bs : Fin cfg0.N → Blk}

/-- The block numbers up to `n`. -/
def upto {n : ℕ} (h : n < cfg0.N) (j : Fin (n + 1)) : Fin cfg0.N := ⟨j.val, Nat.lt_of_le_of_lt (Nat.le_of_lt_succ j.isLt) h⟩

theorem out11 (H : ∀ t, HoldsBlk m c t (Bs t)) (n : ℕ) (h : n < cfg0.N) :
    (outsAt0 m c n h).2.1 = E2 fun s d => ∑ j : Fin (n + 1), (Bs (upto h j)).gpostPart s d := by
  have hN : cfg0.N = 64 := by decide +kernel
  induction n with
  | zero =>
    refine (out11_first (H ⟨0, h⟩) rfl).trans (congrArg E2 (funext fun s => funext fun d => ?_))
    rw [zero_add, Fin.sum_univ_one]
    rfl
  | succ n ih =>
    refine (out11_next (H ⟨n + 1, h⟩) (show ¬(n + 1) % 64 = 0 by omega) _ (ih _)).trans (congrArg E2 (funext fun s => funext fun d => ?_))
    exact (Fin.sum_univ_castSucc fun j : Fin (n + 1 + 1) => (Bs (upto h j)).gpostPart s d).symm

theorem out16 (H : ∀ t, HoldsBlk m c t (Bs t)) (n : ℕ) (h : n < cfg0.N) :
    (outsAt0 m c n h).2.2.2.2.2.2 = E2 fun s d => ∑ j : Fin (n + 1), (Bs (upto h j)).gprePart s d := by
  have hN : cfg0.N = 64 := by decide +kernel
  induction n with
  | zero =>
    refine (out16_first (H ⟨0, h⟩) rfl).trans (congrArg E2 (funext fun s => funext fun d => ?_))
    rw [zero_add, Fin.sum_univ_one]
    rfl
  | succ n ih =>
    refine (out16_next (H ⟨n + 1, h⟩) (show ¬(n + 1) % 64 = 0 by omega) _ (ih _)).trans (congrArg E2 (funext fun s => funext fun d => ?_))
    exact (Fin.sum_univ_castSucc fun j : Fin (n + 1 + 1) => (Bs (upto h j)).gprePart s d).symm

/-- Blocks of 256 rows, each row counted by its group and its place in the group, are all the rows. -/
theorem sum_tokens (f : Fin 16384 → ℝ) (hs : ∀ (s : Fin 8) (j : Fin 64) (k : Fin 32), j.val * 256 + (k.val * 8 + s.val) < 16384) :
    ∑ s : Fin 8, ∑ j : Fin 64, ∑ k : Fin 32, f ⟨j.val * 256 + (k.val * 8 + s.val), hs s j k⟩ = ∑ p, f p := by
  rw [Finset.sum_comm]
  refine Eq.trans ?_ (Fin.sum_mul_add_fin 64 256 f)
  refine Finset.sum_congr rfl fun j _ => ?_
  rw [Finset.sum_comm]
  exact Fin.sum_mul_add_fin 32 8 fun q : Fin 256 => f ⟨j.val * 256 + q.val, by omega⟩

end Ffn

end
-- ==== Proof.Ffn.Arrays.lean ====
/- The arrays the region leaves: every grid point's input blocks hold the tokens' rows of the real arrays, and the output
   arrays are the sub-layer's gradients. -/
module

public import proofs.«01_k».proof.Proof.Ffn.Entry
public import proofs.«01_k».proof.Proof.Ffn.Acc
public import Idealize.ShloMosaic.Lib.Pipeline.ValueKit.Geometry

@[expose] public section

set_option maxRecDepth 16384

noncomputable section

open Idealize.ShloMosaic Idealize.ShloMosaic.Tactic Cert.KernelIdeal Cert.KernelIdeal.Gen

namespace Ffn

theorem points : cfg0.N = 64 := by decide +kernel

/-- Token `q` of block `t`. -/
def tok (t : Fin cfg0.N) (q : Fin 256) : Fin 16384 := ⟨t.val * 256 + q.val, by have := lt_of_lt_of_eq t.isLt points; omega⟩

/-- The real numbers in the blocks of grid point `t`. -/
def Args.blk (A : Args) (t : Fin cfg0.N) : Blk where
  ct q := A.ct (tok t q)
  o q := A.o (tok t q)
  gpost := A.gpost
  wd := A.wd
  silu q := A.silu (tok t q)
  dact q := A.dact (tok t q)
  x q := A.x (tok t q)
  gpre := A.gpre
  wg f d := A.wg d f
  wu f d := A.wu d f

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![t.val, 0] := (by decide +kernel : ∀ t : Fin grid0.N, _)
theorem at12 : ∀ t : Fin cfg0.N, win0_12.index t = ![t.val, 0] := (by decide +kernel : ∀ t : Fin grid0.N, _)
theorem at13 : ∀ t : Fin cfg0.N, win0_13.index t = ![t.val, 0] := (by decide +kernel : ∀ t : Fin grid0.N, _)
theorem at14 : ∀ t : Fin cfg0.N, win0_14.index t = ![t.val, 0] := (by decide +kernel : ∀ t : Fin grid0.N, _)
theorem at15 : ∀ t : Fin cfg0.N, win0_15.index t = ![t.val, 0] := (by decide +kernel : ∀ t : Fin grid0.N, _)

/-- Two reads of one real array at equal coordinates. -/
theorem E2_at {a b a' b' : ℕ} (r : Fin a → Fin b → ℝ) (r' : Fin a' → Fin b' → ℝ) (i : (⟨2, ![a, b]⟩ : Shape).Idx) (i' : (⟨2, ![a', b']⟩ : Shape).Idx)
    (h : r (i 0) (i 1) = r' (i' 0) (i' 1)) : (E2 r : FVec Ideal ⟨2, ![a, b]⟩ .f32) i = (E2 r' : FVec Ideal ⟨2, ![a', b']⟩ .f32) i' :=
  congrArg _ h

variable {m : (ℓ : Loc nD τ Cert.KernelIdeal.sig) → Buf (Elt Ideal) ℓ} {c : Dev nD} {A : Args} (H : HoldsArgs m c A)
include H

set_option maxHeartbeats 2000000 in
theorem holds (t : Fin cfg0.N) : HoldsBlk m c t (A.blk t) where
  h0 := by
    funext y
    blk_simp [iblk]
    rw [V_ct H]
    refine E2_at _ _ _ _ (congrArg₂ A.ct (Fin.ext ?_) (Fin.ext ?_)) <;> blk_simp [at0]
    rfl
  h1 := by
    funext y
    blk_simp [iblk]
    rw [V_o H]
    refine E2_at _ _ _ _ (congrArg₂ A.o (Fin.ext ?_) (Fin.ext ?_)) <;> blk_simp [at1]
    rfl
  h2 := by
    funext y
    blk_simp [iblk]
    rw [V_gpost H]
    refine E2_at _ _ _ _ (congrArg A.gpost (Fin.ext ?_)) <;> blk_simp [at2]
  h3 := by
    funext y
    blk_simp [iblk]
    rw [V_down H]
    refine E2_at _ _ _ _ (congrArg₂ A.wd (Fin.ext ?_) (Fin.ext ?_)) <;> blk_simp [at3]
  h4 := by
    funext y
    blk_simp [iblk]
    rw [V_silu H]
    refine E2_at _ _ _ _ (congrArg₂ A.silu (Fin.ext ?_) (Fin.ext ?_)) <;> blk_simp [at4]
    rfl
  h5 := by
    funext y
    blk_simp [iblk]
    rw [V_dact H]
    refine E2_at _ _ _ _ (congrArg₂ A.dact (Fin.ext ?_) (Fin.ext ?_)) <;> blk_simp [at5]
    rfl
  h6 := by
    funext y
    blk_simp [iblk]
    rw [V_x H]
    refine E2_at _ _ _ _ (congrArg₂ A.x (Fin.ext ?_) (Fin.ext ?_)) <;> blk_simp [at6]
    rfl
  h7 := by
    funext y
    blk_simp [iblk]
    rw [V_gpre H]
    refine E2_at _ _ _ _ (congrArg A.gpre (Fin.ext ?_)) <;> blk_simp [at7]
  h8 := by
    funext y
    blk_simp [iblk]
    rw [V_gate H]
    refine E2_at _ _ _ _ (congrArg₂ (fun f d => A.wg d f) (Fin.ext ?_) (Fin.ext ?_)) <;> blk_simp [at8]
  h9 := by
    funext y
    blk_simp [iblk]
    rw [V_up H]
    refine E2_at _ _ _ _ (congrArg₂ (fun f d => A.wu d f) (Fin.ext ?_) (Fin.ext ?_)) <;> blk_simp [at9]

theorem arr10 : (dats m 0 c).arrAt 10 cfg0.N = (E2 A.dm : FVec Ideal S16384x1024 .bf16) := by
  refine (dats m 0 c).arrAt_eq_of_covers 10 _ (by decide +kernel) fun t hf y => ?_
  blk_simp
  rw [after0_10, out10 (holds H t)]
  refine E2_at _ _ _ _ (congrArg₂ A.dm (Fin.ext ?_) (Fin.ext ?_)) <;> blk_simp [at10]
  rfl

theorem arr12 : (dats m 0 c).arrAt 12 cfg0.N = (E2 A.dgate : FVec Ideal S16384x2816 .bf16) := by
  refine (dats m 0 c).arrAt_eq_of_covers 12 _ (by decide +kernel) fun t hf y => ?_
  blk_simp
  rw [after0_12, out12 (holds H t)]
  refine E2_at _ _ _ _ (congrArg₂ A.dgate (Fin.ext ?_) (Fin.ext ?_)) <;> blk_simp [at12]
  rfl

theorem arr13 : (dats m 0 c).arrAt 13 cfg0.N = (E2 A.dup : FVec Ideal S16384x2816 .bf16) := by
  refine (dats m 0 c).arrAt_eq_of_covers 13 _ (by decide +kernel) fun t hf y => ?_
  blk_simp
  rw [after0_13, out13 (holds H t)]
  refine E2_at _ _ _ _ (congrArg₂ A.dup (Fin.ext ?_) (Fin.ext ?_)) <;> blk_simp [at13]
  rfl

theorem arr14 : (dats m 0 c).arrAt 14 cfg0.N = (E2 A.dx : FVec Ideal S16384x1024 .f32) := by
  refine (dats m 0 c).arrAt_eq_of_covers 14 _ (by decide +kernel) fun t hf y => ?_
  blk_simp
  rw [after0_14, out14 (holds H t)]
  refine E2_at _ _ _ _ (congrArg₂ A.dx (Fin.ext ?_) (Fin.ext ?_)) <;> blk_simp [at14]
  rfl

theorem arr15 : (dats m 0 c).arrAt 15 cfg0.N = (E2 A.hn : FVec Ideal S16384x1024 .bf16) := by
  refine (dats m 0 c).arrAt_eq_of_covers 15 _ (by decide +kernel) fun t hf y => ?_
  blk_simp
  rw [after0_15, out15 (holds H t)]
  refine E2_at _ _ _ _ (congrArg₂ A.hn (Fin.ext ?_) (Fin.ext ?_)) <;> blk_simp [at15]
  rfl

/-- The last grid point. -/
def lastPoint : Fin cfg0.N := ⟨63, by rw [points]; decide⟩

theorem arr11 : (dats m 0 c).arrAt 11 cfg0.N
    = (E2 fun s d => ∑ j : Fin 64, (A.blk (upto lastPoint.isLt j)).gpostPart s d : FVec Ideal S8x1024 .f32) := by
  refine (dats m 0 c).arrAt_eq_of_after_last 11 lastPoint (by decide +kernel) _ fun j => ?_
  blk_simp
  rw [after0_11, out11 (fun t => holds H t)]
  rfl

theorem sum_gpost (d : Fin 1024) : ∑ s : Fin 8, ∑ j : Fin 64, (A.blk (upto lastPoint.isLt j)).gpostPart s d = A.dgpost d :=
  sum_tokens (fun p => A.dgpostAt p d) fun s j k => by omega

theorem arr16 : (dats m 0 c).arrAt 16 cfg0.N
    = (E2 fun s d => ∑ j : Fin 64, (A.blk (upto lastPoint.isLt j)).gprePart s d : FVec Ideal S8x1024 .f32) := by
  refine (dats m 0 c).arrAt_eq_of_after_last 16 lastPoint (by decide +kernel) _ fun j => ?_
  blk_simp
  rw [after0_16, out16 (fun t => holds H t)]
  rfl

theorem sum_gpre (d : Fin 1024) : ∑ s : Fin 8, ∑ j : Fin 64, (A.blk (upto lastPoint.isLt j)).gprePart s d = A.dgpre d :=
  sum_tokens (fun p => A.dgpreAt p d) fun s j k => by omega

end Ffn

end
-- ==== Proof.Ffn.KernelRun.lean ====
/- The kernel's run: from arguments that are real numbers, its results are the sub-layer's gradients. -/
module

public import proofs.«01_k».proof.Proof.Ffn.Arrays

@[expose] public section

set_option maxRecDepth 16384

noncomputable section

open Idealize.ShloMosaic Idealize.ShloMosaic.Tactic Idealize.SL.Sem Cert.KernelIdeal Cert.KernelIdeal.Gen

namespace Ffn

variable {m : (ℓ : Loc nD τ Cert.KernelIdeal.sig) → Buf (Elt Ideal) ℓ} {A : Dev nD → Args}

/-- The core's buffers as the region leaves them. -/
abbrev exitContents (m : (ℓ : Loc nD τ Cert.KernelIdeal.sig) → Buf (Elt Ideal) ℓ) (c : Dev nD) : Valuation τ Cert.KernelIdeal.sig (Elt Ideal) :=
  Pipeline.withArrays spec0 c (V0 m c) fun w => (dats m 0 c).arrAt w cfg0.N

theorem arr_inj : Function.Injective (Pipeline.arrRef spec0) := by decide +kernel

theorem tail_eq (c : Dev nD) (b : Ref Cert.KernelIdeal.sig .tc) :
    Pipeline.afterTail₀ cfgs (dats m) 0 (V0 m) [hostOps1] c b = StableHlo.after hostOps1 (exitContents m c) (Proc.devRef .tc b) := by
  have h : ([hostOps1] : List (List (HloOp τ Cert.KernelIdeal.sig (Elt Ideal)))).flatten = hostOps1 := by
    simp only [List.flatten_cons, List.flatten_nil, List.append_nil]
  show StableHlo.after ([hostOps1] : List (List (HloOp τ Cert.KernelIdeal.sig (Elt Ideal)))).flatten _ _ = _
  rw [h]

theorem exit_v38_1 (c : Dev nD) (H : HoldsArgs m c (A c)) : (exitContents m c (Proc.devRef .tc main_v38_1) : FVec Ideal S8x1024 .f32)
    = E2 fun s d => ∑ j : Fin 64, ((A c).blk (upto lastPoint.isLt j)).gpostPart s d :=
  (Pipeline.withArrays_arr spec0 arr_inj c (V0 m c) (fun w => (dats m 0 c).arrAt w cfg0.N) 11).trans (arr11 H)

theorem exit_v38_6 (c : Dev nD) (H : HoldsArgs m c (A c)) : (exitContents m c (Proc.devRef .tc main_v38_6) : FVec Ideal S8x1024 .f32)
    = E2 fun s d => ∑ j : Fin 64, ((A c).blk (upto lastPoint.isLt j)).gprePart s d :=
  (Pipeline.withArrays_arr spec0 arr_inj c (V0 m c) (fun w => (dats m 0 c).arrAt w cfg0.N) 16).trans (arr16 H)

/-- The second gain's gradient: the eight rows the region leaves, summed. -/
theorem tail_v39 (c : Dev nD) (H : HoldsArgs m c (A c)) :
    (Pipeline.afterTail₀ cfgs (dats m) 0 (V0 m) [hostOps1] c main_v39 : FVec Ideal S1024 .f32) = E1 (A c).dgpost := by
  rw [tail_eq]
  unfold hostOps1
  entry_read
  rw [exit_v38_1 c H]
  erw [E2_hostColSum _ reducesTo_S8x1024_S1024_d0 (by decide +kernel) h_S_]
  exact congrArg E1 (funext fun d => sum_gpost H d)

/-- The first gain's gradient. -/
theorem tail_v40 (c : Dev nD) (H : HoldsArgs m c (A c)) :
    (Pipeline.afterTail₀ cfgs (dats m) 0 (V0 m) [hostOps1] c main_v40 : FVec Ideal S1024 .f32) = E1 (A c).dgpre := by
  rw [tail_eq]
  unfold hostOps1
  entry_read
  rw [exit_v38_6 c H]
  erw [E2_hostColSum _ reducesTo_S8x1024_S1024_d0 (by decide +kernel) h_S_]
  exact congrArg E1 (funext fun d => sum_gpre H d)

theorem kernel_run (ρ : Dev nD → PrngReg) (H : ∀ c, HoldsArgs m c (A c)) :
    θ_run (defs (F := Ideal)) (onTc (τ := τ) (main (F := Ideal))) ⟨m, fun _ => 0, ρ⟩ fun r => ∀ c : Dev nD,
      r.2.mem ((c.tc : Thread nD τ).loc main_v38_0) = (E2 (A c).dm : FVec Ideal S16384x1024 .bf16)
      ∧ r.2.mem ((c.tc : Thread nD τ).loc main_v39) = (E1 (A c).dgpost : FVec Ideal S1024 .f32)
      ∧ r.2.mem ((c.tc : Thread nD τ).loc main_v38_2) = (E2 (A c).dgate : FVec Ideal S16384x2816 .bf16)
      ∧ r.2.mem ((c.tc : Thread nD τ).loc main_v38_3) = (E2 (A c).dup : FVec Ideal S16384x2816 .bf16)
      ∧ r.2.mem ((c.tc : Thread nD τ).loc main_v38_4) = (E2 (A c).dx : FVec Ideal S16384x1024 .f32)
      ∧ r.2.mem ((c.tc : Thread nD τ).loc main_v38_5) = (E2 (A c).hn : FVec Ideal S16384x1024 .bf16)
      ∧ r.2.mem ((c.tc : Thread nD τ).loc main_v40) = (E1 (A c).dgpre : FVec Ideal S1024 .f32) :=
  (θ_run _ _ _).mono (fun r h c => ⟨(h.out_eq c 10).trans (arr10 (H c)), (h.rest_eq c main_v39 (by decide +kernel)).trans (tail_v39 c (H c)),
    (h.out_eq c 12).trans (arr12 (H c)), (h.out_eq c 13).trans (arr13 (H c)), (h.out_eq c 14).trans (arr14 (H c)),
    (h.out_eq c 15).trans (arr15 (H c)), (h.rest_eq c main_v40 (by decide +kernel)).trans (tail_v40 c (H c))⟩) (run_main m ρ)

end Ffn

end
-- ==== Proof.Ffn.Ref.lean ====
/- What the reference computes at real arguments: each of its operations, read at an index, as the sub-layer's gradient
   over the real numbers. -/
module

public import proofs.«01_k».proof.Proof.Ffn.Real
public import proofs.«01_k».proof.Proof.Gen.ReferenceIdeal.Read

@[expose] public section

set_option maxRecDepth 16384

noncomputable section

namespace Ffn.Ref

open Idealize.ShloMosaic Cert.ReferenceIdeal Cert.ReferenceIdeal.Gen Cert.ReferenceIdeal.Read

variable (A : Args)

/-- The arguments as the program's arrays. -/
abbrev X0 : (⟨S16384x1024, .f32⟩ : BufTy).Contents (Elt Ideal) := fun i => ((A.x (i 0) (i 1) : ℝ) : EReal)
abbrev X1 : (⟨S1024, .f32⟩ : BufTy).Contents (Elt Ideal) := fun i => ((A.gpre (i 0) : ℝ) : EReal)
abbrev X2 : (⟨S1024, .f32⟩ : BufTy).Contents (Elt Ideal) := fun i => ((A.gpost (i 0) : ℝ) : EReal)
abbrev X3 : (⟨S1024x2816, .f32⟩ : BufTy).Contents (Elt Ideal) := fun i => ((A.wg (i 0) (i 1) : ℝ) : EReal)
abbrev X4 : (⟨S1024x2816, .f32⟩ : BufTy).Contents (Elt Ideal) := fun i => ((A.wu (i 0) (i 1) : ℝ) : EReal)
abbrev X5 : (⟨S2816x1024, .f32⟩ : BufTy).Contents (Elt Ideal) := fun i => ((A.wd (i 0) (i 1) : ℝ) : EReal)
abbrev X6 : (⟨S16384x1024, .f32⟩ : BufTy).Contents (Elt Ideal) := fun i => ((A.ct (i 0) (i 1) : ℝ) : EReal)

/-! ### The forward pass -/

theorem v8 (i : S16384x1.Idx) : val_main_v8 (F := Ideal) (X0 A) i = ((ms (A.x (i 0)) : ℝ) : EReal) := by
  simp only [val_main_v8_apply, val_main_v6_apply, val_main_v7_apply, val_main_cst_3_apply, val_main_v5_apply, val_main_cst_2_apply,
    val_main_v4_apply, val_main_v3_apply, val_main_cst_1_apply, val_main_v2_apply, Ideal.mulf_def, Ideal.addf_def, Ideal.hostDivf_def,
    Ideal.ofBits_def, Ideal.ofBits_zero_f32, ofBits_1024, ofBits_eps, ← EReal.coe_mul, sum_coe, zero_add, ← EReal.coe_add,
    div_coe _ (show (1024 : ℝ) ≠ 0 by norm_num)]
  rfl

theorem v9 (i : S16384x1.Idx) : val_main_v9 (F := Ideal) (X0 A) i = ((rstd (A.x (i 0)) : ℝ) : EReal) := by
  simp only [val_main_v9_apply, v8, Ideal.hostUnary_rsqrt_def, rsqrt_coe (ms_pos _)]
  rfl

theorem v12 (i : S16384x1.Idx) :
    val_main_v12 (F := Ideal) (X0 A) i = ((-(1 / 2) * (rstd (A.x (i 0)) / ms (A.x (i 0))) : ℝ) : EReal) := by
  simp only [val_main_v12_apply, val_main_v11_apply, val_main_cst_4_apply, val_main_v10_apply, v8, v9, Ideal.hostDivf_def, Ideal.mulf_def,
    Ideal.ofBits_def, ofBits_neg_half, div_coe _ (ms_pos _).ne', ← EReal.coe_mul]

theorem v14 (i : S16384x1024.Idx) :
    val_main_v14 (F := Ideal) (X0 A) i = ((A.x (i 0) (i 1) * rstd (A.x (i 0)) : ℝ) : EReal) := by
  simp only [val_main_v14_apply, val_main_v13_apply, v9, Ideal.mulf_def, ← EReal.coe_mul]
  rfl

theorem v17 (i : S16384x1024.Idx) : val_main_v17 (F := Ideal) (X0 A) (X1 A) i = ((A.hn (i 0) (i 1) : ℝ) : EReal) := by
  simp only [val_main_v17_apply, v14, val_main_v16_apply, val_main_v15_apply, Ideal.mulf_def, ← EReal.coe_mul]
  rfl

theorem v19 (i : S16384x2816.Idx) : val_main_v19 (F := Ideal) (X0 A) (X1 A) (X3 A) i = ((A.gate (i 0) (i 1) : ℝ) : EReal) := by
  simp only [val_main_v19_apply, val_main_v18_apply, v17, val_main_v0_apply, val_main_cst_apply, Ideal.addf_def, Ideal.ofBits_def,
    Ideal.ofBits_zero_f32, ← EReal.coe_mul, sum_coe, add_zero]
  rfl

theorem v21 (i : S16384x2816.Idx) : val_main_v21 (F := Ideal) (X0 A) (X1 A) (X4 A) i = ((A.up (i 0) (i 1) : ℝ) : EReal) := by
  simp only [val_main_v21_apply, val_main_v20_apply, v17, val_main_v0_apply, val_main_cst_apply, Ideal.addf_def, Ideal.ofBits_def,
    Ideal.ofBits_zero_f32, ← EReal.coe_mul, sum_coe, add_zero]
  rfl

theorem v22_2 (i : S16384x2816.Idx) :
    val_main_v22_2 (F := Ideal) (X0 A) (X1 A) (X3 A) i = ((sigm (A.gate (i 0) (i 1)) : ℝ) : EReal) := by
  simp only [val_main_v22_2_apply, val_main_call0_v4_apply, val_main_call0_cst_0_apply, val_main_call0_v3_apply, val_main_call0_v2_apply,
    val_main_call0_cst_apply, val_main_call0_v1_apply, val_main_call0_v0_apply, v19, Ideal.hostDivf_def, Ideal.ofBits_def, ofBits_one,
    Ideal.addf_def, Ideal.hostUnary_exp_def, Ideal.hostNegf_def, Ideal.negf_def, ← EReal.coe_neg, exp_coe, ← EReal.coe_add,
    div_coe _ (one_add_exp_ne _)]
  rfl

theorem v22_1 (i : S16384x2816.Idx) : val_main_v22_1 (F := Ideal) (X0 A) (X1 A) (X3 A) i
    = ((sigm (A.gate (i 0) (i 1)) * (1 - sigm (A.gate (i 0) (i 1))) : ℝ) : EReal) := by
  simp only [val_main_v22_1_apply, v22_2, val_main_call0_v7_apply, val_main_call0_v6_apply, val_main_call0_cst_1_apply, Ideal.ofBits_def,
    ofBits_one, Ideal.subf_def, Ideal.mulf_def, ← EReal.coe_sub, ← EReal.coe_mul]

theorem v22_0 (i : S16384x2816.Idx) : val_main_v22_0 (F := Ideal) (X0 A) (X1 A) (X3 A) i = ((A.silu (i 0) (i 1) : ℝ) : EReal) := by
  simp only [val_main_v22_0_apply, v19, v22_2, Ideal.mulf_def, ← EReal.coe_mul]
  rfl

theorem v25 (i : S16384x1024.Idx) :
    val_main_v25 (F := Ideal) (X0 A) (X1 A) (X3 A) (X4 A) (X5 A) i = ((A.o (i 0) (i 1) : ℝ) : EReal) := by
  simp only [val_main_v25_apply, val_main_v24_apply, val_main_v23_apply, v22_0, v21, val_main_v1_apply, val_main_cst_0_apply,
    Ideal.mulf_def, Ideal.addf_def, Ideal.ofBits_def, Ideal.ofBits_zero_f32, ← EReal.coe_mul, sum_coe, add_zero]
  rfl

/-! ### The gradient -/

theorem v32 (i : S16384x1.Idx) :
    val_main_v32 (F := Ideal) (X0 A) (X1 A) (X3 A) (X4 A) (X5 A) i = ((ms (A.o (i 0)) : ℝ) : EReal) := by
  simp only [val_main_v32_apply, val_main_v31_apply, val_main_cst_7_apply, val_main_v30_apply, val_main_v29_apply, val_main_cst_6_apply,
    val_main_v28_apply, val_main_v27_apply, val_main_cst_5_apply, val_main_v26_apply, v25, Ideal.mulf_def, Ideal.addf_def, Ideal.hostDivf_def,
    Ideal.ofBits_def, Ideal.ofBits_zero_f32, ofBits_1024, ofBits_eps, ← EReal.coe_mul, sum_coe, zero_add, ← EReal.coe_add,
    div_coe _ (show (1024 : ℝ) ≠ 0 by norm_num)]
  rfl

theorem v33 (i : S16384x1.Idx) :
    val_main_v33 (F := Ideal) (X0 A) (X1 A) (X3 A) (X4 A) (X5 A) i = ((rstd (A.o (i 0)) : ℝ) : EReal) := by
  simp only [val_main_v33_apply, v32, Ideal.hostUnary_rsqrt_def, rsqrt_coe (ms_pos _)]
  rfl

theorem v36 (i : S16384x1.Idx) : val_main_v36 (F := Ideal) (X0 A) (X1 A) (X3 A) (X4 A) (X5 A) i
    = ((-(1 / 2) * (rstd (A.o (i 0)) / ms (A.o (i 0))) : ℝ) : EReal) := by
  simp only [val_main_v36_apply, val_main_v35_apply, val_main_cst_8_apply, val_main_v34_apply, v32, v33, Ideal.hostDivf_def, Ideal.mulf_def,
    Ideal.ofBits_def, ofBits_neg_half, div_coe _ (ms_pos _).ne', ← EReal.coe_mul]

theorem idx_v45 (i : S16384x1024.Idx) : idx_main_v45 i = i := by
  have h1 : (i 1).val < 1024 := (i 1).isLt
  funext a
  match a with
  | ⟨0, _⟩ => exact Fin.ext (show ((i 0).val * 1024 + (i 1).val) / 1024 = (i 0).val by omega)
  | ⟨1, _⟩ => exact Fin.ext (show ((i 0).val * 1024 + (i 1).val) % 1024 = (i 1).val by omega)

theorem v47 (i : S16384x1024.Idx) : val_main_v47 (F := Ideal) (X6 A) i = ((1 / 2 * A.ct (i 0) (i 1) : ℝ) : EReal) := by
  simp only [val_main_v47_apply, val_main_v46_apply, val_main_cst_10_apply, val_main_v45_apply, idx_v45, Ideal.ofBits_def, ofBits_half,
    Ideal.mulf_def, ← EReal.coe_mul]

theorem v49 (i : S1024.Idx) : val_main_v49 (F := Ideal) (X0 A) (X1 A) (X3 A) (X4 A) (X5 A) (X6 A) i = ((A.dgpost (i 0) : ℝ) : EReal) := by
  simp only [val_main_v49_apply, val_main_cst_11_apply, val_main_v48_apply, val_main_v38_apply, v25, val_main_v37_apply, v33, v47,
    Ideal.ofBits_def, Ideal.ofBits_zero_f32, Ideal.mulf_def, ← EReal.coe_mul, sum_coe, zero_add]
  exact congrArg (fun r : ℝ => (r : EReal)) (Finset.sum_congr rfl fun p _ => (mul_comm _ _).trans rfl)

/-- A row vector's second coordinate is its position. -/
theorem row_pos (i : S1x1024.Idx) : (i 0).val * 1024 + (i 1).val = (i 1).val := by
  have h0 : (i 0).val < 1 := (i 0).isLt
  omega

/-- A column vector's first coordinate is its position. -/
theorem col_pos (i : S16384x1.Idx) : (i 0).val * 1 + (i 1).val = (i 0).val := by
  have h1 : (i 1).val < 1 := (i 1).isLt
  omega

theorem v53 (i : S1024.Idx) : val_main_v53 (F := Ideal) (X0 A) (X1 A) (X3 A) (X4 A) (X5 A) (X6 A) i = ((A.dgpost (i 0) : ℝ) : EReal) := by
  have h : idx_main_v50 (idx_main_v53 i 0) 0 = i 0 := Fin.ext (row_pos (idx_main_v53 i 0))
  simp only [val_main_v53_apply, val_main_cst_12_apply, val_main_v50_apply, v49, Ideal.ofBits_def, Ideal.ofBits_zero_f32, zero_add,
    Fin.sum_univ_one]
  rw [h]

theorem v52 (i : S16384x1024.Idx) : val_main_v52 (F := Ideal) (X2 A) (X6 A) i = ((A.dmh (i 0) (i 1) : ℝ) : EReal) := by
  simp only [val_main_v52_apply, v47, val_main_v51_apply, val_main_v39_apply, Ideal.mulf_def, ← EReal.coe_mul]
  rfl

theorem v56 (i : S16384x1.Idx) : val_main_v56 (F := Ideal) (X0 A) (X1 A) (X2 A) (X3 A) (X4 A) (X5 A) (X6 A) i
    = ((∑ e, A.o (i 0) e * A.dmh (i 0) e : ℝ) : EReal) := by
  have h : idx_main_v56 i 0 = i 0 := Fin.ext (col_pos i)
  simp only [val_main_v56_apply, val_main_v55_apply, val_main_cst_13_apply, val_main_v54_apply, v25, v52, Ideal.ofBits_def,
    Ideal.ofBits_zero_f32, Ideal.mulf_def, ← EReal.coe_mul, sum_coe, zero_add]
  rw [← h]
  rfl

theorem v63 (i : S16384x1024.Idx) : val_main_v63 (F := Ideal) (X0 A) (X1 A) (X2 A) (X3 A) (X4 A) (X5 A) (X6 A) i
    = (((∑ e, A.o (i 0) e * A.dmh (i 0) e) * (-(1 / 2) * (rstd (A.o (i 0)) / ms (A.o (i 0)))) / 1024 : ℝ) : EReal) := by
  simp only [val_main_v63_apply, val_main_v62_apply, val_main_cst_15_apply, val_main_v61_apply, val_main_v60_apply, val_main_cst_14_apply,
    val_main_v59_apply, v36, v56, Ideal.hostDivf_def, Ideal.ofBits_def, Ideal.ofBits_zero_f32, ofBits_1024, Ideal.mulf_def,
    ← EReal.coe_mul, zero_add, div_coe _ (show (1024 : ℝ) ≠ 0 by norm_num), Fin.sum_univ_one]
  rfl

theorem v67 (i : S16384x1024.Idx) :
    val_main_v67 (F := Ideal) (X0 A) (X1 A) (X2 A) (X3 A) (X4 A) (X5 A) (X6 A) i = ((A.dm (i 0) (i 1) : ℝ) : EReal) := by
  simp only [val_main_v67_apply, val_main_v66_apply, val_main_v65_apply, val_main_v64_apply, val_main_v58_apply, val_main_v57_apply, v25, v33,
    v52, v63, Ideal.mulf_def, Ideal.addf_def, ← EReal.coe_mul, ← EReal.coe_add]
  exact congrArg _ (rmsGrad_eq (A.o (i 0)) (A.dmh (i 0)) (i 1))

theorem v68 (i : S16384x2816.Idx) :
    val_main_v68 (F := Ideal) (X0 A) (X1 A) (X2 A) (X3 A) (X4 A) (X5 A) (X6 A) i = ((A.da (i 0) (i 1) : ℝ) : EReal) := by
  simp only [val_main_v68_apply, v67, ← EReal.coe_mul, sum_coe]
  rfl

theorem v69 (i : S16384x2816.Idx) :
    val_main_v69 (F := Ideal) (X0 A) (X1 A) (X2 A) (X3 A) (X4 A) (X5 A) (X6 A) i = ((A.dup (i 0) (i 1) : ℝ) : EReal) := by
  simp only [val_main_v69_apply, v22_0, v68, Ideal.mulf_def, ← EReal.coe_mul]
  exact congrArg _ (mul_comm _ _)

theorem v71 (i : S16384x2816.Idx) :
    val_main_v71 (F := Ideal) (X0 A) (X1 A) (X2 A) (X3 A) (X4 A) (X5 A) (X6 A) i = ((A.dgate (i 0) (i 1) : ℝ) : EReal) := by
  simp only [val_main_v71_apply, val_main_call1_v1_apply, val_main_call1_v2_apply, val_main_call1_v0_apply, val_main_v70_apply, v19, v21,
    v22_1, v22_2, v68, Ideal.mulf_def, Ideal.addf_def, ← EReal.coe_mul, ← EReal.coe_add]
  refine congrArg _ ?_
  simp only [Args.dgate, Args.dact, Args.silu]
  ring

theorem v74 (i : S16384x1024.Idx) :
    val_main_v74 (F := Ideal) (X0 A) (X1 A) (X2 A) (X3 A) (X4 A) (X5 A) (X6 A) i = ((A.dh (i 0) (i 1) : ℝ) : EReal) := by
  simp only [val_main_v74_apply, val_main_v72_apply, val_main_v73_apply, v69, v71, Ideal.addf_def, ← EReal.coe_mul, sum_coe,
    ← EReal.coe_add]
  exact congrArg _ (add_comm _ _)

theorem v76 (i : S1024.Idx) : val_main_v76 (F := Ideal) (X0 A) (X1 A) (X2 A) (X3 A) (X4 A) (X5 A) (X6 A) i = ((A.dgpre (i 0) : ℝ) : EReal) := by
  simp only [val_main_v76_apply, val_main_cst_16_apply, val_main_v75_apply, v14, v74, Ideal.ofBits_def, Ideal.ofBits_zero_f32,
    Ideal.mulf_def, ← EReal.coe_mul, sum_coe, zero_add]
  exact congrArg (fun r : ℝ => (r : EReal)) (Finset.sum_congr rfl fun p _ => (mul_comm _ _).trans rfl)

theorem v80 (i : S1024.Idx) : val_main_v80 (F := Ideal) (X0 A) (X1 A) (X2 A) (X3 A) (X4 A) (X5 A) (X6 A) i = ((A.dgpre (i 0) : ℝ) : EReal) := by
  have h : idx_main_v77 (idx_main_v80 i 0) 0 = i 0 := Fin.ext (row_pos (idx_main_v80 i 0))
  simp only [val_main_v80_apply, val_main_cst_17_apply, val_main_v77_apply, v76, Ideal.ofBits_def, Ideal.ofBits_zero_f32, zero_add,
    Fin.sum_univ_one]
  rw [h]

theorem v79 (i : S16384x1024.Idx) : val_main_v79 (F := Ideal) (X0 A) (X1 A) (X2 A) (X3 A) (X4 A) (X5 A) (X6 A) i
    = ((A.dh (i 0) (i 1) * A.gpre (i 1) : ℝ) : EReal) := by
  simp only [val_main_v79_apply, v74, val_main_v78_apply, val_main_v15_apply, Ideal.mulf_def, ← EReal.coe_mul]
  rfl

theorem v83 (i : S16384x1.Idx) : val_main_v83 (F := Ideal) (X0 A) (X1 A) (X2 A) (X3 A) (X4 A) (X5 A) (X6 A) i
    = ((∑ e, A.x (i 0) e * (A.dh (i 0) e * A.gpre e) : ℝ) : EReal) := by
  have h : idx_main_v83 i 0 = i 0 := Fin.ext (col_pos i)
  simp only [val_main_v83_apply, val_main_v82_apply, val_main_cst_18_apply, val_main_v81_apply, v79, Ideal.ofBits_def,
    Ideal.ofBits_zero_f32, Ideal.mulf_def, ← EReal.coe_mul, sum_coe, zero_add]
  rw [← h]
  rfl

theorem v91 (i : S16384x1024.Idx) : val_main_v91 (F := Ideal) (X0 A) (X1 A) (X2 A) (X3 A) (X4 A) (X5 A) (X6 A) i
    = (((∑ e, A.x (i 0) e * (A.dh (i 0) e * A.gpre e)) * (-(1 / 2) * (rstd (A.x (i 0)) / ms (A.x (i 0)))) / 1024 : ℝ) : EReal) := by
  simp only [val_main_v91_apply, val_main_v90_apply, val_main_cst_20_apply, val_main_v89_apply, val_main_v88_apply, val_main_cst_19_apply,
    val_main_v87_apply, v12, v83, Ideal.hostDivf_def, Ideal.ofBits_def, Ideal.ofBits_zero_f32, ofBits_1024, Ideal.mulf_def,
    ← EReal.coe_mul, zero_add, div_coe _ (show (1024 : ℝ) ≠ 0 by norm_num), Fin.sum_univ_one]
  rfl

theorem v95 (i : S16384x1024.Idx) :
    val_main_v95 (F := Ideal) (X0 A) (X1 A) (X2 A) (X3 A) (X4 A) (X5 A) (X6 A) i = ((A.dx (i 0) (i 1) : ℝ) : EReal) := by
  simp only [val_main_v95_apply, val_main_v94_apply, val_main_v93_apply, val_main_v92_apply, val_main_v86_apply, val_main_v85_apply,
    val_main_v84_apply, v9, v79, v91, Ideal.mulf_def, Ideal.addf_def, ← EReal.coe_mul, ← EReal.coe_add]
  refine congrArg _ ?_
  rw [add_assoc, add_assoc, ← add_assoc (_ * _)]
  exact congrArg _ (rmsGrad_eq (A.x (i 0)) (fun e => A.dh (i 0) e * A.gpre e) (i 1))

end Ffn.Ref

end
-- ==== Proof.Ffn.RefRun.lean ====
/- The reference's run: from arguments that are real numbers, its results are the sub-layer's gradients. -/
module

public import proofs.«01_k».proof.Proof.Ffn.Ref
public import proofs.«01_k».proof.Proof.Ffn.Ops
public import proofs.«01_k».proof.Proof.Gen.ReferenceIdeal.Run

@[expose] public section

set_option maxRecDepth 16384

noncomputable section

open Idealize.ShloMosaic Idealize.SL.Sem Cert.ReferenceIdeal Cert.ReferenceIdeal.Gen Cert.ReferenceIdeal.Read

namespace Ffn.Ref

variable {m : (ℓ : Loc nD τ Cert.ReferenceIdeal.sig) → Buf (Elt Ideal) ℓ} {A : Dev nD → Args}

/-- The device's arguments are the real numbers of `A`. -/
structure HoldsArgs (m : (ℓ : Loc nD τ Cert.ReferenceIdeal.sig) → Buf (Elt Ideal) ℓ) (c : Dev nD) (A : Args) : Prop where
  x : m ((c.tc : Thread nD τ).loc main_arg0) = X0 A
  gpre : m ((c.tc : Thread nD τ).loc main_arg1) = X1 A
  gpost : m ((c.tc : Thread nD τ).loc main_arg2) = X2 A
  wg : m ((c.tc : Thread nD τ).loc main_arg3) = X3 A
  wu : m ((c.tc : Thread nD τ).loc main_arg4) = X4 A
  wd : m ((c.tc : Thread nD τ).loc main_arg5) = X5 A
  ct : m ((c.tc : Thread nD τ).loc main_arg6) = X6 A

variable {c : Dev nD} {B : Args} (H : HoldsArgs m c B)
include H

theorem a0 : StableHlo.launchContents m c (Proc.devRef .tc main_arg0) = X0 B := H.x
theorem a1 : StableHlo.launchContents m c (Proc.devRef .tc main_arg1) = X1 B := H.gpre
theorem a2 : StableHlo.launchContents m c (Proc.devRef .tc main_arg2) = X2 B := H.gpost
theorem a3 : StableHlo.launchContents m c (Proc.devRef .tc main_arg3) = X3 B := H.wg
theorem a4 : StableHlo.launchContents m c (Proc.devRef .tc main_arg4) = X4 B := H.wu
theorem a5 : StableHlo.launchContents m c (Proc.devRef .tc main_arg5) = X5 B := H.wd
theorem a6 : StableHlo.launchContents m c (Proc.devRef .tc main_arg6) = X6 B := H.ct

omit H in
theorem reference_run (ρ : Dev nD → PrngReg) (H : ∀ c, HoldsArgs m c (A c)) :
    θ_run (defs (F := Ideal)) (onTc (τ := τ) (main (F := Ideal))) ⟨m, fun _ => 0, ρ⟩ fun r => ∀ c : Dev nD,
      r.2.mem ((c.tc : Thread nD τ).loc main_v96) = (E2 (A c).dm : FVec Ideal S16384x1024 .bf16)
      ∧ r.2.mem ((c.tc : Thread nD τ).loc main_v53) = (E1 (A c).dgpost : FVec Ideal S1024 .f32)
      ∧ r.2.mem ((c.tc : Thread nD τ).loc main_v97) = (E2 (A c).dgate : FVec Ideal S16384x2816 .bf16)
      ∧ r.2.mem ((c.tc : Thread nD τ).loc main_v98) = (E2 (A c).dup : FVec Ideal S16384x2816 .bf16)
      ∧ r.2.mem ((c.tc : Thread nD τ).loc main_v95) = (E2 (A c).dx : FVec Ideal S16384x1024 .f32)
      ∧ r.2.mem ((c.tc : Thread nD τ).loc main_v99) = (E2 (A c).hn : FVec Ideal S16384x1024 .bf16)
      ∧ r.2.mem ((c.tc : Thread nD τ).loc main_v80) = (E1 (A c).dgpre : FVec Ideal S1024 .f32) := by
  refine (θ_run _ _ _).mono (fun r h c => ?_) (Cert.ReferenceIdeal.Value.run m ρ)
  obtain ⟨h96, h53, h97, h98, h95, h99, h80, -⟩ := h c
  refine ⟨?_, ?_, ?_, ?_, ?_, ?_, ?_⟩
  · rw [h96, val_main_v96_eq, a0 (H c), a1 (H c), a2 (H c), a3 (H c), a4 (H c), a5 (H c), a6 (H c)]
    exact funext fun i => v67 (A c) i
  · rw [h53, val_main_v53_eq, a0 (H c), a1 (H c), a3 (H c), a4 (H c), a5 (H c), a6 (H c)]
    exact funext fun i => v53 (A c) i
  · rw [h97, val_main_v97_eq, a0 (H c), a1 (H c), a2 (H c), a3 (H c), a4 (H c), a5 (H c), a6 (H c)]
    exact funext fun i => v71 (A c) i
  · rw [h98, val_main_v98_eq, a0 (H c), a1 (H c), a2 (H c), a3 (H c), a4 (H c), a5 (H c), a6 (H c)]
    exact funext fun i => v69 (A c) i
  · rw [h95, val_main_v95_eq, a0 (H c), a1 (H c), a2 (H c), a3 (H c), a4 (H c), a5 (H c), a6 (H c)]
    exact funext fun i => v95 (A c) i
  · rw [h99, val_main_v99_eq, a0 (H c), a1 (H c)]
    exact funext fun i => v17 (A c) i
  · rw [h80, val_main_v80_eq, a0 (H c), a1 (H c), a2 (H c), a3 (H c), a4 (H c), a5 (H c), a6 (H c)]
    exact funext fun i => v80 (A c) i

end Ffn.Ref

end
-- ==== Proof.Ffn.Pre.lean ====
/- The precondition: every entry of every argument is finite, hence a real number. -/
module

public import proofs.«01_k».proof.Proof.Ffn.Ops
public import proofs.«01_k».proof.Proof.Gen.Pre_finite

@[expose] public section

noncomputable section

open Idealize.ShloMosaic

namespace Ffn

/-- An entry whose absolute value is below infinity is a real number. -/
theorem real_of_lt (x : Ideal .f32)
    (h : FloatOps.cmpf .olt (FloatOps.hostAbsf x) (FloatOps.ofBits (F := Ideal) .f32 0x7F800000#32) = 1#1) : ∃ r : ℝ, x = ((r : ℝ) : EReal) := by
  have htop : Ideal.ofBits .f32 0x7F800000#32 = ⊤ := by simp [Ideal.ofBits, Ideal.ieee]
  have hm : max (x : EReal) (-(x : EReal)) < ⊤ := by
    by_contra hn
    have : FloatOps.cmpf .olt (FloatOps.hostAbsf x) (FloatOps.ofBits (F := Ideal) .f32 0x7F800000#32) = 0#1 := by
      show Ideal.cmp .olt (max (x : EReal) (-(x : EReal))) (Ideal.ofBits .f32 0x7F800000#32) = 0#1
      rw [htop]
      simp [Ideal.cmp, hn]
    rw [this] at h
    exact absurd h (by decide)
  have h1 : (x : EReal) ≠ ⊤ := fun e => absurd (lt_of_le_of_lt (le_max_left _ _) hm) (by rw [e]; exact lt_irrefl _)
  have h2 : (x : EReal) ≠ ⊥ := fun e => absurd (lt_of_le_of_lt (le_max_right _ _) hm) (by rw [e, EReal.neg_bot]; exact lt_irrefl _)
  exact ⟨EReal.toReal x, (EReal.coe_toReal h1 h2).symm⟩

theorem E2_of_real {a b : ℕ} (x : FVec Ideal ⟨2, ![a, b]⟩ .f32) (h : ∀ i, ∃ r : ℝ, x i = ((r : ℝ) : EReal)) :
    ∃ r : Fin a → Fin b → ℝ, x = E2 r := by
  choose r hr using h
  refine ⟨fun p d => r (ValueIdx.ix2 p d), funext fun i => (hr i).trans ?_⟩
  refine congrArg (fun j => ((r j : ℝ) : EReal)) (funext fun k => ?_)
  match k with
  | ⟨0, _⟩ => rfl
  | ⟨1, _⟩ => rfl

theorem E1_of_real {a : ℕ} (x : FVec Ideal ⟨1, ![a]⟩ .f32) (h : ∀ i, ∃ r : ℝ, x i = ((r : ℝ) : EReal)) : ∃ r : Fin a → ℝ, x = E1 r := by
  choose r hr using h
  refine ⟨fun p => r (ValueIdx.ix1 p), funext fun i => (hr i).trans ?_⟩
  refine congrArg (fun j => ((r j : ℝ) : EReal)) (funext fun k => ?_)
  match k with
  | ⟨0, _⟩ => rfl

end Ffn

end
-- ==== Proof.Wgrad.Product.lean ====
/- A product contracted over the rows of both factors, as a sum over the extended reals: the kernel's on one block of rows, and
   the host's on the whole arrays. -/
module

public import proofs.«01_k».proof.Proof.Gen.Kernel2Ideal
public import proofs.«01_k».proof.Proof.Gen.Kernel2Ideal.Skeleton
public import proofs.«01_k».proof.Proof.Gen.Reference2Ideal
public import Idealize.ShloMosaic.PureOps.Ideal.Laws
public import Idealize.ShloMosaic.Lib.ValueIdx
public import Idealize.ShloMosaic.Lib.Pipeline.Value

@[expose] public section

set_option maxRecDepth 16384

noncomputable section

open Idealize.ShloMosaic

namespace Wgrad

/-- The sum over a product's one contracted axis, written over its positions. -/
theorem sum_contr {sl sr so : Shape} (D : DotDims sl sr so) (n : ℕ) (hr : D.contr.rank = 1) (hs : D.contr.size ⟨0, by omega⟩ = n)
    (L : sl.Idx → EReal) (R : sr.Idx → EReal) (j : so.Idx) (l : Fin n → sl.Idx) (r : Fin n → sr.Idx)
    (hl : ∀ q x, (D.lhsIdx j q x).val = (l (ValueIdx.contrEquiv1 D n hr hs q) x).val)
    (hr' : ∀ q x, (D.rhsIdx j q x).val = (r (ValueIdx.contrEquiv1 D n hr hs q) x).val) :
    ∑ q : D.contr.Idx, L (D.lhsIdx j q) * R (D.rhsIdx j q) = ∑ k, L (l k) * R (r k) := by
  rw [← Equiv.sum_comp (ValueIdx.contrEquiv1 D n hr hs)]
  refine Finset.sum_congr rfl fun q _ => ?_
  rw [show D.lhsIdx j q = l (ValueIdx.contrEquiv1 D n hr hs q) from funext fun x => Fin.ext (hl q x),
    show D.rhsIdx j q = r (ValueIdx.contrEquiv1 D n hr hs q) from funext fun x => Fin.ext (hr' q x)]

section Kernel

open Cert.Kernel2Ideal Cert.Kernel2Ideal.Gen

/-- What one grid point adds: the product of its 1024 rows of both arrays. -/
theorem step (acc : Vec Ideal S2816x1024 .f32) (a : Vec Ideal S1024x2816 .bf16) (b : Vec Ideal S1024x1024 .bf16) :
    k0_pay2 (F := Ideal) acc a b = fun i => acc i + ∑ k : Fin 1024, a (ValueIdx.ix2 k (i 0)) * b (ValueIdx.ix2 k (i 1)) := by
  simp only [k0_pay2, shapeCast_self]
  funext i
  refine congrArg (acc i + ·) ?_
  simp only [matmul]
  rw [Ideal.matmul_constant_zero_apply]
  refine sum_contr _ 1024 rfl rfl a b i (fun k => ValueIdx.ix2 k (i 0)) (fun k => ValueIdx.ix2 k (i 1)) (fun q x => ?_) fun q x => ?_
  · match x with
    | ⟨0, _⟩ => rfl
    | ⟨1, _⟩ => rfl
  · match x with
    | ⟨0, _⟩ => rfl
    | ⟨1, _⟩ => rfl

theorem zeros : k0_pay1 (F := Ideal) = fun _ => 0 := by
  simp only [k0_pay1, shapeCast_self]
  funext i
  exact Ideal.ofBits_zero_f32

end Kernel

section Reference

open Cert.Reference2Ideal Cert.Reference2Ideal.Gen

/-- The host's product of the cotangent and the activations, both contracted over the tokens. -/
theorem host_product (b : FVec Ideal S16384x1024 .f32) (a : FVec Ideal S16384x2816 .f32) (i : S1024x2816.Idx) :
    Host.dotGeneral (F := Ideal) (φ₁ := .f32) (φ₂ := .f32) dot_S16384x1024_S16384x2816_S1024x2816_0_0_1_1_n_n none b a i
      = ∑ p : Fin 16384, b (ValueIdx.ix2 p (i 0)) * a (ValueIdx.ix2 p (i 1)) := by
  simp only [Host.dotGeneral]
  rw [Ideal.dotGeneral_apply]
  refine sum_contr _ 16384 rfl rfl b a i (fun k => ValueIdx.ix2 k (i 0)) (fun k => ValueIdx.ix2 k (i 1)) (fun q x => ?_) fun q x => ?_
  · match x with
    | ⟨0, _⟩ => rfl
    | ⟨1, _⟩ => rfl
  · match x with
    | ⟨0, _⟩ => rfl
    | ⟨1, _⟩ => rfl

end Reference

end Wgrad

end
-- ==== Proof.Wgrad.Acc.lean ====
/- The weight gradient's call: after each grid point the accumulator is the sum of the products of the blocks so far, and the
   array it leaves is the product over all tokens. -/
module

public import proofs.«01_k».proof.Proof.Wgrad.Product
public import proofs.«01_k».proof.Proof.Gen.Kernel2Ideal.Frame
public import Idealize.ShloMosaic.Lib.Pipeline.ValueKit.Tiles
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Tactic Cert.Kernel2Ideal Cert.Kernel2Ideal.Gen

namespace Wgrad

variable (m : (ℓ : Loc nD τ Cert.Kernel2Ideal.sig) → Buf (Elt Ideal) ℓ) (c : Dev nD)

/-- The activations and the cotangent, as the device holds them. -/
def acts : FVec Ideal S16384x2816 .f32 := m (c, Proc.devRef .tc main_arg0)
def cots : FVec Ideal S16384x1024 .f32 := m (c, Proc.devRef .tc main_arg1)

theorem V_eq (b : Ref Cert.Kernel2Ideal.sig .tc) : V m c b = StableHlo.after hostOps0 (fun b => m (c, b)) (Proc.devRef .tc b) := by
  have h : ([hostOps0] : List (List (HloOp τ Cert.Kernel2Ideal.sig (Elt Ideal)))).flatten = hostOps0 := by
    simp only [List.flatten_cons, List.flatten_nil, List.append_nil]
  show StableHlo.after ([hostOps0] : List (List (HloOp τ Cert.Kernel2Ideal.sig (Elt Ideal)))).flatten _ _ = _
  rw [h]

/-- The host's casts leave the numbers as they are. -/
theorem V_acts : (V m c main_v0 : FVec Ideal S16384x2816 .bf16) = acts m c := by
  rw [V_eq]
  unfold hostOps0
  entry_read
  rfl

theorem V_cots : (V m c main_v1 : FVec Ideal S16384x1024 .bf16) = cots m c := by
  rw [V_eq]
  unfold hostOps0
  entry_read
  rfl

theorem points : cfg0.N = 16 := by decide +kernel

/-- Token `q` of block `t`. -/
def tok (t : Fin cfg0.N) (q : Fin 1024) : Fin 16384 := ⟨t.val * 1024 + q.val, by have := lt_of_lt_of_eq t.isLt points; omega⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)

/-- An array read at equal coordinates. -/
theorem read_at {a b : ℕ} (f : (⟨2, ![a, b]⟩ : Shape).Idx → EReal) (i j : (⟨2, ![a, b]⟩ : Shape).Idx) (h0 : (i 0).val = (j 0).val) (h1 : (i 1).val = (j 1).val) :
    f i = f j := by
  refine congrArg f (funext fun x => Fin.ext ?_)
  match x with
  | ⟨0, _⟩ => exact h0
  | ⟨1, _⟩ => exact h1

theorem blk0 (t : Fin cfg0.N) : iblk m c 0 t = fun y => acts m c (ValueIdx.ix2 (tok t (y 0)) (y 1)) := by
  funext y
  blk_simp [iblk]
  rw [V_acts]
  refine read_at _ _ _ ?_ ?_ <;> blk_simp [at0]
  rfl

theorem blk1 (t : Fin cfg0.N) : iblk m c 1 t = fun y => cots m c (ValueIdx.ix2 (tok t (y 0)) (y 1)) := by
  funext y
  blk_simp [iblk]
  rw [V_cots]
  refine read_at _ _ _ ?_ ?_ <;> blk_simp [at1]
  rfl

/-- The product of block `t`. -/
def part (t : Fin cfg0.N) (i : S2816x1024.Idx) : EReal :=
  ∑ k : Fin 1024, acts m c (ValueIdx.ix2 (tok t k) (i 0)) * cots m c (ValueIdx.ix2 (tok t k) (i 1))

theorem step_part (t : Fin cfg0.N) (acc : Vec Ideal S2816x1024 .f32) :
    k0_pay2 (F := Ideal) acc (iblk m c 0 t) (iblk m c 1 t) = fun i => acc i + part m c t i := by
  rw [step, blk0, blk1]
  rfl

theorem acc_first (t : Fin cfg0.N) (h0 : t.val % 16 = 0) (h1 : ¬t.val % 16 = 15) : (outsAt0 m c t.val t.isLt).2 = fun i => 0 + part m c t i := by
  rw [outsAt0_A m c t h0 h1]
  frame_out
  rw [zeros]
  exact step_part m c t _

theorem acc_next (t : Fin cfg0.N) (h0 : ¬t.val % 16 = 0) : (outsAt0 m c t.val t.isLt).2
    = fun i => (outsAt0 m c (t.val - 1) (Nat.lt_of_le_of_lt (Nat.sub_le _ _) t.isLt)).2 i + part m c t i := by
  by_cases h1 : t.val % 16 = 15
  · rw [outsAt0_C m c t h0 h1]
    frame_out
    erw [Memref.IsWhole.read_unread]
    exact step_part m c t _
  · rw [outsAt0_B m c t h0 h1]
    frame_out
    erw [Memref.IsWhole.read_unread]
    exact step_part m c t _

/-- The last point writes the accumulator out. -/
theorem out_last (t : Fin cfg0.N) (h0 : ¬t.val % 16 = 0) (h1 : t.val % 16 = 15) : (outsAt0 m c t.val t.isLt).1 = (outsAt0 m c t.val t.isLt).2 := by
  rw [outsAt0_C m c t h0 h1]
  frame_out
  rfl

/-- The block numbers up to `n`. -/
def upto {n : ℕ} (h : n < cfg0.N) (j : Fin (n + 1)) : Fin cfg0.N := ⟨j.val, Nat.lt_of_le_of_lt (Nat.le_of_lt_succ j.isLt) h⟩

theorem acc_eq (n : ℕ) (h : n < cfg0.N) : (outsAt0 m c n h).2 = fun i => ∑ j : Fin (n + 1), part m c (upto h j) i := by
  have hN := points
  induction n with
  | zero =>
    refine (acc_first m c ⟨0, h⟩ rfl (show ¬0 % 16 = 15 by decide)).trans (funext fun i => ?_)
    rw [zero_add, Fin.sum_univ_one]
    rfl
  | succ n ih =>
    refine (acc_next m c ⟨n + 1, h⟩ (show ¬(n + 1) % 16 = 0 by omega)).trans (funext fun i => ?_)
    refine (congrArg (· + _) (congrFun (ih (Nat.lt_of_succ_lt h)) i)).trans ?_
    exact (Fin.sum_univ_castSucc fun j : Fin (n + 1 + 1) => part m c (upto h j) i).symm

/-- The last grid point. -/
def lastPoint : Fin cfg0.N := ⟨15, by rw [points]; decide⟩

/-- The weight's gradient: the product over all tokens. -/
def wgrad (i : S2816x1024.Idx) : EReal := ∑ p : Fin 16384, acts m c (ValueIdx.ix2 p (i 0)) * cots m c (ValueIdx.ix2 p (i 1))

theorem arr2 : (dats m 0 c).arrAt 2 cfg0.N = (wgrad m c : FVec Ideal S2816x1024 .bf16) := by
  refine (dats m 0 c).arrAt_eq_of_after_last 2 lastPoint (by decide +kernel) _ fun j => ?_
  blk_simp
  rw [after0_2, out_last m c lastPoint (by decide) (by decide), acc_eq m c]
  exact Fin.sum_mul_add_fin 16 1024 fun p : Fin 16384 => acts m c (ValueIdx.ix2 p (j 0)) * cots m c (ValueIdx.ix2 p (j 1))

end Wgrad

end
-- ==== Proof.Wgrad.Run.lean ====
/- The weight gradient's two programs end with the same array. -/
module

public import proofs.«01_k».proof.Proof.Wgrad.Acc
public import proofs.«01_k».proof.Proof.Gen.Kernel2Ideal.Value
public import proofs.«01_k».proof.Proof.Gen.Reference2Ideal.Run
public import proofs.«01_k».proof.Defs

@[expose] public section

set_option maxRecDepth 16384

noncomputable section

open Idealize.ShloMosaic Idealize.SL.Sem

namespace Wgrad

section

open Cert.Reference2Ideal Cert.Reference2Ideal.Gen

/-- Rounding leaves an ideal number as it is. -/
theorem truncf_eq {s : Shape} {φ ψ : FTy} (x : FVec Ideal s φ) (h : ψ.bits < φ.bits) : (truncf ψ x h : s.Idx → EReal) = x := rfl

/-- A matrix with its axes exchanged. -/
theorem transpose_at {a b : ℕ} (x : (⟨2, ![a, b]⟩ : Shape).Idx → EReal) (h : (⟨2, ![a, b]⟩ : Shape).Transposes [1, 0] ⟨2, ![b, a]⟩) :
    transpose ⟨2, ![b, a]⟩ [1, 0] x h = fun i => x (ValueIdx.ix2 (i 1) (i 0)) := by
  funext i
  refine transpose_apply [1, 0] x h i (ValueIdx.ix2 (i 1) (i 0)) fun y => ?_
  match y with
  | ⟨0, _⟩ => rfl
  | ⟨1, _⟩ => rfl

/-- The reference's array: the host's product, transposed. -/
theorem reference_eq (b : FVec Ideal S16384x1024 .f32) (a : FVec Ideal S16384x2816 .f32) :
    truncf .bf16 (transpose S2816x1024 [1, 0] (Host.dotGeneral (F := Ideal) (φ₁ := .f32) (φ₂ := .f32) dot_S16384x1024_S16384x2816_S1024x2816_0_0_1_1_n_n
      none b a) transposes_S1024x2816_S2816x1024_1_0) bitsLt_bf16_f32
      = fun i => ∑ p : Fin 16384, a (ValueIdx.ix2 p (i 0)) * b (ValueIdx.ix2 p (i 1)) := by
  refine (truncf_eq (ψ := .bf16) _ bitsLt_bf16_f32).trans ((transpose_at _ _).trans (funext fun i => (host_product b a _).trans ?_))
  exact Finset.sum_congr rfl fun p _ => mul_comm _ _

theorem reference_frame : Cert.quiescent_Reference2Ideal := fun m ρ _ =>
  (θ_run defs _ _).mono (fun r h => ⟨fun c => (h c).2, sem_eq_zero_of_no_sems (by decide) r.2⟩) (Cert.Reference2Ideal.Value.run m ρ)

end

theorem algebraic : Cert.algebraic_Kernel2Ideal_Reference2Ideal := by
  intro m g m' g' _ hargs
  refine ⟨fun c => wgrad m c, ?_, ?_⟩
  · refine (θ_run _ _ _).mono (fun r h c => ?_) (Cert.Kernel2Ideal.Value.run_blocks m g)
    obtain ⟨h2, h⟩ := h c
    exact ⟨h2.trans (arr2 m c), h⟩
  · refine (θ_run _ _ _).mono (fun r h c => ?_) (Cert.Reference2Ideal.Value.run m' g')
    obtain ⟨h4, h⟩ := h c
    obtain ⟨h0, h1⟩ := hargs c
    refine ⟨h4.trans ((reference_eq _ _).trans ?_), h⟩
    erw [h0, h1]
    rfl

end Wgrad

end
-- ==== Proof.FfnOut.Spec.lean ====
/- The FFN's output side, as functions of the four arguments over the extended reals, and the reference's two results. -/
module

public import proofs.«01_k».proof.Proof.Gen.Kernel3Ideal
public import proofs.«01_k».proof.Proof.Gen.Kernel3Ideal.Skeleton
public import proofs.«01_k».proof.Proof.Gen.Reference3Ideal
public import proofs.«01_k».proof.Proof.Gen.Reference3Ideal.Read
public import proofs.«01_k».proof.Proof.Wgrad.Product

@[expose] public section

set_option maxRecDepth 16384

noncomputable section

open Idealize.ShloMosaic

namespace FfnOut

/-- A token's row times one column of the weight. -/
def prod {n : ℕ} (a : (⟨2, ![n, 2816]⟩ : Shape).Idx → EReal) (w : (⟨2, ![2816, 1024]⟩ : Shape).Idx → EReal) (p : Fin n) (d : Fin 1024) : EReal :=
  ∑ k : Fin 2816, a (ValueIdx.ix2 p k) * w (ValueIdx.ix2 k d)

/-- One number of the residual branch: half the normalised entry, scaled by its gain, added to the input. -/
def branch (h : Fin 1024 → EReal) (x g : EReal) (d : Fin 1024) : EReal :=
  x + Ideal.ofBits .f32 0x3F000000#32
    * (h d * Ideal.rsqrt (Ideal.div (∑ k, h k * h k) (Ideal.ofBits .f32 0x44800000#32) + Ideal.ofBits .f32 0x358637BD#32) * g)

section Kernel

open Cert.Kernel3Ideal Cert.Kernel3Ideal.Gen

/-- One block of rows times the weight. -/
theorem pay1_apply (a : Vec Ideal S1024x2816 .bf16) (w : Vec Ideal S2816x1024 .bf16) (i : S1024x1024.Idx) :
    k0_pay1 (F := Ideal) a w i = prod a w (i 0) (i 1) := by
  simp only [k0_pay1, shapeCast_self]
  simp only [matmul]
  rw [Ideal.matmul_constant_zero_apply]
  refine Wgrad.sum_contr _ 2816 rfl rfl a w i (fun k => ValueIdx.ix2 (i 0) k) (fun k => ValueIdx.ix2 k (i 1)) (fun q x => ?_) fun q x => ?_
  · match x with
    | ⟨0, _⟩ => rfl
    | ⟨1, _⟩ => rfl
  · match x with
    | ⟨0, _⟩ => rfl
    | ⟨1, _⟩ => rfl

/-- A row's sum of squares. -/
theorem squares (h : FVec Ideal S1024x1024 .f32) (hφ : FKind.Formats .f32) (w : BitVec 32) (hw : w = FKind.add.neutral .f32 hφ) (j : S1024.Idx) :
    multiReduction (F := Ideal) .add [1] S1024 (mulf h h) w reduces_S1024x1024_S1024 hφ hw j
      = ∑ k : Fin 1024, h (ValueIdx.ix2 (j 0) k) * h (ValueIdx.ix2 (j 0) k) := by
  rw [Ideal.multiReduction_add_single]
  refine Finset.sum_congr rfl fun k _ => ?_
  have e : reduces_S1024x1024_S1024.lift j k = ValueIdx.ix2 (j 0) k := funext fun x => by
    match x with
    | ⟨0, _⟩ => rfl
    | ⟨1, _⟩ => rfl
  rw [e]
  rfl

end Kernel

section Reference

open Cert.Reference3Ideal Cert.Reference3Ideal.Gen Cert.Reference3Ideal.Read

theorem host_prod (a : FVec Ideal S16384x2816 .f32) (w : FVec Ideal S2816x1024 .f32) (i : S16384x1024.Idx) :
    val_main_v0 (F := Ideal) a w i = prod a w (i 0) (i 1) := by
  rw [val_main_v0_apply]
  refine Finset.sum_congr rfl fun k _ => ?_
  have el : lidx_main_v0 i k = ValueIdx.ix2 (i 0) k := funext fun x => by
    match x with
    | ⟨0, _⟩ => rfl
    | ⟨1, _⟩ => rfl
  have er : ridx_main_v0 i k = ValueIdx.ix2 k (i 1) := funext fun x => by
    match x with
    | ⟨0, _⟩ => rfl
    | ⟨1, _⟩ => rfl
  rw [el, er]
  rfl

/-- The reference's root mean square, read where its row is broadcast. -/
theorem host_squares (a : FVec Ideal S16384x2816 .f32) (w : FVec Ideal S2816x1024 .f32) (j : S16384.Idx) :
    val_main_v2 (F := Ideal) a w j = ∑ k : Fin 1024, prod a w (j 0) k * prod a w (j 0) k := by
  rw [val_main_v2_apply, val_main_cst_apply]
  refine (congrArg (· + _) Ideal.ofBits_zero_f32).trans ((zero_add _).trans (Finset.sum_congr rfl fun k _ => ?_))
  rw [val_main_v1_apply, host_prod]
  rfl

theorem host_branch (x : FVec Ideal S16384x1024 .f32) (a : FVec Ideal S16384x2816 .f32) (w : FVec Ideal S2816x1024 .f32) (g : FVec Ideal S1024 .f32)
    (i : S16384x1024.Idx) :
    val_main_v16 (F := Ideal) x a w g i = branch (prod a w (i 0)) (x i) (g (ValueIdx.ix1 (i 1))) (i 1) := by
  rw [val_main_v16_apply, val_main_v15_apply, val_main_v14_apply, val_main_cst_2_apply, val_main_v13_apply, val_main_v12_apply, val_main_v11_apply,
    val_main_v10_apply, val_main_v9_apply, val_main_v8_apply, val_main_v7_apply, val_main_v6_apply, val_main_cst_1_apply, val_main_v5_apply,
    val_main_v4_apply, val_main_cst_0_apply, val_main_v3_apply, host_squares, host_prod]
  have eg : idx_main_v11 (idx_main_v12 i) = ValueIdx.ix1 (i 1) := funext fun x => by
    match x with
    | ⟨0, _⟩ => rfl
  rw [eg]
  rfl

end Reference

end FfnOut

end
-- ==== Proof.FfnOut.Arrays.lean ====
/- The FFN's output call: each grid point's blocks, and the two arrays it leaves. -/
module

public import proofs.«01_k».proof.Proof.FfnOut.Spec
public import proofs.«01_k».proof.Proof.Wgrad.Acc
public import proofs.«01_k».proof.Proof.Gen.Kernel3Ideal.Frame
public import proofs.«01_k».proof.Proof.Gen.Kernel3Ideal.Value
public import Idealize.ShloMosaic.Lib.Pipeline.ValueKit.Tiles
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Tactic Cert.Kernel3Ideal Cert.Kernel3Ideal.Gen

namespace FfnOut

variable (m : (ℓ : Loc nD τ Cert.Kernel3Ideal.sig) → Buf (Elt Ideal) ℓ) (c : Dev nD)

/-- The four arguments, as the device holds them. -/
def argX : FVec Ideal S16384x1024 .f32 := m (c, Proc.devRef .tc main_arg0)
def argA : FVec Ideal S16384x2816 .f32 := m (c, Proc.devRef .tc main_arg1)
def argW : FVec Ideal S2816x1024 .f32 := m (c, Proc.devRef .tc main_arg2)
def argG : FVec Ideal S1024 .f32 := m (c, Proc.devRef .tc main_arg3)

theorem V_eq (b : Ref Cert.Kernel3Ideal.sig .tc) : V m c b = StableHlo.after hostOps0 (fun b => m (c, b)) (Proc.devRef .tc b) := by
  have h : ([hostOps0] : List (List (HloOp τ Cert.Kernel3Ideal.sig (Elt Ideal)))).flatten = hostOps0 := by
    simp only [List.flatten_cons, List.flatten_nil, List.append_nil]
  show StableHlo.after ([hostOps0] : List (List (HloOp τ Cert.Kernel3Ideal.sig (Elt Ideal)))).flatten _ _ = _
  rw [h]

theorem V_x : (V m c main_arg0 : FVec Ideal S16384x1024 .f32) = argX m c := V_main_arg0 m c

theorem V_a : (V m c main_v0 : FVec Ideal S16384x2816 .bf16) = argA m c := by
  rw [V_eq]
  unfold hostOps0
  entry_read
  rfl

theorem V_w : (V m c main_v1 : FVec Ideal S2816x1024 .bf16) = argW m c := by
  rw [V_eq]
  unfold hostOps0
  entry_read
  rfl

/-- The gain as one row. -/
theorem V_g : (V m c main_v2 : FVec Ideal S1x1024 .f32) = fun i => argG m c (ValueIdx.ix1 (i 1)) := by
  rw [V_eq]
  unfold hostOps0
  entry_read
  funext i
  have h0 : (i 0).val < 1 := (i 0).isLt
  refine (shapeCast_apply (argG m c) shapeCasts_S1024_S1x1024 i (ValueIdx.ix1 (i 1)) ?_)
  rw [Shape.rowMajor_val_one, Shape.rowMajor_val_two]
  show (i 1).val = (i 0).val * 1024 + (i 1).val
  omega

theorem points : cfg0.N = 16 := by decide +kernel

/-- Token `q` of block `t`. -/
def tok (t : Fin cfg0.N) (q : Fin 1024) : Fin 16384 := ⟨t.val * 1024 + q.val, by have := lt_of_lt_of_eq t.isLt points; omega⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)

theorem blk0 (t : Fin cfg0.N) : iblk m c 0 t = fun y => argX m c (ValueIdx.ix2 (tok t (y 0)) (y 1)) := by
  funext y
  blk_simp [iblk]
  rw [V_x]
  refine Wgrad.read_at _ _ _ ?_ ?_ <;> blk_simp [at0]
  rfl

theorem blk1 (t : Fin cfg0.N) : iblk m c 1 t = fun y => argA m c (ValueIdx.ix2 (tok t (y 0)) (y 1)) := by
  funext y
  blk_simp [iblk]
  rw [V_a]
  refine Wgrad.read_at _ _ _ ?_ ?_ <;> blk_simp [at1]
  rfl

theorem blk2 (t : Fin cfg0.N) : iblk m c 2 t = argW m c := by
  funext y
  blk_simp [iblk]
  rw [V_w]
  refine Wgrad.read_at _ _ _ ?_ ?_ <;> blk_simp [at2]

theorem blk3 (t : Fin cfg0.N) : iblk m c 3 t = fun y => argG m c (ValueIdx.ix1 (y 1)) := by
  funext y
  blk_simp [iblk]
  rw [V_g]
  refine Wgrad.read_at (fun i : S1x1024.Idx => argG m c (ValueIdx.ix1 (i 1))) _ y ?_ ?_ <;> blk_simp [at3]

/-- The product of block `t`'s rows is the rows' product. -/
theorem prod_blk (t : Fin cfg0.N) (q : Fin 1024) (d : Fin 1024) :
    prod (n := 1024) (fun y => argA m c (ValueIdx.ix2 (tok t (y 0)) (y 1))) (argW m c) q d = prod (argA m c) (argW m c) (tok t q) d := rfl

/-- What the call leaves: the product, and the residual branch. -/
def outM (i : S16384x1024.Idx) : EReal := prod (argA m c) (argW m c) (i 0) (i 1)
def outY (i : S16384x1024.Idx) : EReal := branch (prod (argA m c) (argW m c) (i 0)) (argX m c i) (argG m c (ValueIdx.ix1 (i 1))) (i 1)

theorem out5 (t : Fin cfg0.N) : out0_5 (iblk m c 0 t) (iblk m c 1 t) (iblk m c 2 t) (iblk m c 3 t)
    = fun y => outM m c (ValueIdx.ix2 (tok t (y 0)) (y 1)) := by
  unfold out0_5
  frame_out
  rw [blk1, blk2]
  funext y
  exact (pay1_apply _ _ y).trans (prod_blk m c t (y 0) (y 1))

/-- What the body stores at an index of its block of the residual branch. -/
theorem branch_blk (x : Vec Ideal S1024x1024 .f32) (a : Vec Ideal S1024x2816 .bf16) (w : Vec Ideal S2816x1024 .bf16) (g : Vec Ideal S1x1024 .f32)
    (y : S1024x1024.Idx) : Cert.Kernel3Ideal.Value.E4 (F := Ideal) x a w g y = branch (prod a w (y 0)) (x y) (g (ValueIdx.ix2 0 (y 1))) (y 1) := by
  have e0 : Cert.Kernel3Ideal.Value.ix4_0 y = y := funext fun b => by
    match b with
    | ⟨0, _⟩ => rfl
    | ⟨1, _⟩ => rfl
  have e3 : Cert.Kernel3Ideal.Value.ix4_3 y = ValueIdx.ix2 0 (y 1) := funext fun b => by
    match b with
    | ⟨0, _⟩ => rfl
    | ⟨1, _⟩ => rfl
  have hs := squares (k0_pay1 (F := Ideal) a w) (.inl rfl) 0x00000000#32 rfl (Cert.Kernel3Ideal.Value.ix4_2 y)
  have hm := pay1_apply a w (Cert.Kernel3Ideal.Value.ix4_1 y)
  simp only [pay1_apply] at hs
  unfold Cert.Kernel3Ideal.Value.E4
  rw [e0, e3, hm]
  erw [hs]
  rfl

theorem out4 (t : Fin cfg0.N) : out0_4 (iblk m c 0 t) (iblk m c 1 t) (iblk m c 2 t) (iblk m c 3 t)
    = fun y => outY m c (ValueIdx.ix2 (tok t (y 0)) (y 1)) := by
  unfold out0_4
  rw [View.ld_unit_lit, View.ld_unit_lit, View.ld_unit_lit, View.ld_unit_lit, blk0, blk1, blk2, blk3]
  · funext y
    exact (Cert.Kernel3Ideal.Value.canon4_eq _ _ _ _ y).trans (branch_blk _ _ _ _ y)
  all_goals decide

theorem arr5 : (dats m 0 c).arrAt 5 cfg0.N = (outM m c : FVec Ideal S16384x1024 .bf16) := by
  refine (dats m 0 c).arrAt_eq_of_covers 5 _ (by decide +kernel) fun t hf y => ?_
  blk_simp
  rw [after0_5, out5]
  refine Wgrad.read_at _ _ _ ?_ ?_ <;> blk_simp [at5]
  rfl

theorem arr4 : (dats m 0 c).arrAt 4 cfg0.N = (outY m c : FVec Ideal S16384x1024 .f32) := by
  refine (dats m 0 c).arrAt_eq_of_covers 4 _ (by decide +kernel) fun t hf y => ?_
  blk_simp
  rw [after0_4, out4]
  refine Wgrad.read_at _ _ _ ?_ ?_ <;> blk_simp [at4]
  rfl

end FfnOut

end
-- ==== Proof.FfnOut.Run.lean ====
/- The FFN's output side: the two programs end with the same two arrays. -/
module

public import proofs.«01_k».proof.Proof.FfnOut.Arrays
public import proofs.«01_k».proof.Proof.Gen.Reference3Ideal.Run
public import proofs.«01_k».proof.Defs

@[expose] public section

set_option maxRecDepth 16384

noncomputable section

open Idealize.ShloMosaic Idealize.SL.Sem

namespace FfnOut

section

open Cert.Reference3Ideal Cert.Reference3Ideal.Gen

theorem reference_frame : Cert.quiescent_Reference3Ideal := fun m ρ _ =>
  (θ_run defs _ _).mono (fun r h => ⟨fun c => (h c).2.2, sem_eq_zero_of_no_sems (by decide) r.2⟩) (Cert.Reference3Ideal.Value.run m ρ)

end

theorem algebraic : Cert.algebraic_Kernel3Ideal_Reference3Ideal := by
  intro m g m' g' _ hargs
  refine ⟨fun c => outY m c, fun c => outM m c, ?_, ?_⟩
  · refine (θ_run _ _ _).mono (fun r h c => ?_) (Cert.Kernel3Ideal.Value.run_blocks m g)
    obtain ⟨h4, h5, h⟩ := h c
    exact ⟨h4.trans (arr4 m c), h5.trans (arr5 m c), h⟩
  · refine (θ_run _ _ _).mono (fun r h c => ?_) (Cert.Reference3Ideal.Value.run m' g')
    obtain ⟨h4, h5, h⟩ := h c
    obtain ⟨e0, e1, e2, e3⟩ := hargs c
    refine ⟨h4.trans ?_, h5.trans ?_, h⟩
    · rw [Cert.Reference3Ideal.Read.val_main_v16_eq]
      erw [e0, e1, e2, e3]
      exact funext fun i => host_branch _ _ _ _ i
    · rw [Cert.Reference3Ideal.Read.val_main_v17_eq]
      erw [e1, e2]
      exact funext fun i => host_prod _ _ i

end FfnOut

end
-- ==== Proof.FfnIn.Block.lean ====
/- What one block of the FFN's input side computes, from blocks of real numbers: the normalised rows, and the three things it
   stores of one chunk of 256 hidden columns. -/
module

public import proofs.«01_k».proof.Proof.Ffn.Ops
public import proofs.«01_k».proof.Proof.Gen.Kernel4Ideal.Skeleton
public import Idealize.ShloMosaic.Lib.Pipeline.ValueKit.Tiles

@[expose] public section

set_option maxRecDepth 16384

noncomputable section

open Idealize.ShloMosaic Ffn Cert.Kernel4Ideal Cert.Kernel4Ideal.Gen

namespace FfnIn

/-- A product with the transpose: each row of the one against each row of the other. -/
theorem matmul_rows (A : Fin 512 → Fin 1024 → ℝ) (B : Fin 256 → Fin 1024 → ℝ) :
    matmul (F := Ideal) (φ₁ := .bf16) (φ₂ := .bf16) dot_S512x1024_S256x1024_S512x256_1_1_0_0_n_n none (E2 A) (E2 B) (constant S512x256 .f32 0x00000000#32)
      = E2 fun q f => ∑ d, A q d * B f d := by
  funext j
  refine (matmul_coe dot_S512x1024_S256x1024_S512x256_1_1_0_0_n_n 1024 rfl rfl none (fun i => A (i 0) (i 1)) (fun i => B (i 0) (i 1)) j
    (fun k => ValueIdx.ix2 (j 0) k) (fun k => ValueIdx.ix2 (j 1) k) (fun q x => ?_) (fun q x => ?_)).trans rfl
  · match x with
    | ⟨0, _⟩ => rfl
    | ⟨1, _⟩ => rfl
  · match x with
    | ⟨0, _⟩ => rfl
    | ⟨1, _⟩ => rfl

theorem E2_logistic {a b : ℕ} {φ : FTy} (r : Fin a → Fin b → ℝ) :
    logistic (F := Ideal) (φ := φ) (E2 r) = E2 fun p d => sigm (r p d) := by
  funext i
  show Ideal.div 1 (1 + Ideal.exp (-((r (i 0) (i 1) : ℝ) : EReal))) = _
  rw [← EReal.coe_neg, exp_coe, ← EReal.coe_one, ← EReal.coe_add, div_coe _ (one_add_exp_ne _)]
  rfl

/-- The rows normalised, times the gain. -/
theorem normalised (x : Fin 512 → Fin 1024 → ℝ) (g : Fin 1024 → ℝ) :
    k0_pay8 (F := Ideal) (E2 x) (E2 fun _ => g) = E2 fun q d => x q d * rstd (x q) * g d := by
  simp only [k0_pay8, shapeCast_self]
  rw [E2_mulf]
  erw [E2_rowSum]
  rw [E1_col, E2_broadcast ofBits_1024, E2_divf _ _ (fun _ _ => by norm_num), E2_broadcast ofBits_eps, E2_addf]
  erw [E2_rsqrt (fun q _ => ms (x q)) fun q _ => ms_pos (x q)]
  rw [E2_broadcastTo_col _ (by norm_num), E2_mulf, E2_broadcastTo_row _ (by norm_num), E2_mulf, E2_truncf]
  rfl

/-- 256 rows of a weight, from row `k`. -/
def rows (B : Fin 2816 → Fin 1024 → ℝ) (k : ℕ) (hr : ∀ a : Fin 2, ![k, 0] a + ![256, 1024] a ≤ S2816x1024.size a) : Vec Ideal S256x1024 .bf16 :=
  View.ld (Val := Elt Ideal) (e' := .bf16) (E2 B) (Rect.unit (s := S2816x1024) ![k, 0] ![256, 1024] hr)

theorem rows_eq (B : Fin 2816 → Fin 1024 → ℝ) (k : ℕ) (hr : ∀ a : Fin 2, ![k, 0] a + ![256, 1024] a ≤ S2816x1024.size a) (hk : k + 256 ≤ 2816) :
    rows B k hr = E2 fun (q : Fin 256) d => B ⟨k + q.val, lt_of_lt_of_le (Nat.add_lt_add_left q.isLt k) hk⟩ d := by
  funext i
  refine (View.ld_unit_apply_of (Val := Elt Ideal) (S := S2816x1024) (e := .bf16) (E2 B) ![k, 0] ![256, 1024] hr i
    (ValueIdx.ix2 ⟨k + (i 0).val, lt_of_lt_of_le (Nat.add_lt_add_left (i 0).isLt k) hk⟩ (i 1)) fun a => ?_).trans rfl
  match a with
  | ⟨0, _⟩ => rfl
  | ⟨1, _⟩ => exact (Nat.zero_add _).symm

section

variable (A : Fin 512 → Fin 1024 → ℝ) (B C : Fin 2816 → Fin 1024 → ℝ)

/-- Each row of the block against each row of a weight. -/
def against (q : Fin 512) (f : Fin 2816) : ℝ := ∑ d, A q d * B f d

variable (k : ℕ) (hr : ∀ a : Fin 2, ![k, 0] a + ![256, 1024] a ≤ S2816x1024.size a) (h : S256x1024.ShapeCasts S256x1024)

/-- One chunk of the block's product with a weight's rows. -/
abbrev chunk : FVec Ideal S512x256 .f32 :=
  matmul (F := Ideal) (φ₁ := .bf16) (φ₂ := .bf16) dot_S512x1024_S256x1024_S512x256_1_1_0_0_n_n none (E2 A)
    (shapeCast S256x1024 (rows B k hr) h) (constant S512x256 .f32 0x00000000#32)

theorem chunk_eq (hk : k + 256 ≤ 2816) : chunk A B k hr h
    = E2 fun q (f : Fin 256) => against A B q ⟨k + f.val, lt_of_lt_of_le (Nat.add_lt_add_left f.isLt k) hk⟩ := by
  unfold chunk
  rw [rows_eq B k hr hk, shapeCast_self, matmul_rows]
  rfl

variable (hb : FTy.bf16.bits < FTy.f32.bits) (x : S512x256.Idx) (y : S512x2816.Idx) (hy0 : (y 0 : ℕ) = x 0) (hy1 : (y 1 : ℕ) = k + x 1)
include hy0 hy1

/-- Reading a chunk at `x` is reading the whole row block at `y`. -/
theorem at_chunk (r : Fin 512 → Fin 2816 → ℝ) (hk : k + 256 ≤ 2816) :
    (E2 fun q (f : Fin 256) => r q ⟨k + f.val, lt_of_lt_of_le (Nat.add_lt_add_left f.isLt k) hk⟩) x = E2 r y := by
  have e0 : y 0 = x 0 := Fin.ext hy0
  have e1 : y 1 = ⟨k + (x 1).val, lt_of_lt_of_le (Nat.add_lt_add_left (x 1).isLt k) hk⟩ := Fin.ext hy1
  simp only [E2, e0, e1]
  rfl

/-- The gate's part of the gated product. -/
theorem silu_apply : truncf .bf16 (mulf (chunk A B k hr h) (logistic (chunk A B k hr h))) hb x
    = E2 (fun q f => against A B q f * sigm (against A B q f)) y := by
  have hk : k + 256 ≤ 2816 := hr 0
  rw [chunk_eq A B k hr h hk, E2_logistic, E2_mulf, E2_truncf]
  exact at_chunk k x y hy0 hy1 (fun q f => against A B q f * sigm (against A B q f)) hk

/-- The gated product. -/
theorem act_apply : truncf .bf16 (mulf (mulf (chunk A B k hr h) (logistic (chunk A B k hr h))) (chunk A C k hr h)) hb x
    = E2 (fun q f => against A B q f * sigm (against A B q f) * against A C q f) y := by
  have hk : k + 256 ≤ 2816 := hr 0
  rw [chunk_eq A B k hr h hk, chunk_eq A C k hr h hk, E2_logistic, E2_mulf, E2_mulf, E2_truncf]
  exact at_chunk k x y hy0 hy1 (fun q f => against A B q f * sigm (against A B q f) * against A C q f) hk

/-- The gated product's derivative by the gate. -/
theorem dact_apply : truncf .bf16 (mulf (chunk A C k hr h) (subf (addf (logistic (chunk A B k hr h)) (mulf (chunk A B k hr h) (logistic (chunk A B k hr h))))
      (mulf (mulf (chunk A B k hr h) (logistic (chunk A B k hr h))) (logistic (chunk A B k hr h))))) hb x
    = E2 (fun q f => against A C q f * (sigm (against A B q f) + against A B q f * sigm (against A B q f)
        - against A B q f * sigm (against A B q f) * sigm (against A B q f))) y := by
  have hk : k + 256 ≤ 2816 := hr 0
  rw [chunk_eq A B k hr h hk, chunk_eq A C k hr h hk, E2_logistic, E2_mulf, E2_addf, E2_mulf, E2_subf, E2_mulf, E2_truncf]
  exact at_chunk k x y hy0 hy1 (fun q f => against A C q f * (sigm (against A B q f) + against A B q f * sigm (against A B q f)
        - against A B q f * sigm (against A B q f) * sigm (against A B q f))) hk

end

end FfnIn

end
-- ==== Proof.FfnIn.Out.lean ====
/- What the body of the FFN's input side leaves in each output's buffer, from input blocks of real numbers. -/
module

public import proofs.«01_k».proof.Proof.FfnIn.Block
public import proofs.«01_k».proof.Proof.Gen.Kernel4Ideal.Frame

@[expose] public section

set_option maxRecDepth 16384

noncomputable section

open Idealize.ShloMosaic Idealize.ShloMosaic.Tactic Ffn Cert.Kernel4Ideal Cert.Kernel4Ideal.Gen

namespace FfnIn

variable (x : Fin 512 → Fin 1024 → ℝ) (g : Fin 1024 → ℝ) (wg wu : Fin 2816 → Fin 1024 → ℝ)

/-- The block's rows normalised, times the gain. -/
def hnRow (q : Fin 512) (d : Fin 1024) : ℝ := x q d * rstd (x q) * g d

theorem normalised_ld : k0_pay8 (F := Ideal) (View.ld (Val := Elt Ideal) (e' := .f32) (E2 x) r0_0)
    (View.ld (Val := Elt Ideal) (e' := .f32) (E2 (a := 1) fun _ => g) r0_1) = E2 (hnRow x g) := by
  rw [View.ld_unit_lit, View.ld_unit_lit]
  · exact normalised x g
  all_goals decide

/-- The gate's part of the gated product. -/
theorem out4 : out0_4 (F := Ideal) (E2 x) (E2 fun _ => g) (E2 wg) (E2 wu)
    = E2 fun q f => against (hnRow x g) wg q f * sigm (against (hnRow x g) wg q f) := by
  unfold_out out0_4
  simp only [k0_pay5, k0_pay79, k0_pay72, k0_pay64, k0_pay57, k0_pay50, k0_pay42, k0_pay35, k0_pay27, k0_pay20, k0_pay13,
    k0_pay4, k0_pay78, k0_pay71, k0_pay63, k0_pay56, k0_pay49, k0_pay41, k0_pay34, k0_pay26, k0_pay19, k0_pay12,
    k0_pay3, k0_pay77, k0_pay70, k0_pay62, k0_pay55, k0_pay48, k0_pay40, k0_pay33, k0_pay25, k0_pay18, k0_pay11,
    k0_pay1, k0_pay75, k0_pay68, k0_pay67, k0_pay60, k0_pay53, k0_pay46, k0_pay38, k0_pay31, k0_pay23, k0_pay16, k0_pay9]
  rw [normalised_ld]
  funext y
  canon_tiles x h
  all_goals refine (silu_apply _ _ _ _ _ _ x y h0 (by omega)).trans rfl

/-- The gated product's derivative by the gate. -/
theorem out5 : out0_5 (F := Ideal) (E2 x) (E2 fun _ => g) (E2 wg) (E2 wu)
    = E2 fun q f => against (hnRow x g) wu q f * (sigm (against (hnRow x g) wg q f) + against (hnRow x g) wg q f * sigm (against (hnRow x g) wg q f)
        - against (hnRow x g) wg q f * sigm (against (hnRow x g) wg q f) * sigm (against (hnRow x g) wg q f)) := by
  unfold_out out0_5
  simp only [k0_pay7, k0_pay81, k0_pay74, k0_pay66, k0_pay59, k0_pay52, k0_pay45, k0_pay37, k0_pay30, k0_pay29, k0_pay22, k0_pay15,
    k0_pay4, k0_pay78, k0_pay71, k0_pay63, k0_pay56, k0_pay49, k0_pay41, k0_pay34, k0_pay26, k0_pay19, k0_pay12,
    k0_pay3, k0_pay77, k0_pay70, k0_pay62, k0_pay55, k0_pay48, k0_pay40, k0_pay33, k0_pay25, k0_pay18, k0_pay11,
    k0_pay2, k0_pay76, k0_pay69, k0_pay61, k0_pay54, k0_pay47, k0_pay39, k0_pay32, k0_pay24, k0_pay17, k0_pay10,
    k0_pay1, k0_pay75, k0_pay68, k0_pay67, k0_pay60, k0_pay53, k0_pay46, k0_pay38, k0_pay31, k0_pay23, k0_pay16, k0_pay9]
  rw [normalised_ld]
  funext y
  canon_tiles x h
  all_goals refine (dact_apply _ _ _ _ _ _ _ x y h0 (by omega)).trans rfl

/-- The gated product. -/
theorem out6 : out0_6 (F := Ideal) (E2 x) (E2 fun _ => g) (E2 wg) (E2 wu)
    = E2 fun q f => against (hnRow x g) wg q f * sigm (against (hnRow x g) wg q f) * against (hnRow x g) wu q f := by
  unfold_out out0_6
  simp only [k0_pay6, k0_pay80, k0_pay73, k0_pay65, k0_pay58, k0_pay51, k0_pay44, k0_pay43, k0_pay36, k0_pay28, k0_pay21, k0_pay14,
    k0_pay4, k0_pay78, k0_pay71, k0_pay63, k0_pay56, k0_pay49, k0_pay41, k0_pay34, k0_pay26, k0_pay19, k0_pay12,
    k0_pay3, k0_pay77, k0_pay70, k0_pay62, k0_pay55, k0_pay48, k0_pay40, k0_pay33, k0_pay25, k0_pay18, k0_pay11,
    k0_pay2, k0_pay76, k0_pay69, k0_pay61, k0_pay54, k0_pay47, k0_pay39, k0_pay32, k0_pay24, k0_pay17, k0_pay10,
    k0_pay1, k0_pay75, k0_pay68, k0_pay67, k0_pay60, k0_pay53, k0_pay46, k0_pay38, k0_pay31, k0_pay23, k0_pay16, k0_pay9]
  rw [normalised_ld]
  funext y
  canon_tiles x h
  all_goals refine (act_apply _ _ _ _ _ _ _ x y h0 (by omega)).trans rfl

end FfnIn

end
-- ==== Proof.FfnIn.Arrays.lean ====
/- The FFN's input side: the blocks of each grid point hold the tokens' rows and the weights, and the three arrays it leaves
   are what the sub-layer's forward pass saves. -/
module

public import proofs.«01_k».proof.Proof.FfnIn.Out
public import proofs.«01_k».proof.Proof.Ffn.HostOps
public import proofs.«01_k».proof.Proof.Gen.Kernel4Ideal.Value
public import Idealize.ShloMosaic.Lib.Pipeline.ValueKit.Tiles
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Tactic Ffn Cert.Kernel4Ideal Cert.Kernel4Ideal.Gen

namespace FfnIn

/-- The device's arguments are the real numbers of `A`. -/
structure HoldsArgs (m : (ℓ : Loc nD τ Cert.Kernel4Ideal.sig) → Buf (Elt Ideal) ℓ) (c : Dev nD) (A : Args) : Prop where
  x : (m (c, Proc.devRef .tc main_arg0) : FVec Ideal S16384x1024 .f32) = E2 A.x
  gpre : (m (c, Proc.devRef .tc main_arg1) : FVec Ideal S1024 .f32) = E1 A.gpre
  wg : (m (c, Proc.devRef .tc main_arg2) : FVec Ideal S1024x2816 .f32) = E2 A.wg
  wu : (m (c, Proc.devRef .tc main_arg3) : FVec Ideal S1024x2816 .f32) = E2 A.wu

theorem V_eq (m : (ℓ : Loc nD τ Cert.Kernel4Ideal.sig) → Buf (Elt Ideal) ℓ) (c : Dev nD) (b : Ref Cert.Kernel4Ideal.sig .tc) :
    V m c b = StableHlo.after hostOps0 (fun b => m (c, b)) (Proc.devRef .tc b) := by
  have h : ([hostOps0] : List (List (HloOp τ Cert.Kernel4Ideal.sig (Elt Ideal)))).flatten = hostOps0 := by
    simp only [List.flatten_cons, List.flatten_nil, List.append_nil]
  show StableHlo.after ([hostOps0] : List (List (HloOp τ Cert.Kernel4Ideal.sig (Elt Ideal)))).flatten _ _ = _
  rw [h]

theorem points : cfg0.N = 32 := by decide +kernel

/-- Token `q` of block `t`. -/
def tok (t : Fin cfg0.N) (q : Fin 512) : Fin 16384 := ⟨t.val * 512 + q.val, by have := lt_of_lt_of_eq t.isLt points; omega⟩

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

/-- Two reads of one real array at equal coordinates. -/
theorem read_real {a b a' b' : ℕ} (r : Fin a → Fin b → ℝ) (r' : Fin a' → Fin b' → ℝ) (i : (⟨2, ![a, b]⟩ : Shape).Idx) (i' : (⟨2, ![a', b']⟩ : Shape).Idx)
    (h : r (i 0) (i 1) = r' (i' 0) (i' 1)) : (E2 r : FVec Ideal ⟨2, ![a, b]⟩ .f32) i = (E2 r' : FVec Ideal ⟨2, ![a', b']⟩ .f32) i' :=
  congrArg _ h

variable {m : (ℓ : Loc nD τ Cert.Kernel4Ideal.sig) → Buf (Elt Ideal) ℓ} {c : Dev nD} {A : Args} (H : HoldsArgs m c A)
include H

theorem V_x : (V m c main_arg0 : FVec Ideal S16384x1024 .f32) = E2 A.x := (V_main_arg0 m c).trans H.x

/-- The gain as one row. -/
theorem V_g : (V m c main_v0 : FVec Ideal S1x1024 .f32) = E2 (a := 1) fun _ => A.gpre := by
  rw [V_eq]
  unfold hostOps0
  entry_read
  rw [H.gpre]
  exact E1_row A.gpre shapeCasts_S1024_S1x1024

/-- The weights transposed. -/
theorem V_wg : (V m c main_v2 : FVec Ideal S2816x1024 .bf16) = E2 fun f d => A.wg d f := by
  rw [V_eq]
  unfold hostOps0
  entry_read
  rw [H.wg]
  exact E2_transpose A.wg transposes_S1024x2816_S2816x1024_1_0

theorem V_wu : (V m c main_v4 : FVec Ideal S2816x1024 .bf16) = E2 fun f d => A.wu d f := by
  rw [V_eq]
  unfold hostOps0
  entry_read
  rw [H.wu]
  exact E2_transpose A.wu transposes_S1024x2816_S2816x1024_1_0

theorem blk0 (t : Fin cfg0.N) : iblk m c 0 t = E2 fun q => A.x (tok t q) := by
  funext y
  blk_simp [iblk]
  rw [V_x H]
  refine read_real _ _ _ _ (congrArg₂ A.x (Fin.ext ?_) (Fin.ext ?_)) <;> blk_simp [at0]
  rfl

theorem blk1 (t : Fin cfg0.N) : iblk m c 1 t = E2 (a := 1) fun _ => A.gpre := by
  funext y
  blk_simp [iblk]
  rw [V_g H]
  refine read_real _ _ _ _ (congrArg A.gpre (Fin.ext ?_)) <;> blk_simp [at1]

theorem blk2 (t : Fin cfg0.N) : iblk m c 2 t = E2 fun f d => A.wg d f := by
  funext y
  blk_simp [iblk]
  rw [V_wg H]
  refine read_real _ _ _ _ (congrArg₂ A.wg (Fin.ext ?_) (Fin.ext ?_)) <;> blk_simp [at2]

theorem blk3 (t : Fin cfg0.N) : iblk m c 3 t = E2 fun f d => A.wu d f := by
  funext y
  blk_simp [iblk]
  rw [V_wu H]
  refine read_real _ _ _ _ (congrArg₂ A.wu (Fin.ext ?_) (Fin.ext ?_)) <;> blk_simp [at3]

theorem arr4 : (dats m 0 c).arrAt 4 cfg0.N = (E2 A.silu : FVec Ideal S16384x2816 .bf16) := by
  refine (dats m 0 c).arrAt_eq_of_covers 4 _ (by decide +kernel) fun t hf y => ?_
  blk_simp
  rw [after0_4, blk0 H, blk1 H, blk2 H, blk3 H, out4]
  refine read_real (fun q f => A.silu (tok t q) f) _ _ _ (congrArg₂ A.silu (Fin.ext ?_) (Fin.ext ?_)) <;> blk_simp [at4]
  rfl

theorem arr5 : (dats m 0 c).arrAt 5 cfg0.N = (E2 A.dact : FVec Ideal S16384x2816 .bf16) := by
  refine (dats m 0 c).arrAt_eq_of_covers 5 _ (by decide +kernel) fun t hf y => ?_
  blk_simp
  rw [after0_5, blk0 H, blk1 H, blk2 H, blk3 H, out5]
  refine read_real (fun q f => A.dact (tok t q) f) _ _ _ (congrArg₂ A.dact (Fin.ext ?_) (Fin.ext ?_)) <;> blk_simp [at5]
  rfl

theorem arr6 : (dats m 0 c).arrAt 6 cfg0.N = (E2 A.act : FVec Ideal S16384x2816 .bf16) := by
  refine (dats m 0 c).arrAt_eq_of_covers 6 _ (by decide +kernel) fun t hf y => ?_
  blk_simp
  rw [after0_6, blk0 H, blk1 H, blk2 H, blk3 H, out6]
  refine read_real (fun q f => A.act (tok t q) f) _ _ _ (congrArg₂ A.act (Fin.ext ?_) (Fin.ext ?_)) <;> blk_simp [at6]
  rfl

end FfnIn

end
-- ==== Proof.FfnIn.Ref.lean ====
/- What the reference of the FFN's input side computes at real arguments: each of its operations, read at an index, over the
   real numbers of the sub-layer. -/
module

public import proofs.«01_k».proof.Proof.Ffn.Real
public import proofs.«01_k».proof.Proof.Gen.Reference4Ideal.Read

@[expose] public section

set_option maxRecDepth 16384

noncomputable section

namespace FfnIn.Ref

open Idealize.ShloMosaic Ffn Cert.Reference4Ideal Cert.Reference4Ideal.Gen Cert.Reference4Ideal.Read

variable (A : Args)

/-- The arguments as the program's arrays. -/
abbrev X0 : (⟨S16384x1024, .f32⟩ : BufTy).Contents (Elt Ideal) := fun i => ((A.x (i 0) (i 1) : ℝ) : EReal)
abbrev X1 : (⟨S1024, .f32⟩ : BufTy).Contents (Elt Ideal) := fun i => ((A.gpre (i 0) : ℝ) : EReal)
abbrev X2 : (⟨S1024x2816, .f32⟩ : BufTy).Contents (Elt Ideal) := fun i => ((A.wg (i 0) (i 1) : ℝ) : EReal)
abbrev X3 : (⟨S1024x2816, .f32⟩ : BufTy).Contents (Elt Ideal) := fun i => ((A.wu (i 0) (i 1) : ℝ) : EReal)

theorem v6 (i : S16384x1.Idx) : val_main_v6 (F := Ideal) (X0 A) i = ((ms (A.x (i 0)) : ℝ) : EReal) := by
  simp only [val_main_v6_apply, val_main_v5_apply, val_main_cst_1_apply, val_main_v4_apply, val_main_v3_apply, val_main_cst_0_apply,
    val_main_v2_apply, val_main_v1_apply, val_main_cst_apply, val_main_v0_apply, Ideal.mulf_def, Ideal.addf_def, Ideal.hostDivf_def,
    Ideal.ofBits_def, Ideal.ofBits_zero_f32, ofBits_1024, ofBits_eps, ← EReal.coe_mul, sum_coe, zero_add, ← EReal.coe_add,
    div_coe _ (show (1024 : ℝ) ≠ 0 by norm_num)]
  rfl

theorem v7 (i : S16384x1.Idx) : val_main_v7 (F := Ideal) (X0 A) i = ((rstd (A.x (i 0)) : ℝ) : EReal) := by
  simp only [val_main_v7_apply, v6, Ideal.hostUnary_rsqrt_def, rsqrt_coe (ms_pos _)]
  rfl

/-- The normalised rows. -/
theorem v12 (i : S16384x1024.Idx) : val_main_v12 (F := Ideal) (X0 A) (X1 A) i = ((A.hn (i 0) (i 1) : ℝ) : EReal) := by
  simp only [val_main_v12_apply, val_main_v11_apply, val_main_v10_apply, val_main_v9_apply, val_main_v8_apply, v7, Ideal.mulf_def,
    ← EReal.coe_mul]
  rfl

theorem v13 (i : S16384x2816.Idx) : val_main_v13 (F := Ideal) (X0 A) (X1 A) (X2 A) i = ((A.gate (i 0) (i 1) : ℝ) : EReal) := by
  simp only [val_main_v13_apply, v12, ← EReal.coe_mul, sum_coe]
  rfl

theorem v14 (i : S16384x2816.Idx) : val_main_v14 (F := Ideal) (X0 A) (X1 A) (X3 A) i = ((A.up (i 0) (i 1) : ℝ) : EReal) := by
  simp only [val_main_v14_apply, v12, ← EReal.coe_mul, sum_coe]
  rfl

/-- The gate's logistic, which the derivative's part spells out, and which the saved product's part spells out again. -/
theorem v15_2 (i : S16384x2816.Idx) :
    val_main_v15_2 (F := Ideal) (X0 A) (X1 A) (X2 A) i = ((sigm (A.gate (i 0) (i 1)) : ℝ) : EReal) := by
  simp only [val_main_v15_2_apply, val_main_call0_v4_apply, val_main_call0_cst_0_apply, val_main_call0_v3_apply, val_main_call0_v2_apply,
    val_main_call0_cst_apply, val_main_call0_v1_apply, val_main_call0_v0_apply, v13, Ideal.hostDivf_def, Ideal.ofBits_def, ofBits_one,
    Ideal.addf_def, Ideal.hostUnary_exp_def, Ideal.hostNegf_def, Ideal.negf_def, ← EReal.coe_neg, exp_coe, ← EReal.coe_add,
    div_coe _ (one_add_exp_ne _)]
  rfl

theorem call2_v5 (i : S16384x2816.Idx) :
    val_main_call2_v5 (F := Ideal) (X0 A) (X1 A) (X2 A) i = ((sigm (A.gate (i 0) (i 1)) : ℝ) : EReal) := v15_2 A i

theorem v15_1 (i : S16384x2816.Idx) : val_main_v15_1 (F := Ideal) (X0 A) (X1 A) (X2 A) i
    = ((sigm (A.gate (i 0) (i 1)) * (1 - sigm (A.gate (i 0) (i 1))) : ℝ) : EReal) := by
  simp only [val_main_v15_1_apply, v15_2, val_main_call0_v7_apply, val_main_call0_v6_apply, val_main_call0_cst_1_apply, Ideal.ofBits_def,
    ofBits_one, Ideal.subf_def, Ideal.mulf_def, ← EReal.coe_sub, ← EReal.coe_mul]

/-- The gated product. -/
theorem v16 (i : S16384x2816.Idx) : val_main_v16 (F := Ideal) (X0 A) (X1 A) (X2 A) (X3 A) i = ((A.act (i 0) (i 1) : ℝ) : EReal) := by
  simp only [val_main_v16_apply, val_main_v15_0_apply, v13, v14, v15_2, Ideal.mulf_def, ← EReal.coe_mul]
  rfl

/-- The gated product's derivative by the gate. -/
theorem v19 (i : S16384x2816.Idx) : val_main_v19 (F := Ideal) (X0 A) (X1 A) (X2 A) (X3 A) i = ((A.dact (i 0) (i 1) : ℝ) : EReal) := by
  simp only [val_main_v19_apply, val_main_call1_v2_apply, val_main_call1_v1_apply, val_main_call1_v0_apply, val_main_v18_apply,
    val_main_v17_apply, val_main_cst_2_apply, v13, v14, v15_2, v15_1, Ideal.ofBits_def, ofBits_one, Ideal.mulf_def, Ideal.addf_def,
    ← EReal.coe_mul, ← EReal.coe_add]
  refine congrArg (fun r : ℝ => (r : EReal)) ?_
  unfold Args.dact Args.silu
  ring

/-- The gate's part of the gated product. -/
theorem v20 (i : S16384x2816.Idx) : val_main_v20 (F := Ideal) (X0 A) (X1 A) (X2 A) i = ((A.silu (i 0) (i 1) : ℝ) : EReal) := by
  simp only [val_main_v20_apply, v13, call2_v5, Ideal.mulf_def, ← EReal.coe_mul]
  rfl

theorem v21 (i : S16384x2816.Idx) : val_main_v21 (F := Ideal) (X0 A) (X1 A) (X2 A) i = ((A.silu (i 0) (i 1) : ℝ) : EReal) :=
  (val_main_v21_apply _ _ _ i).trans (v20 A i)

theorem v22 (i : S16384x2816.Idx) : val_main_v22 (F := Ideal) (X0 A) (X1 A) (X2 A) (X3 A) i = ((A.dact (i 0) (i 1) : ℝ) : EReal) :=
  (val_main_v22_apply _ _ _ _ i).trans (v19 A i)

theorem v23 (i : S16384x2816.Idx) : val_main_v23 (F := Ideal) (X0 A) (X1 A) (X2 A) (X3 A) i = ((A.act (i 0) (i 1) : ℝ) : EReal) :=
  (val_main_v23_apply _ _ _ _ i).trans (v16 A i)

end FfnIn.Ref

end
-- ==== Proof.FfnIn.Run.lean ====
/- The FFN's input side: from finite arguments the two programs end with the same three arrays. -/
module

public import proofs.«01_k».proof.Proof.FfnIn.Arrays
public import proofs.«01_k».proof.Proof.FfnIn.Ref
public import proofs.«01_k».proof.Proof.Ffn.Pre
public import proofs.«01_k».proof.Proof.Gen.Pre_finite4
public import proofs.«01_k».proof.Proof.Gen.Reference4Ideal.Run
public import proofs.«01_k».proof.Defs

@[expose] public section

set_option maxRecDepth 16384

noncomputable section

open Idealize.ShloMosaic Idealize.SL.Sem Ffn

namespace FfnIn

/-- Finite arguments are the real numbers of some `Args`; what the call does not take is zero there. -/
theorem args_of_finite (m : (ℓ : Loc Cert.Kernel4Ideal.nD Cert.Kernel4Ideal.τ Cert.Kernel4Ideal.sig) → Buf (Elt Ideal) ℓ)
    (hpre : Cert.Pre_Kernel4Ideal_finite4 m) (c : Dev Cert.Kernel4Ideal.nD) : ∃ A : Args, HoldsArgs m c A := by
  obtain ⟨h0, h1, h2, h3⟩ := hpre c
  obtain ⟨x, hx⟩ := E2_of_real _ fun i => real_of_lt _ (congrFun h0 i)
  obtain ⟨gpre, hgpre⟩ := E1_of_real _ fun i => real_of_lt _ (congrFun h1 i)
  obtain ⟨wg, hwg⟩ := E2_of_real _ fun i => real_of_lt _ (congrFun h2 i)
  obtain ⟨wu, hwu⟩ := E2_of_real _ fun i => real_of_lt _ (congrFun h3 i)
  exact ⟨⟨x, gpre, 0, wg, wu, 0, 0⟩, ⟨hx, hgpre, hwg, hwu⟩⟩

section

open Cert.Reference4Ideal Cert.Reference4Ideal.Gen

theorem reference_frame : Cert.quiescent_Reference4Ideal := fun m ρ _ =>
  (θ_run defs _ _).mono (fun r h => ⟨fun c => (h c).2.2.2, sem_eq_zero_of_no_sems (by decide) r.2⟩) (Cert.Reference4Ideal.Value.run m ρ)

end

theorem algebraic : Cert.algebraic_Kernel4Ideal_Reference4Ideal_pre_finite4 := by
  intro m g m' g' hpre hargs
  choose A H using args_of_finite m hpre
  refine ⟨fun c => E2 (A c).silu, fun c => E2 (A c).dact, fun c => E2 (A c).act, ?_, ?_⟩
  · refine (θ_run _ _ _).mono (fun r h c => ?_) (Cert.Kernel4Ideal.Value.run_blocks m g)
    obtain ⟨h4, h5, h6, h⟩ := h c
    exact ⟨h4.trans (arr4 (H c)), h5.trans (arr5 (H c)), h6.trans (arr6 (H c)), h⟩
  · refine (θ_run _ _ _).mono (fun r h c => ?_) (Cert.Reference4Ideal.Value.run m' g')
    obtain ⟨h4, h5, h6, h⟩ := h c
    obtain ⟨h0, h1, h2, h3⟩ := hargs c
    have e0 : m' ((c.tc : Thread Cert.Reference4Ideal.nD Cert.Reference4Ideal.τ).loc Cert.Reference4Ideal.main_arg0) = Ref.X0 (A c) := h0.trans (H c).x
    have e1 : m' ((c.tc : Thread Cert.Reference4Ideal.nD Cert.Reference4Ideal.τ).loc Cert.Reference4Ideal.main_arg1) = Ref.X1 (A c) := h1.trans (H c).gpre
    have e2 : m' ((c.tc : Thread Cert.Reference4Ideal.nD Cert.Reference4Ideal.τ).loc Cert.Reference4Ideal.main_arg2) = Ref.X2 (A c) := h2.trans (H c).wg
    have e3 : m' ((c.tc : Thread Cert.Reference4Ideal.nD Cert.Reference4Ideal.τ).loc Cert.Reference4Ideal.main_arg3) = Ref.X3 (A c) := h3.trans (H c).wu
    refine ⟨h4.trans ?_, h5.trans ?_, h6.trans ?_, h⟩
    · rw [Cert.Reference4Ideal.Read.val_main_v21_eq, e0, e1, e2]
      exact funext fun i => Ref.v21 (A c) i
    · rw [Cert.Reference4Ideal.Read.val_main_v22_eq, e0, e1, e2, e3]
      exact funext fun i => Ref.v22 (A c) i
    · rw [Cert.Reference4Ideal.Read.val_main_v23_eq, e0, e1, e2, e3]
      exact funext fun i => Ref.v23 (A c) i

end FfnIn

end
-- ==== Proof.MatBwd.Grad.lean ====
/- The gradient of a row's root-mean-square normalisation over the extended reals: the kernel's form and the form reverse
   differentiation writes are the same number, whatever the row and the cotangent hold. -/
module

public import proofs.«01_k».proof.Proof.Ffn.Real

@[expose] public section

noncomputable section

open Idealize.ShloMosaic Ffn

namespace MatBwd

/-- A row's mean square, the small number added. -/
def meanSq (v : Fin 1024 → EReal) : EReal :=
  Ideal.div (∑ k, v k * v k) (Ideal.ofBits .f32 0x44800000#32) + Ideal.ofBits .f32 0x358637BD#32

/-- The factor that normalises a row. -/
def inv (v : Fin 1024 → EReal) : EReal := Ideal.rsqrt (meanSq v)

/-- The gradient of a row's normalisation at the row `v`, of the cotangent `w`, as the kernel computes it. -/
def grad (v w : Fin 1024 → EReal) (d : Fin 1024) : EReal :=
  inv v * (w d - v d * inv v * Ideal.div (∑ e, w e * (v e * inv v)) (Ideal.ofBits .f32 0x44800000#32))

/-- The inverse root's own derivative, times the row's product with the cotangent: a row's shared factor. -/
def share (v w : Fin 1024 → EReal) : EReal :=
  Ideal.div ((∑ e, v e * w e) * (Ideal.ofBits .f32 0xBF000000#32 * Ideal.div (inv v) (meanSq v))) (Ideal.ofBits .f32 0x44800000#32)

theorem div_1024 (a : EReal) : Ideal.div a (Ideal.ofBits .f32 0x44800000#32) = a * ((1 / 1024 : ℝ) : EReal) := by
  have h : ((1024 : ℝ) : EReal) ≠ 0 := by exact_mod_cast (by norm_num : (1024 : ℝ) ≠ 0)
  rw [ofBits_1024, Ideal.div, if_neg h, ← EReal.coe_inv, one_div]

theorem square_nonneg (a : EReal) : 0 ≤ a * a := by
  induction a with
  | bot => simp
  | coe r => rw [← EReal.coe_mul]; exact_mod_cast mul_self_nonneg r
  | top => simp

/-- A row with an infinite entry has an infinite mean square. -/
theorem meanSq_top (v : Fin 1024 → EReal) (k : Fin 1024) (h : v k = ⊤ ∨ v k = ⊥) : meanSq v = ⊤ := by
  have h1 : v k * v k = ⊤ := by rcases h with h | h <;> rw [h] <;> simp
  have h2 : ∑ k, v k * v k = ⊤ := top_le_iff.mp (h1 ▸ Finset.single_le_sum (f := fun k => v k * v k) (fun i _ => square_nonneg _) (Finset.mem_univ k))
  rw [meanSq, h2, div_1024, ofBits_eps, EReal.top_mul_coe_of_pos (by norm_num), EReal.top_add_coe]

theorem inv_top (v : Fin 1024 → EReal) (h : meanSq v = ⊤) : inv v = 0 := by
  rw [inv, h]; rfl

theorem meanSq_coe (u : Fin 1024 → ℝ) : meanSq (fun k => (u k : EReal)) = ((ms u : ℝ) : EReal) := by
  simp only [meanSq, ← EReal.coe_mul]
  rw [sum_coe, ofBits_1024, div_coe _ (by norm_num), ofBits_eps, ← EReal.coe_add]
  rfl

theorem inv_coe (u : Fin 1024 → ℝ) : inv (fun k => (u k : EReal)) = ((rstd u : ℝ) : EReal) := by
  rw [inv, meanSq_coe, rsqrt_coe (ms_pos u)]; rfl

theorem sum_mul_coe (f : Fin 1024 → EReal) {r : ℝ} (hr : 0 ≤ r) : ∑ e, f e * (r : EReal) = (∑ e, f e) * (r : EReal) := by
  have h : ∀ s : Finset (Fin 1024), ∑ e ∈ s, f e * (r : EReal) = (∑ e ∈ s, f e) * (r : EReal) := by
    classical
    intro s
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h _

/-- The two occurrences of the shared factor, as one term of the kernel's form. -/
theorem share_twice (u r : ℝ) (hr : 0 < r) (S : EReal) :
    (u : EReal) * (S * ((-(1 / 2) * (r * r * r) : ℝ) : EReal) * ((1 / 1024 : ℝ) : EReal))
      + S * ((-(1 / 2) * (r * r * r) : ℝ) : EReal) * ((1 / 1024 : ℝ) : EReal) * (u : EReal)
      = (r : EReal) * -((u : EReal) * (r : EReal) * (S * (r : EReal) * ((1 / 1024 : ℝ) : EReal))) := by
  have hk : (0 : ℝ) < 1 / 1024 := by norm_num
  have hc : -(1 / 2) * (r * r * r) < 0 := by have := mul_pos (mul_pos hr hr) hr; linarith
  induction S with
  | coe s => norm_cast; push_cast; ring
  | top =>
    rw [EReal.top_mul_coe_of_neg hc, EReal.bot_mul_coe_of_pos hk, EReal.top_mul_coe_of_pos hr, EReal.top_mul_coe_of_pos hk, ← EReal.coe_mul]
    rcases lt_trichotomy u 0 with h | h | h
    · rw [EReal.coe_mul_bot_of_neg h, EReal.bot_mul_coe_of_neg h, EReal.coe_mul_top_of_neg (mul_neg_of_neg_of_pos h hr), EReal.neg_bot,
        EReal.coe_mul_top_of_pos hr]; rfl
    · subst h; simp
    · rw [EReal.coe_mul_bot_of_pos h, EReal.bot_mul_coe_of_pos h, EReal.coe_mul_top_of_pos (mul_pos h hr), EReal.neg_top,
        EReal.coe_mul_bot_of_pos hr]; rfl
  | bot =>
    rw [EReal.bot_mul_coe_of_neg hc, EReal.top_mul_coe_of_pos hk, EReal.bot_mul_coe_of_pos hr, EReal.bot_mul_coe_of_pos hk, ← EReal.coe_mul]
    rcases lt_trichotomy u 0 with h | h | h
    · rw [EReal.coe_mul_top_of_neg h, EReal.top_mul_coe_of_neg h, EReal.coe_mul_bot_of_neg (mul_neg_of_neg_of_pos h hr), EReal.neg_top,
        EReal.coe_mul_bot_of_pos hr]; rfl
    · subst h; simp
    · rw [EReal.coe_mul_top_of_pos h, EReal.top_mul_coe_of_pos h, EReal.coe_mul_bot_of_pos (mul_pos h hr), EReal.neg_bot,
        EReal.coe_mul_top_of_pos hr]; rfl

/-- The gradient as reverse differentiation writes it: the cotangent scaled, and the row times the shared factor, twice. -/
theorem grad_eq (v w : Fin 1024 → EReal) (d : Fin 1024) :
    w d * inv v + v d * share v w + share v w * v d = grad v w d := by
  by_cases hv : ∃ k, v k = ⊤ ∨ v k = ⊥
  · obtain ⟨k, hk⟩ := hv
    have hm := meanSq_top v k hk
    have hi := inv_top v hm
    have hs : share v w = 0 := by
      rw [share, div_1024, hi, hm, Ideal.div, if_neg (by simp)]; simp
    rw [grad, hi, hs]; simp
  · have hv' : ∀ k, v k ≠ ⊤ ∧ v k ≠ ⊥ := fun k => ⟨fun h => hv ⟨k, .inl h⟩, fun h => hv ⟨k, .inr h⟩⟩
    obtain ⟨u, rfl⟩ : ∃ u : Fin 1024 → ℝ, v = fun k => (u k : EReal) :=
      ⟨fun k => (v k).toReal, funext fun k => (EReal.coe_toReal (hv' k).1 (hv' k).2).symm⟩
    have hr : 0 < rstd u := by have := ms_pos u; unfold rstd; positivity
    have hs : share (fun k => (u k : EReal)) w
        = (∑ e, (u e : EReal) * w e) * ((-(1 / 2) * (rstd u * rstd u * rstd u) : ℝ) : EReal) * ((1 / 1024 : ℝ) : EReal) := by
      rw [share, div_1024, inv_coe, meanSq_coe, div_coe _ (ms_pos u).ne', rstd_div_ms, ofBits_neg_half, ← EReal.coe_mul]
    have hw : ∑ e, w e * ((u e : EReal) * (rstd u : EReal)) = (∑ e, (u e : EReal) * w e) * (rstd u : EReal) := by
      rw [← sum_mul_coe _ hr.le]
      exact Finset.sum_congr rfl fun e _ => by rw [← mul_assoc, mul_comm (w e)]
    rw [grad, inv_coe, hw, hs, div_1024, sub_eq_add_neg, EReal.left_distrib_of_nonneg_of_ne_top (by exact_mod_cast hr.le) (EReal.coe_ne_top _),
      add_assoc, share_twice _ _ hr, mul_comm (w d)]

end MatBwd

end
-- ==== Proof.MatBwd.Spec.lean ====
/- The gating unit's input side, backwards: what the call leaves, entry by entry over the extended reals, and the kernel's and the
   reference's operations read at an entry. -/
module

public import proofs.«01_k».proof.Proof.MatBwd.Grad
public import proofs.«01_k».proof.Proof.Wgrad.Product
public import proofs.«01_k».proof.Proof.Gen.Kernel6Ideal
public import proofs.«01_k».proof.Proof.Gen.Kernel6Ideal.Skeleton
public import proofs.«01_k».proof.Proof.Gen.Reference6Ideal.Read

@[expose] public section

set_option maxRecDepth 16384

noncomputable section

open Idealize.ShloMosaic

namespace MatBwd

/-- An array of extended reals with `n` rows of `k`. -/
abbrev Rows (n k : ℕ) := (⟨2, ![n, k]⟩ : Shape).Idx → EReal

/-- One row. -/
def row {n : ℕ} (x : Rows n 1024) (p : Fin n) : Fin 1024 → EReal := fun e => x (ValueIdx.ix2 p e)

/-- A cotangent's row times one column of the transposed weight: the gradient of the normalised, scaled input. -/
def dot {n : ℕ} (z : Rows n 4096) (w : Rows 4096 1024) (p : Fin n) (d : Fin 1024) : EReal :=
  ∑ k : Fin 4096, z (ValueIdx.ix2 p k) * w (ValueIdx.ix2 k d)

/-- A normalised entry. -/
def normed {n : ℕ} (x : Rows n 1024) (p : Fin n) (d : Fin 1024) : EReal := x (ValueIdx.ix2 p d) * inv (row x p)

/-- The scaled, normalised input the call leaves for the weight's gradient. -/
def hAt {n : ℕ} (x : Rows n 1024) (g : Fin 1024 → EReal) (p : Fin n) (d : Fin 1024) : EReal := normed x p d * g d

/-- The input's gradient: the residual branch's, and the normalisation's. -/
def dxAt {n : ℕ} (ct x : Rows n 1024) (g : Fin 1024 → EReal) (z : Rows n 4096) (w : Rows 4096 1024) (p : Fin n) (d : Fin 1024) : EReal :=
  ct (ValueIdx.ix2 p d) + grad (row x p) (fun e => dot z w p e * g e) d

/-- One token's share of the gain's gradient. -/
def dgAt {n : ℕ} (x : Rows n 1024) (z : Rows n 4096) (w : Rows 4096 1024) (p : Fin n) (d : Fin 1024) : EReal := dot z w p d * normed x p d

theorem ix2_eq {a b : ℕ} (j : (⟨2, ![a, b]⟩ : Shape).Idx) (p : Fin a) (q : Fin b) (h0 : j 0 = p) (h1 : j 1 = q) : j = ValueIdx.ix2 p q :=
  funext fun x => by
    match x with
    | ⟨0, _⟩ => exact h0
    | ⟨1, _⟩ => exact h1

section Kernel

open Cert.Kernel6Ideal Cert.Kernel6Ideal.Gen

theorem col_apply (r : FVec Ideal S512x1 .f32) (i : S512x1024.Idx) :
    broadcastTo S512x1024 r broadcasts_S512x1_S512x1024 i = r (ValueIdx.ix2 (i 0) 0) :=
  broadcastTo_apply r broadcasts_S512x1_S512x1024 i (ValueIdx.ix2 (i 0) 0) fun x => by
    match x with
    | ⟨0, _⟩ => rfl
    | ⟨1, _⟩ => rfl

theorem row_apply (r : FVec Ideal S1x1024 .f32) (i : S512x1024.Idx) :
    broadcastTo S512x1024 r broadcasts_S1x1024_S512x1024 i = r (ValueIdx.ix2 0 (i 1)) :=
  broadcastTo_apply r broadcasts_S1x1024_S512x1024 i (ValueIdx.ix2 0 (i 1)) fun x => by
    match x with
    | ⟨0, _⟩ => rfl
    | ⟨1, _⟩ => rfl

/-- Each row's sum, as a column. -/
theorem sums_apply (h : FVec Ideal S512x1024 .f32) (hφ : FKind.Formats .f32) (w : BitVec 32) (hw : w = FKind.add.neutral .f32 hφ) (i : S512x1.Idx) :
    shapeCast S512x1 (multiReduction (F := Ideal) .add [1] S512 h w reduces_S512x1024_S512 hφ hw) shapeCasts_S512_S512x1 i
      = ∑ k : Fin 1024, h (ValueIdx.ix2 (i 0) k) := by
  have h1 : (i 1).val < 1 := (i 1).isLt
  refine (shapeCast_apply _ shapeCasts_S512_S512x1 i (ValueIdx.ix1 (i 0)) ?_).trans ?_
  · rw [Shape.rowMajor_val_one, Shape.rowMajor_val_two]
    show (i 0).val = (i 0).val * 1 + (i 1).val
    omega
  · rw [Ideal.multiReduction_add_single]
    exact Finset.sum_congr rfl fun k _ => congrArg h (ix2_eq _ _ _ rfl rfl)

/-- Each row's mean, along the row. -/
theorem mean_apply (h : FVec Ideal S512x1024 .f32) (hφ : FKind.Formats .f32) (w : BitVec 32) (hw : w = FKind.add.neutral .f32 hφ) (i : S512x1024.Idx) :
    broadcastTo S512x1024 (divf (shapeCast S512x1 (multiReduction (F := Ideal) .add [1] S512 h w reduces_S512x1024_S512 hφ hw) shapeCasts_S512_S512x1)
        (broadcast S512x1 (Scalar.ofBits (F := Ideal) .f32 0x44800000#32))) broadcasts_S512x1_S512x1024 i
      = Ideal.div (∑ k : Fin 1024, h (ValueIdx.ix2 (i 0) k)) (Ideal.ofBits .f32 0x44800000#32) :=
  (col_apply _ i).trans (congrArg (fun s => Ideal.div s (Ideal.ofBits .f32 0x44800000#32)) (sums_apply h hφ w hw _))

/-- Row `s` of group `k` of a block. -/
def sub8 (k : Fin 64) (s : Fin 8) : Fin 512 := ⟨k.val * 8 + s.val, by omega⟩

/-- The sum over the groups of eight rows. -/
theorem groups_apply (h : FVec Ideal S512x1024 .f32) (hφ : FKind.Formats .f32) (w : BitVec 32) (hw : w = FKind.add.neutral .f32 hφ) (i : S8x1024.Idx) :
    multiReduction (F := Ideal) .add [0] S8x1024 (shapeCast S64x8x1024 h shapeCasts_S512x1024_S64x8x1024) w reduces_S64x8x1024_S8x1024 hφ hw i
      = ∑ k : Fin 64, h (ValueIdx.ix2 (sub8 k (i 0)) (i 1)) := by
  rw [Ideal.multiReduction_add_single]
  refine Finset.sum_congr rfl fun k _ => ?_
  refine shapeCast_apply h shapeCasts_S512x1024_S64x8x1024 _ (ValueIdx.ix2 (sub8 k (i 0)) (i 1)) ?_
  rw [Shape.rowMajor_val_two, Shape.rowMajor_val_three]
  rfl

theorem pay3_apply (z : Vec Ideal S512x4096 .bf16) (w : Vec Ideal S4096x1024 .bf16) (i : S512x1024.Idx) :
    k0_pay3 (F := Ideal) z w i = dot z w (i 0) (i 1) := by
  simp only [k0_pay3, shapeCast_self]
  simp only [matmul]
  rw [Ideal.matmul_constant_zero_apply]
  refine Wgrad.sum_contr _ 4096 rfl rfl z w i (fun k => ValueIdx.ix2 (i 0) k) (fun k => ValueIdx.ix2 k (i 1)) (fun q x => ?_) fun q x => ?_
  · match x with
    | ⟨0, _⟩ => rfl
    | ⟨1, _⟩ => rfl
  · match x with
    | ⟨0, _⟩ => rfl
    | ⟨1, _⟩ => rfl

theorem pay5_apply (x : Vec Ideal S512x1024 .f32) (i : S512x1.Idx) : k0_pay5 (F := Ideal) x i = inv (row x (i 0)) := by
  have h := sums_apply (mulf x x) (.inl rfl) 0x00000000#32 rfl i
  unfold k0_pay5
  exact congrArg (fun s => Ideal.rsqrt (Ideal.div s (Ideal.ofBits .f32 0x44800000#32) + Ideal.ofBits .f32 0x358637BD#32)) h

theorem pay6_apply (x : Vec Ideal S512x1024 .f32) (i : S512x1024.Idx) : k0_pay6 (F := Ideal) x i = normed x (i 0) (i 1) := by
  unfold k0_pay6
  exact congrArg₂ (· * ·) (congrArg x (ix2_eq i (i 0) (i 1) rfl rfl)) ((col_apply _ i).trans (pay5_apply x _))

theorem pay7_apply (x : Vec Ideal S512x1024 .f32) (g : Vec Ideal S1x1024 .f32) (i : S512x1024.Idx) :
    k0_pay7 (F := Ideal) x g i = hAt x (fun e => g (ValueIdx.ix2 0 e)) (i 0) (i 1) := by
  unfold k0_pay7 k0_pay4
  rw [shapeCast_self]
  exact congrArg₂ (· * ·) (pay6_apply x i) (row_apply g i)

theorem pay9_apply (z : Vec Ideal S512x4096 .bf16) (w : Vec Ideal S4096x1024 .bf16) (g : Vec Ideal S1x1024 .f32) (i : S512x1024.Idx) :
    k0_pay9 (F := Ideal) z w g i = dot z w (i 0) (i 1) * g (ValueIdx.ix2 0 (i 1)) := by
  unfold k0_pay9 k0_pay4
  rw [shapeCast_self]
  exact congrArg₂ (· * ·) (pay3_apply z w i) (row_apply g i)

theorem pay1_apply (ct x : Vec Ideal S512x1024 .f32) (g : Vec Ideal S1x1024 .f32) (z : Vec Ideal S512x4096 .bf16) (w : Vec Ideal S4096x1024 .bf16)
    (i : S512x1024.Idx) :
    k0_pay1 (F := Ideal) (k0_pay5 x) (k0_pay6 x) (k0_pay9 z w g) ct i = dxAt ct x (fun e => g (ValueIdx.ix2 0 e)) z w (i 0) (i 1) := by
  have e := ix2_eq i (i 0) (i 1) rfl rfl
  have hm := (mean_apply (mulf (k0_pay9 (F := Ideal) z w g) (k0_pay6 x)) (.inl rfl) 0x00000000#32 rfl i).trans
    (congrArg (fun s => Ideal.div s (Ideal.ofBits .f32 0x44800000#32)) (Finset.sum_congr rfl fun k _ =>
      congrArg₂ (· * ·) (pay9_apply z w g (ValueIdx.ix2 (i 0) k)) (pay6_apply x (ValueIdx.ix2 (i 0) k))))
  have hr := (col_apply (k0_pay5 (F := Ideal) x) i).trans (pay5_apply x _)
  have h9 := pay9_apply z w g i
  have h6 := pay6_apply x i
  have hc : ct i = ct (ValueIdx.ix2 (i 0) (i 1)) := congrArg ct e
  unfold k0_pay1
  refine (congrArg₂ (· + ·) hc (congrArg₂ (· * ·) hr (congrArg₂ (· - ·) h9 (congrArg₂ (· * ·) h6 hm)))).trans ?_
  rfl

theorem pay8_apply (z : Vec Ideal S512x4096 .bf16) (w : Vec Ideal S4096x1024 .bf16) (x : Vec Ideal S512x1024 .f32) (acc : Vec Ideal S8x1024 .f32)
    (i : S8x1024.Idx) :
    k0_pay8 (F := Ideal) z w x acc i = acc i + ∑ k : Fin 64, dgAt x z w (sub8 k (i 0)) (i 1) := by
  unfold k0_pay8
  rw [shapeCast_self]
  exact congrArg (acc i + ·) ((groups_apply (mulf (k0_pay3 (F := Ideal) z w) (k0_pay6 x)) (.inl rfl) 0x00000000#32 rfl i).trans
    (Finset.sum_congr rfl fun k _ => congrArg₂ (· * ·) (pay3_apply z w _) (pay6_apply x _)))

theorem zeros : k0_pay2 (F := Ideal) = fun _ => 0 := by
  unfold k0_pay2
  funext i
  exact Ideal.ofBits_zero_f32

end Kernel

end MatBwd

end
-- ==== Proof.MatBwd.Ref.lean ====
/- The reference's gradient of the gating unit's input side, read at an entry. -/
module

public import proofs.«01_k».proof.Proof.MatBwd.Spec

@[expose] public section

set_option maxRecDepth 16384

noncomputable section

open Idealize.ShloMosaic

namespace MatBwd

open Cert.Reference6Ideal Cert.Reference6Ideal.Gen Cert.Reference6Ideal.Read

variable (x : FVec Ideal S16384x1024 .f32) (g : FVec Ideal S1024 .f32) (w : FVec Ideal S1024x4096 .f32) (z : FVec Ideal S16384x4096 .f32)
  (ct : FVec Ideal S16384x1024 .f32)

/-- The weight, transposed. -/
def turn (w : FVec Ideal S1024x4096 .f32) : Rows 4096 1024 := fun i => w (ValueIdx.ix2 (i 1) (i 0))

/-- The gain, by channel. -/
def gain (g : FVec Ideal S1024 .f32) : Fin 1024 → EReal := fun e => g (ValueIdx.ix1 e)

theorem zero_acc {a b : EReal} (h : a = b) : Ideal.ofBits .f32 0x00000000#32 + a = b := by
  rw [Ideal.ofBits_zero_f32, zero_add, h]

theorem ref_squares (j : S16384.Idx) : val_main_v1 (F := Ideal) x j = ∑ k, row x (j 0) k * row x (j 0) k := by
  rw [val_main_v1_apply, val_main_cst_apply]
  refine zero_acc (Finset.sum_congr rfl fun k _ => ?_)
  rw [val_main_v0_apply, ix2_eq (idx_main_v1 j k) (j 0) k rfl rfl]
  rfl

theorem ref_meanSq (i : S16384x1.Idx) : val_main_v6 (F := Ideal) x i = meanSq (row x (i 0)) := by
  rw [val_main_v6_apply, val_main_v5_apply, val_main_cst_1_apply, val_main_v4_apply, val_main_v3_apply, val_main_cst_0_apply, val_main_v2_apply,
    ref_squares]
  rfl

theorem ref_inv (i : S16384x1.Idx) : val_main_v7 (F := Ideal) x i = inv (row x (i 0)) := by
  rw [val_main_v7_apply, ref_meanSq]
  rfl

theorem ref_normed (i : S16384x1024.Idx) : val_main_v12 (F := Ideal) x i = normed x (i 0) (i 1) := by
  rw [val_main_v12_apply, val_main_v11_apply, ref_inv]
  exact congrArg₂ (· * ·) (congrArg x (ix2_eq i (i 0) (i 1) rfl rfl)) rfl

theorem ref_dot (i : S16384x1024.Idx) : val_main_v17 (F := Ideal) w z i = dot z (turn w) (i 0) (i 1) := by
  rw [val_main_v17_apply]
  refine Finset.sum_congr rfl fun k _ => ?_
  rw [ix2_eq (lidx_main_v17 i k) (i 0) k rfl rfl, ix2_eq (ridx_main_v17 i k) (i 1) k rfl rfl]
  rfl

/-- The gain's gradient: the sum over the tokens. -/
theorem ref_dg (j : S1024.Idx) : val_main_v23 (F := Ideal) x w z j = ∑ p : Fin 16384, dgAt x z (turn w) p (j 0) := by
  rw [val_main_v23_apply, val_main_cst_4_apply]
  refine zero_acc (Fin.sum_univ_one _ |>.trans ?_)
  rw [val_main_v20_apply, val_main_v19_apply, val_main_cst_3_apply]
  refine zero_acc (Finset.sum_congr rfl fun p _ => ?_)
  have e : idx_main_v19 (idx_main_v20 (idx_main_v23 j 0)) p = ValueIdx.ix2 p (j 0) := ix2_eq _ _ _ rfl (Fin.ext (by simp [idx_main_v19, idx_main_v20, idx_main_v23]))
  rw [val_main_v18_apply, ref_normed, ref_dot, e]
  exact mul_comm _ _

/-- The normalised input's cotangent. -/
theorem ref_cot (i : S16384x1024.Idx) : val_main_v22 (F := Ideal) g w z i = dot z (turn w) (i 0) (i 1) * gain g (i 1) := by
  rw [val_main_v22_apply, ref_dot, val_main_v21_apply, val_main_v13_apply]
  refine congrArg (dot z (turn w) (i 0) (i 1) * ·) (congrArg g (funext fun a => ?_))
  match a with
  | ⟨0, _⟩ => rfl

theorem ref_share (j : S16384.Idx) : val_main_v33 (F := Ideal) x g w z j = share (row x (j 0)) fun e => dot z (turn w) (j 0) e * gain g e := by
  rw [val_main_v33_apply, val_main_cst_7_apply]
  refine zero_acc (Fin.sum_univ_one _ |>.trans ?_)
  have e1 : idx_main_v33 j 0 = ValueIdx.ix2 (j 0) 0 := ix2_eq _ _ _ rfl rfl
  rw [val_main_v32_apply, val_main_v31_apply, val_main_cst_6_apply, val_main_v30_apply, val_main_v26_apply, val_main_v25_apply, val_main_cst_5_apply,
    val_main_v10_apply, val_main_v9_apply, val_main_cst_2_apply, val_main_v8_apply, ref_inv, ref_meanSq, e1]
  have hs : Ideal.ofBits .f32 0x00000000#32 + ∑ k : Fin 1024, val_main_v24 (F := Ideal) x g w z (idx_main_v25 (idx_main_v26 (ValueIdx.ix2 (j 0) 0)) k)
      = ∑ e, row x (j 0) e * (dot z (turn w) (j 0) e * gain g e) := by
    refine zero_acc (Finset.sum_congr rfl fun k _ => ?_)
    have e2 : idx_main_v25 (idx_main_v26 (ValueIdx.ix2 (j 0) 0)) k = ValueIdx.ix2 (j 0) k :=
      ix2_eq _ _ _ (Fin.ext (by simp [idx_main_v25, idx_main_v26])) rfl
    rw [val_main_v24_apply, ref_cot, e2]
    rfl
  exact congrArg (fun s => Ideal.div (s * (Ideal.ofBits .f32 0xBF000000#32 * Ideal.div (inv (row x (j 0))) (meanSq (row x (j 0))))) (Ideal.ofBits .f32 0x44800000#32)) hs

theorem ref_dx (i : S16384x1024.Idx) : val_main_v38 (F := Ideal) x g w z ct i = dxAt ct x (gain g) z (turn w) (i 0) (i 1) := by
  have e := ix2_eq i (i 0) (i 1) rfl rfl
  have hx : x i = row x (i 0) (i 1) := congrArg x e
  have hc : ct i = ct (ValueIdx.ix2 (i 0) (i 1)) := congrArg ct e
  rw [val_main_v38_apply, val_main_v36_apply, val_main_v37_apply, val_main_v35_apply, val_main_v34_apply, ref_share, val_main_v29_apply,
    val_main_v28_apply, val_main_v27_apply, ref_inv, ref_cot, hx, hc]
  refine Eq.trans ?_ (congrArg (ct (ValueIdx.ix2 (i 0) (i 1)) + ·) (grad_eq (row x (i 0)) (fun e => dot z (turn w) (i 0) e * gain g e) (i 1)))
  rw [← add_assoc, ← add_assoc]
  rfl

theorem ref_h (i : S16384x1024.Idx) : val_main_v52 (F := Ideal) x g i = hAt x (gain g) (i 0) (i 1) := by
  have hg : val_main_v50 (F := Ideal) g i = gain g (i 1) := by
    rw [val_main_v50_apply, val_main_v49_apply]
    refine congrArg g (funext fun a => ?_)
    match a with
    | ⟨0, _⟩ => rfl
  have hn : val_main_v48 (F := Ideal) x i = normed x (i 0) (i 1) := ref_normed x i
  rw [val_main_v52_apply, val_main_v51_apply, hn, hg]
  rfl

end MatBwd

end
-- ==== Proof.MatBwd.Arrays.lean ====
/- The gating unit's input side, backwards: each grid point's blocks, and the three arrays the region leaves. -/
module

public import proofs.«01_k».proof.Proof.MatBwd.Ref
public import proofs.«01_k».proof.Proof.Wgrad.Acc
public import proofs.«01_k».proof.Proof.Gen.Kernel6Ideal.Frame
public import Idealize.ShloMosaic.Lib.Pipeline.ValueKit.Tiles
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Tactic Cert.Kernel6Ideal Cert.Kernel6Ideal.Gen

namespace MatBwd

variable (m : (ℓ : Loc nD τ Cert.Kernel6Ideal.sig) → Buf (Elt Ideal) ℓ) (c : Dev nD)

/-- The five arguments, as the device holds them. -/
def argX : FVec Ideal S16384x1024 .f32 := m (c, Proc.devRef .tc main_arg0)
def argG : FVec Ideal S1024 .f32 := m (c, Proc.devRef .tc main_arg1)
def argW : FVec Ideal S1024x4096 .f32 := m (c, Proc.devRef .tc main_arg2)
def argZ : FVec Ideal S16384x4096 .f32 := m (c, Proc.devRef .tc main_arg3)
def argC : FVec Ideal S16384x1024 .f32 := m (c, Proc.devRef .tc main_arg4)

theorem V_eq (b : Ref Cert.Kernel6Ideal.sig .tc) : V m c b = StableHlo.after hostOps0 (fun b => m (c, b)) (Proc.devRef .tc b) := by
  have h : ([hostOps0] : List (List (HloOp τ Cert.Kernel6Ideal.sig (Elt Ideal)))).flatten = hostOps0 := by
    simp only [List.flatten_cons, List.flatten_nil, List.append_nil]
  show StableHlo.after ([hostOps0] : List (List (HloOp τ Cert.Kernel6Ideal.sig (Elt Ideal)))).flatten _ _ = _
  rw [h]

theorem V_ct : (V m c main_arg4 : FVec Ideal S16384x1024 .f32) = argC m c := V_main_arg4 m c

theorem V_x : (V m c main_arg0 : FVec Ideal S16384x1024 .f32) = argX m c := V_main_arg0 m c

/-- The gain as one row. -/
theorem V_g : (V m c main_v0 : FVec Ideal S1x1024 .f32) = fun i => gain (argG m c) (i 1) := by
  rw [V_eq]
  unfold hostOps0
  entry_read
  funext i
  have h0 : (i 0).val < 1 := (i 0).isLt
  refine (shapeCast_apply (argG m c) shapeCasts_S1024_S1x1024 i (ValueIdx.ix1 (i 1)) ?_)
  rw [Shape.rowMajor_val_one, Shape.rowMajor_val_two]
  show (i 1).val = (i 0).val * 1024 + (i 1).val
  omega

theorem V_z : (V m c main_v1 : FVec Ideal S16384x4096 .bf16) = argZ m c := by
  rw [V_eq]
  unfold hostOps0
  entry_read
  rfl

/-- The weight, transposed on the host. -/
theorem V_w : (V m c main_v3 : FVec Ideal S4096x1024 .bf16) = turn (argW m c) := by
  rw [V_eq]
  unfold hostOps0
  entry_read
  funext i
  refine (transpose_apply [1, 0] (argW m c) transposes_S1024x4096_S4096x1024_1_0 i (ValueIdx.ix2 (i 1) (i 0)) fun x => ?_)
  match x with
  | ⟨0, _⟩ => rfl
  | ⟨1, _⟩ => rfl

theorem points : cfg0.N = 32 := by decide +kernel

/-- Token `q` of block `t`. -/
def tok (t : Fin cfg0.N) (q : Fin 512) : Fin 16384 := ⟨t.val * 512 + q.val, by have := lt_of_lt_of_eq t.isLt points; omega⟩

/-- The rows of block `t`. -/
def block {k : ℕ} (t : Fin cfg0.N) (x : Rows 16384 k) : Rows 512 k := fun y => x (ValueIdx.ix2 (tok t (y 0)) (y 1))

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

theorem blk0 (t : Fin cfg0.N) : iblk m c 0 t = block t (argC m c) := by
  funext y
  blk_simp [iblk]
  rw [V_ct]
  refine Wgrad.read_at _ _ _ ?_ ?_ <;> blk_simp [at0]
  rfl

theorem blk1 (t : Fin cfg0.N) : iblk m c 1 t = block t (argX m c) := by
  funext y
  blk_simp [iblk]
  rw [V_x]
  refine Wgrad.read_at _ _ _ ?_ ?_ <;> blk_simp [at1]
  rfl

theorem blk2 (t : Fin cfg0.N) : iblk m c 2 t = fun y => gain (argG m c) (y 1) := by
  funext y
  blk_simp [iblk]
  rw [V_g]
  refine Wgrad.read_at (fun i : S1x1024.Idx => gain (argG m c) (i 1)) _ y ?_ ?_ <;> blk_simp [at2]

theorem blk3 (t : Fin cfg0.N) : iblk m c 3 t = block t (argZ m c) := by
  funext y
  blk_simp [iblk]
  rw [V_z]
  refine Wgrad.read_at _ _ _ ?_ ?_ <;> blk_simp [at3]
  rfl

theorem blk4 (t : Fin cfg0.N) : iblk m c 4 t = turn (argW m c) := by
  funext y
  blk_simp [iblk]
  rw [V_w]
  refine Wgrad.read_at _ _ _ ?_ ?_ <;> blk_simp [at4]

/-- What the call leaves: the input's gradient, and the scaled, normalised input. -/
def outX (i : S16384x1024.Idx) : EReal := dxAt (argC m c) (argX m c) (gain (argG m c)) (argZ m c) (turn (argW m c)) (i 0) (i 1)
def outH (i : S16384x1024.Idx) : EReal := hAt (argX m c) (gain (argG m c)) (i 0) (i 1)

/-- One token's share of the gain's gradient. -/
def share1 (p : Fin 16384) (d : Fin 1024) : EReal := dgAt (argX m c) (argZ m c) (turn (argW m c)) p d

theorem out5 (t : Fin cfg0.N) : (outsAt0 m c t.val t.isLt).1 = fun y : S512x1024.Idx => outX m c (ValueIdx.ix2 (tok t (y 0)) (y 1)) := by
  by_cases h : t.val % 32 = 0
  · rw [outsAt0_A m c t h]
    frame_out
    rw [blk0, blk1, blk2, blk3, blk4]
    exact funext fun y => pay1_apply _ _ _ _ _ y
  · rw [outsAt0_B m c t h]
    frame_out
    rw [blk0, blk1, blk2, blk3, blk4]
    exact funext fun y => pay1_apply _ _ _ _ _ y

theorem out6 (t : Fin cfg0.N) : (outsAt0 m c t.val t.isLt).2.1 = fun y : S512x1024.Idx => outH m c (ValueIdx.ix2 (tok t (y 0)) (y 1)) := by
  by_cases h : t.val % 32 = 0
  · rw [outsAt0_A m c t h]
    frame_out
    rw [blk1, blk2]
    exact funext fun y => pay7_apply _ _ y
  · rw [outsAt0_B m c t h]
    frame_out
    rw [blk1, blk2]
    exact funext fun y => pay7_apply _ _ y

/-- Block `t`'s part of the gain's gradient, the rows taken in groups of eight. -/
def part (t : Fin cfg0.N) (i : S8x1024.Idx) : EReal := ∑ k : Fin 64, share1 m c (tok t (sub8 k (i 0))) (i 1)

theorem acc_first (t : Fin cfg0.N) (h : t.val % 32 = 0) : (outsAt0 m c t.val t.isLt).2.2 = fun i => 0 + part m c t i := by
  rw [outsAt0_A m c t h]
  frame_out
  rw [blk1, blk3, blk4, zeros]
  exact funext fun i => pay8_apply _ _ _ _ i

theorem acc_next (t : Fin cfg0.N) (h : ¬t.val % 32 = 0) : (outsAt0 m c t.val t.isLt).2.2
    = fun i => (outsAt0 m c (t.val - 1) (Nat.lt_of_le_of_lt (Nat.sub_le _ _) t.isLt)).2.2 i + part m c t i := by
  rw [outsAt0_B m c t h]
  frame_out
  rw [blk1, blk3, blk4]
  exact funext fun i => pay8_apply _ _ _ _ i

/-- The block numbers up to `n`. -/
def upto {n : ℕ} (h : n < cfg0.N) (j : Fin (n + 1)) : Fin cfg0.N := ⟨j.val, Nat.lt_of_le_of_lt (Nat.le_of_lt_succ j.isLt) h⟩

theorem acc_eq (n : ℕ) (h : n < cfg0.N) : (outsAt0 m c n h).2.2 = fun i => ∑ j : Fin (n + 1), part m c (upto h j) i := by
  have hN := points
  induction n with
  | zero =>
    refine (acc_first m c ⟨0, h⟩ rfl).trans (funext fun i => ?_)
    rw [zero_add, Fin.sum_univ_one]
    rfl
  | succ n ih =>
    refine (acc_next m c ⟨n + 1, h⟩ (show ¬(n + 1) % 32 = 0 by omega)).trans (funext fun i => ?_)
    refine (congrArg (· + _) (congrFun (ih (Nat.lt_of_succ_lt h)) i)).trans ?_
    exact (Fin.sum_univ_castSucc fun j : Fin (n + 1 + 1) => part m c (upto h j) i).symm

/-- The last grid point. -/
def lastPoint : Fin cfg0.N := ⟨31, by rw [points]; decide⟩

theorem arr5 : (dats m 0 c).arrAt 5 cfg0.N = (outX m c : FVec Ideal S16384x1024 .f32) := by
  refine (dats m 0 c).arrAt_eq_of_covers 5 _ (by decide +kernel) fun t hf y => ?_
  blk_simp
  rw [after0_5, out5]
  refine Wgrad.read_at _ _ _ ?_ ?_ <;> blk_simp [at5]
  rfl

theorem arr6 : (dats m 0 c).arrAt 6 cfg0.N = (outH m c : FVec Ideal S16384x1024 .bf16) := by
  refine (dats m 0 c).arrAt_eq_of_covers 6 _ (by decide +kernel) fun t hf y => ?_
  blk_simp
  rw [after0_6, out6]
  refine Wgrad.read_at _ _ _ ?_ ?_ <;> blk_simp [at6]
  rfl

/-- The eight rows' sums over the blocks. -/
def sums (i : S8x1024.Idx) : EReal := ∑ j : Fin 32, part m c (upto lastPoint.isLt j) i

theorem arr7 : (dats m 0 c).arrAt 7 cfg0.N = (sums m c : FVec Ideal S8x1024 .f32) := by
  refine (dats m 0 c).arrAt_eq_of_after_last 7 lastPoint (by decide +kernel) _ fun j => ?_
  blk_simp
  rw [after0_7, acc_eq m c]
  rfl

/-- The gain's gradient: the sum over all tokens. -/
def outG (j : S1024.Idx) : EReal := ∑ p : Fin 16384, share1 m c p (j 0)

/-- Blocks of 512 rows, each row counted by its group and its place in the group, are all the rows. -/
theorem sum_sums (j : S1024.Idx) : ∑ s : Fin 8, sums m c (ValueIdx.ix2 s (j 0)) = outG m c j := by
  simp only [sums]
  rw [Finset.sum_comm]
  refine Eq.trans ?_ (Fin.sum_mul_add_fin 32 512 fun p : Fin 16384 => share1 m c p (j 0))
  refine Finset.sum_congr rfl fun t _ => ?_
  simp only [part]
  rw [Finset.sum_comm]
  exact Fin.sum_mul_add_fin 64 8 fun q : Fin 512 => share1 m c (tok (upto lastPoint.isLt t) q) (j 0)

end MatBwd

end
-- ==== Proof.MatBwd.Run.lean ====
/- The gating unit's input side, backwards: the two programs end with the same three results. -/
module

public import proofs.«01_k».proof.Proof.MatBwd.Arrays
public import proofs.«01_k».proof.Proof.Gen.Reference6Ideal.Run
public import proofs.«01_k».proof.Defs

@[expose] public section

set_option maxRecDepth 16384

noncomputable section

open Idealize.ShloMosaic Idealize.ShloMosaic.Tactic Idealize.SL.Sem

namespace MatBwd

section kernel

open Cert.Kernel6Ideal Cert.Kernel6Ideal.Gen

variable {m : (ℓ : Loc nD τ Cert.Kernel6Ideal.sig) → Buf (Elt Ideal) ℓ}

/-- The core's buffers as the region leaves them. -/
abbrev exitContents (m : (ℓ : Loc nD τ Cert.Kernel6Ideal.sig) → Buf (Elt Ideal) ℓ) (c : Dev nD) : Valuation τ Cert.Kernel6Ideal.sig (Elt Ideal) :=
  Pipeline.withArrays spec0 c (V0 m c) fun w => (dats m 0 c).arrAt w cfg0.N

theorem arr_inj : Function.Injective (Pipeline.arrRef spec0) := by decide +kernel

theorem tail_eq (c : Dev nD) (b : Ref Cert.Kernel6Ideal.sig .tc) :
    Pipeline.afterTail₀ cfgs (dats m) 0 (V0 m) [hostOps1] c b = StableHlo.after hostOps1 (exitContents m c) (Proc.devRef .tc b) := by
  have h : ([hostOps1] : List (List (HloOp τ Cert.Kernel6Ideal.sig (Elt Ideal)))).flatten = hostOps1 := by
    simp only [List.flatten_cons, List.flatten_nil, List.append_nil]
  show StableHlo.after ([hostOps1] : List (List (HloOp τ Cert.Kernel6Ideal.sig (Elt Ideal)))).flatten _ _ = _
  rw [h]

theorem exit_v4_2 (c : Dev nD) : (exitContents m c (Proc.devRef .tc main_v4_2) : FVec Ideal S8x1024 .f32) = sums m c :=
  (Pipeline.withArrays_arr spec0 arr_inj c (V0 m c) (fun w => (dats m 0 c).arrAt w cfg0.N) 7).trans (arr7 m c)

/-- The eight rows, summed on the host. -/
theorem host_sum (f : FVec Ideal S8x1024 .f32) (h : S8x1024.Reduces [0] S1024) :
    Host.reduceAdd (F := Ideal) (φ := .f32) f (constant S_ .f32 0x00000000#32) reducesTo_S8x1024_S1024_d0 h_S_
      = fun j => ∑ s : Fin 8, f (ValueIdx.ix2 s (j 0)) := by
  funext j
  refine (Ideal.hostReduceAdd_single reducesTo_S8x1024_S1024_d0 h f _ j).trans ?_
  exact zero_acc (Finset.sum_congr rfl fun s _ => congrArg f (ix2_eq _ _ _ rfl rfl))

theorem tail_v5 (c : Dev nD) : (Pipeline.afterTail₀ cfgs (dats m) 0 (V0 m) [hostOps1] c main_v5 : FVec Ideal S1024 .f32) = outG m c := by
  rw [tail_eq]
  unfold hostOps1
  entry_read
  rw [exit_v4_2 c]
  exact (host_sum _ (by decide +kernel)).trans (funext fun j => sum_sums m c j)

theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = (outX m c : FVec Ideal S16384x1024 .f32)
      ∧ r.2.mem ((c.tc : Thread nD τ).loc main_v4_1) = (outH m c : FVec Ideal S16384x1024 .bf16)
      ∧ r.2.mem ((c.tc : Thread nD τ).loc main_v5) = (outG m c : FVec Ideal S1024 .f32) :=
  (θ_run _ _ _).mono (fun r h c => ⟨(h.out_eq c 5).trans (arr5 m c), (h.out_eq c 6).trans (arr6 m c),
    (h.rest_eq c main_v5 (by decide +kernel)).trans (tail_v5 c)⟩) (run_main m ρ)

end kernel

/-- The reference leaves its arguments unchanged; it declares no semaphore. -/
theorem reference_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

theorem algebraic : Cert.algebraic_Kernel6Ideal_Reference6Ideal := by
  intro m g m' g' _ hargs
  refine ⟨fun c => outX m c, fun c => outH m c, fun c => outG m c, ?_, ?_⟩
  · refine (θ_run _ _ _).mono (fun r h c => ?_) (θ_run_and (kernel_run (m := m) g) (Cert.Kernel6Ideal.Gen.unchanged m g))
    obtain ⟨h0, h1, h2⟩ := h.1 c
    exact ⟨h0, h1, h2, h.2 c⟩
  · refine (θ_run _ _ _).mono (fun r h c => ?_) (Cert.Reference6Ideal.Value.run m' g')
    obtain ⟨h0, h1, h2, h⟩ := h c
    obtain ⟨e0, e1, e2, e3, e4⟩ := hargs c
    refine ⟨h0.trans ?_, h1.trans ?_, h2.trans ?_, h⟩
    · rw [Cert.Reference6Ideal.Read.val_main_v38_eq]
      erw [e0, e1, e2, e3, e4]
      exact funext fun i => ref_dx _ _ _ _ _ i
    · rw [Cert.Reference6Ideal.Read.val_main_v52_eq]
      erw [e0, e1]
      exact funext fun i => ref_h _ _ i
    · rw [Cert.Reference6Ideal.Read.val_main_v23_eq]
      erw [e0, e2, e3]
      exact funext fun j => ref_dg _ _ _ j

end MatBwd

end
-- ==== Proof.Sgu.Real.lean ====
/- The spatial gating unit's gradient over the real numbers: the unit's forward pass on rows of tokens, the layer
   normalisation's gradient and the activation's, and the gradient of every argument. -/
module

public import proofs.«01_k».proof.Proof.Ffn.Real

@[expose] public section

noncomputable section

open Ffn Idealize.ShloMosaic

namespace Sgu

/-! ### The activation -/

/-- The two constants of the activation's formula, as the format rounds them: near √(2/π) and near 0.044715. -/
def c0 : ℝ := 6693141 / 2 ^ 23
def c1 : ℝ := 12003091 / 2 ^ 28

theorem ofBits_c0 : Ideal.ofBits .f32 0x3F4C422A#32 = ((c0 : ℝ) : EReal) := by
  simp [Ideal.ofBits, Ideal.ieee, c0, -EReal.coe_mul]; norm_num
theorem ofBits_c1 : Ideal.ofBits .f32 0x3D372713#32 = ((c1 : ℝ) : EReal) := by
  simp [Ideal.ofBits, Ideal.ieee, c1, -EReal.coe_mul]; norm_num
theorem ofBits_half_c0 : Ideal.ofBits .f32 0x3ECC422A#32 = ((1 / 2 * c0 : ℝ) : EReal) := by
  simp [Ideal.ofBits, Ideal.ieee, c0, -EReal.coe_mul]; norm_num
theorem ofBits_three : Ideal.ofBits .f32 0x40400000#32 = ((3 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num

theorem tanh_coe (a : ℝ) : Ideal.tanh (a : EReal) = ((Real.tanh a : ℝ) : EReal) := rfl

def th (x : ℝ) : ℝ := Real.tanh (x * (c0 + c0 * c1 * (x * x)))
def cdf (x : ℝ) : ℝ := 1 / 2 * th x + 1 / 2
def gelu (x : ℝ) : ℝ := x * cdf x
/-- The activation's derivative. -/
def geluGrad (x : ℝ) : ℝ := cdf x + x * (1 - th x * th x) * (1 / 2 * c0 + 3 / 2 * (c0 * c1) * (x * x))

/-! ### One row's layer normalisation -/

def mean (v : Fin 2048 → ℝ) : ℝ := (∑ k, v k) / 2048
def cen (v : Fin 2048 → ℝ) (e : Fin 2048) : ℝ := v e - mean v
/-- The row's variance, `eps` added. -/
def var (v : Fin 2048 → ℝ) : ℝ := (∑ k, cen v k * cen v k) / 2048 + eps
def std (v : Fin 2048 → ℝ) : ℝ := (√(var v))⁻¹
def hat (v : Fin 2048 → ℝ) (e : Fin 2048) : ℝ := cen v e * std v

/-- The gradient of a row's layer normalisation at the row `v`, of the cotangent `w`. -/
def lnGrad (v w : Fin 2048 → ℝ) (e : Fin 2048) : ℝ :=
  std v * (w e - (∑ k, w k) / 2048 - hat v e * ((∑ k, w k * hat v k) / 2048))

theorem var_pos (v : Fin 2048 → ℝ) : 0 < var v := by
  have : 0 ≤ ∑ k, cen v k * cen v k := Finset.sum_nonneg fun k _ => mul_self_nonneg _
  have := eps_pos
  unfold var; positivity

theorem std_div_var (v : Fin 2048 → ℝ) : std v / var v = std v * std v * std v := by
  have h : std v * std v = (var v)⁻¹ := by
    rw [std, ← mul_inv, Real.mul_self_sqrt (var_pos v).le]
  rw [div_eq_mul_inv, ← h]; ring

theorem sum_cen (v : Fin 2048 → ℝ) : ∑ k, cen v k = 0 := by
  simp only [cen, Finset.sum_sub_distrib, Finset.sum_const, Finset.card_univ, Fintype.card_fin, mean, nsmul_eq_mul]
  push_cast; ring

/-- The variance's part of the gradient, as reverse differentiation accumulates it. -/
def varPart (v w : Fin 2048 → ℝ) : ℝ := (∑ k, cen v k * w k) * (-(1 / 2) * (std v / var v)) / 2048

/-- The centred row's cotangent, as reverse differentiation writes it. -/
def cenGrad (v w : Fin 2048 → ℝ) (e : Fin 2048) : ℝ := w e * std v + cen v e * varPart v w + varPart v w * cen v e

/-- Reverse differentiation's form of the layer normalisation's gradient: the centred row's entries sum to zero. -/
theorem lnGrad_eq (v w : Fin 2048 → ℝ) (e : Fin 2048) :
    cenGrad v w e + (∑ k, -cenGrad v w k) / 2048 = lnGrad v w e := by
  have h1 : ∑ k, -cenGrad v w k = -((∑ k, w k) * std v) := by
    have : ∀ k, -cenGrad v w k = -(w k * std v) + cen v k * (-(2 * varPart v w)) := fun k => by unfold cenGrad; ring
    simp only [this, Finset.sum_add_distrib, ← Finset.sum_mul, Finset.sum_neg_distrib, sum_cen]
    ring
  have h2 : ∑ k, w k * hat v k = (∑ k, cen v k * w k) * std v := by
    rw [Finset.sum_mul]; exact Finset.sum_congr rfl fun k _ => by unfold hat; ring
  rw [h1, lnGrad, h2, cenGrad, varPart, std_div_var, hat]; ring

/-! ### The unit on `n` tokens, in chunks of 128 -/

/-- What the unit's backward pass works on: the pre-activations, the layer normalisation's gain and offset, the masked
    mixing weights, the mixing bias per position and channel, the output weight, the second normalisation's gain, the
    result's cotangent, and the product the forward pass saved. -/
structure Part (n : ℕ) where
  hn : n % 128 = 0
  z : Fin n → Fin 4096 → ℝ
  lng : Fin 2048 → ℝ
  lnb : Fin 2048 → ℝ
  ws : Fin 8 → Fin 128 → Fin 128 → ℝ
  bias : Fin 128 → Fin 2048 → ℝ
  wo : Fin 2048 → Fin 1024 → ℝ
  gpost : Fin 1024 → ℝ
  ct : Fin n → Fin 1024 → ℝ
  m : Fin n → Fin 1024 → ℝ

def lo (e : Fin 2048) : Fin 4096 := ⟨e.val, by omega⟩
def hi (e : Fin 2048) : Fin 4096 := ⟨2048 + e.val, by omega⟩
/-- The group of a channel, and the channel of a group. -/
def grp (e : Fin 2048) : Fin 8 := ⟨e.val / 256, by omega⟩
def chan (g : Fin 8) (d : Fin 256) : Fin 2048 := ⟨g.val * 256 + d.val, by omega⟩
/-- A token's position in its chunk. -/
def pos {n : ℕ} (p : Fin n) : Fin 128 := ⟨p.val % 128, by omega⟩

namespace Part

variable {n : ℕ} (B : Part n)

/-- The token at position `s` of the chunk that holds token `p`. -/
def mate (p : Fin n) (s : Fin 128) : Fin n := ⟨p.val - p.val % 128 + s.val, by have := B.hn; omega⟩

def u (p : Fin n) (e : Fin 2048) : ℝ := gelu (B.z p (lo e))
def v (p : Fin n) (e : Fin 2048) : ℝ := gelu (B.z p (hi e))
def vln (p : Fin n) (e : Fin 2048) : ℝ := hat (B.v p) e * B.lng e + B.lnb e
def mixed (p : Fin n) (e : Fin 2048) : ℝ := ∑ s, B.ws (grp e) (pos p) s * B.vln (B.mate p s) e + B.bias (pos p) e
def gated (p : Fin n) (e : Fin 2048) : ℝ := B.u p e * B.mixed p e
/-- The saved product's cotangent. -/
def dm (p : Fin n) : Fin 1024 → ℝ := rmsGrad (B.m p) fun d => B.ct p d * B.gpost d
def dgt (p : Fin n) (e : Fin 2048) : ℝ := ∑ d, B.dm p d * B.wo e d
def du (p : Fin n) (e : Fin 2048) : ℝ := B.dgt p e * B.mixed p e
def dmx (p : Fin n) (e : Fin 2048) : ℝ := B.dgt p e * B.u p e
def dvln (p : Fin n) (e : Fin 2048) : ℝ := ∑ s, B.ws (grp e) s (pos p) * B.dmx (B.mate p s) e
def dv (p : Fin n) : Fin 2048 → ℝ := lnGrad (B.v p) fun e => B.dvln p e * B.lng e
/-- The pre-activations' gradient: the two halves' side by side. -/
def dz (p : Fin n) (k : Fin 4096) : ℝ :=
  if h : k.val < 2048 then B.du p ⟨k.val, h⟩ * geluGrad (B.z p k) else B.dv p ⟨k.val - 2048, by omega⟩ * geluGrad (B.z p k)
/-- A token's part of a gain's or an offset's gradient. -/
def dgpostAt (p : Fin n) (d : Fin 1024) : ℝ := B.ct p d * (B.m p d * rstd (B.m p))
def dlngAt (p : Fin n) (e : Fin 2048) : ℝ := B.dvln p e * hat (B.v p) e
/-- A chunk's part of the mixing weights' gradient, `f` naming the chunk's tokens. -/
def dwsAt (f : Fin 128 → Fin n) (g : Fin 8) (t s : Fin 128) : ℝ := ∑ d, B.dmx (f t) (chan g d) * B.vln (f s) (chan g d)

end Part

/-- Token `t` of chunk `j`. -/
def ctok (j t : Fin 128) : Fin 16384 := ⟨j.val * 128 + t.val, by omega⟩

/-- The unit's arguments. -/
structure Args where
  z : Fin 16384 → Fin 4096 → ℝ
  lng : Fin 2048 → ℝ
  lnb : Fin 2048 → ℝ
  wsp : Fin 8 → Fin 128 → Fin 128 → ℝ
  bsp : Fin 8 → Fin 128 → ℝ
  wo : Fin 2048 → Fin 1024 → ℝ
  gpost : Fin 1024 → ℝ
  ct : Fin 16384 → Fin 1024 → ℝ

namespace Args
variable (A : Args)

/-- The mixing weights with the later positions' masked out. -/
def ws (g : Fin 8) (t s : Fin 128) : ℝ := if s.val ≤ t.val then A.wsp g t s else 0

/-- The forward pass's part. -/
def fwd : Part 16384 where
  hn := rfl
  z := A.z
  lng := A.lng
  lnb := A.lnb
  ws := A.ws
  bias t e := A.bsp (grp e) t
  wo := A.wo
  gpost := A.gpost
  ct := A.ct
  m _ _ := 0

/-- The unit's product, before its normalisation. -/
def o (p : Fin 16384) (d : Fin 1024) : ℝ := ∑ e, A.fwd.gated p e * A.wo e d

def all : Part 16384 := { A.fwd with m := A.o }

def dgpost (d : Fin 1024) : ℝ := ∑ p, A.all.dgpostAt p d
def dlng (e : Fin 2048) : ℝ := ∑ p, A.all.dlngAt p e
def dlnb (e : Fin 2048) : ℝ := ∑ p, A.all.dvln p e
def dws (g : Fin 8) (t s : Fin 128) : ℝ := if s.val ≤ t.val then ∑ j, A.all.dwsAt (ctok j) g t s else 0
def dbs (g : Fin 8) (t : Fin 128) : ℝ := ∑ d, ∑ j, A.all.dmx (ctok j t) (chan g d)

end Args

end Sgu

end
-- ==== Proof.Sgu.Ops.lean ====
/- Further vector operations on real numbers: three-axis vectors, slices, tiles read from a buffer, the hyperbolic tangent, and
   a buffer read back after tiles were stored to it. -/
module

public import proofs.«01_k».proof.Proof.Ffn.Ops
public import proofs.«01_k».proof.Proof.Sgu.Real
public import Idealize.ShloMosaic.Lib.Pipeline.ValueKit.Tiles

@[expose] public section

noncomputable section

open Idealize.ShloMosaic Ffn

namespace Sgu

/-- The three-axis vector whose entries are the real numbers `r`. -/
def E3 {a b c : ℕ} (r : Fin a → Fin b → Fin c → ℝ) : (⟨3, ![a, b, c]⟩ : Shape).Idx → EReal :=
  fun i => ((r (i 0) (i 1) (i 2) : ℝ) : EReal)

variable {a b c : ℕ} {φ : FTy}

theorem E2_tanh (r : Fin a → Fin b → ℝ) : tanh (F := Ideal) (φ := φ) (E2 r) = E2 fun p d => Real.tanh (r p d) := by
  funext i; exact tanh_coe _

/-- A splat of a named constant that denotes the real number `r`. -/
theorem E2_splat {x : Ideal φ} {r : ℝ} (h : (x : EReal) = ((r : ℝ) : EReal)) :
    (broadcast (⟨2, ![a, b]⟩ : Shape) x) = E2 (a := a) (b := b) fun _ _ => r := by
  funext i; exact h

theorem add_lt {k n a : ℕ} (h : k + n ≤ a) (q : Fin n) : k + q.val < a := lt_of_lt_of_le (Nat.add_lt_add_left q.isLt k) h

/-- A slice of a vector. -/
theorem E2_slice {a' b' : ℕ} (r : Fin a → Fin b → ℝ) (k l : ℕ) (h : (⟨2, ![a, b]⟩ : Shape).Slices ![k, l] ⟨2, ![a', b']⟩)
    (hk : k + a' ≤ a) (hl : l + b' ≤ b) :
    extractStridedSlice ⟨2, ![a', b']⟩ ![k, l] (E2 r) h = E2 fun q d => r ⟨k + q.val, add_lt hk q⟩ ⟨l + d.val, add_lt hl d⟩ := by
  funext j
  refine (extractStridedSlice_apply _ _ _ j (ValueIdx.ix2 ⟨k + (j 0).val, add_lt hk (j 0)⟩ ⟨l + (j 1).val, add_lt hl (j 1)⟩) fun x => ?_).trans rfl
  match x with
  | ⟨0, _⟩ => rfl
  | ⟨1, _⟩ => rfl

/-- A tile read from a buffer. -/
theorem E2_ld {a' b' : ℕ} {e : EltTy} (he : Elt Ideal e = EReal) (r : Fin a → Fin b → ℝ) (k l : ℕ)
    (h : ∀ x : Fin 2, ![k, l] x + ![a', b'] x ≤ (⟨2, ![a, b]⟩ : Shape).size x) (X : (⟨2, ![a, b]⟩ : Shape).Idx → Elt Ideal e)
    (hX : ∀ i, cast he (X i) = E2 r i) (j : (⟨2, ![a', b']⟩ : Shape).Idx) :
    cast he (View.ld (Val := Elt Ideal) (e' := e) X (Rect.unit (s := (⟨2, ![a, b]⟩ : Shape)) ![k, l] ![a', b'] h) j)
      = E2 (fun (q : Fin a') (d : Fin b') => r ⟨k + q.val, add_lt (h 0) q⟩ ⟨l + d.val, add_lt (h 1) d⟩) j := by
  rw [View.ld_unit_apply_of (Val := Elt Ideal) (S := (⟨2, ![a, b]⟩ : Shape)) (e := e) X ![k, l] ![a', b'] h j
    (ValueIdx.ix2 ⟨k + (j 0).val, add_lt (h 0) (j 0)⟩ ⟨l + (j 1).val, add_lt (h 1) (j 1)⟩) fun x => ?_, hX]
  · rfl
  · match x with
    | ⟨0, _⟩ => rfl
    | ⟨1, _⟩ => rfl

/-- A tile of a buffer of single-precision numbers. -/
theorem ld_f32 {a' b' : ℕ} (r : Fin a → Fin b → ℝ) (k l : ℕ)
    (h : ∀ x : Fin 2, ![k, l] x + ![a', b'] x ≤ (⟨2, ![a, b]⟩ : Shape).size x) :
    View.ld (Val := Elt Ideal) (e' := .f32) (E2 r) (Rect.unit (s := (⟨2, ![a, b]⟩ : Shape)) ![k, l] ![a', b'] h)
      = E2 (fun (q : Fin a') (d : Fin b') => r ⟨k + q.val, add_lt (h 0) q⟩ ⟨l + d.val, add_lt (h 1) d⟩) :=
  funext fun j => E2_ld (e := .f32) rfl r k l h (E2 r) (fun _ => rfl) j

/-- One group's matrix, as two axes. -/
theorem ld_mat {e : EltTy} (r : Fin a → Fin b → Fin c → ℝ) (g : Fin a) (G : ℕ) (hG : G = g.val)
    (X : (⟨3, ![a, b, c]⟩ : Shape).Idx → Elt Ideal e) (he : Elt Ideal e = EReal) (hX : ∀ i, cast he (X i) = E3 r i)
    (h : ∀ x : Fin 3, ![G, 0, 0] x + ![1, b, c] x ≤ (⟨3, ![a, b, c]⟩ : Shape).size x)
    (hc : (⟨3, ![1, b, c]⟩ : Shape).ShapeCasts ⟨2, ![b, c]⟩) (j : (⟨2, ![b, c]⟩ : Shape).Idx) :
    cast he (shapeCast (⟨2, ![b, c]⟩ : Shape)
      (View.ld (Val := Elt Ideal) (e' := e) X (Rect.unit (s := (⟨3, ![a, b, c]⟩ : Shape)) ![G, 0, 0] ![1, b, c] h)) hc j) = E2 (r g) j := by
  subst hG
  rw [shapeCast_apply _ hc j (ValueIdx.ix3 (0 : Fin 1) (j 0) (j 1)) ?_,
    View.ld_unit_apply_of (Val := Elt Ideal) (S := (⟨3, ![a, b, c]⟩ : Shape)) (e := e) X ![g.val, 0, 0] ![1, b, c] h _
      (ValueIdx.ix3 g (j 0) (j 1)) fun x => ?_, hX]
  · rfl
  · match x with
    | ⟨0, _⟩ => rfl
    | ⟨1, _⟩ => exact (Nat.zero_add _).symm
    | ⟨2, _⟩ => exact (Nat.zero_add _).symm
  · rw [Shape.rowMajor_val_two, Shape.rowMajor_val_three]
    show (0 * b + (j 0).val) * c + (j 1).val = (j 0).val * c + (j 1).val
    rw [Nat.zero_mul, Nat.zero_add]

theorem ld_mat_f32 (r : Fin a → Fin b → Fin c → ℝ) (g : Fin a) (G : ℕ) (hG : G = g.val)
    (h : ∀ x : Fin 3, ![G, 0, 0] x + ![1, b, c] x ≤ (⟨3, ![a, b, c]⟩ : Shape).size x) (hc : (⟨3, ![1, b, c]⟩ : Shape).ShapeCasts ⟨2, ![b, c]⟩) :
    shapeCast (⟨2, ![b, c]⟩ : Shape)
      (View.ld (Val := Elt Ideal) (e' := .f32) (E3 r) (Rect.unit (s := (⟨3, ![a, b, c]⟩ : Shape)) ![G, 0, 0] ![1, b, c] h)) hc = E2 (r g) :=
  funext fun j => ld_mat (e := .f32) r g G hG (E3 r) rfl (fun _ => rfl) h hc j

theorem ld_mat_bf16 (r : Fin a → Fin b → Fin c → ℝ) (g : Fin a) (G : ℕ) (hG : G = g.val)
    (h : ∀ x : Fin 3, ![G, 0, 0] x + ![1, b, c] x ≤ (⟨3, ![a, b, c]⟩ : Shape).size x) (hc : (⟨3, ![1, b, c]⟩ : Shape).ShapeCasts ⟨2, ![b, c]⟩) :
    shapeCast (⟨2, ![b, c]⟩ : Shape)
      (View.ld (Val := Elt Ideal) (e' := .bf16) (E3 r) (Rect.unit (s := (⟨3, ![a, b, c]⟩ : Shape)) ![G, 0, 0] ![1, b, c] h)) hc = E2 (r g) :=
  funext fun j => ld_mat (e := .bf16) r g G hG (E3 r) rfl (fun _ => rfl) h hc j

/-! ### Buffers read back -/

section Store

variable {Val : EltTy → Type} [∀ e, Nonempty (Val e)] {S : Shape} {e : EltTy}

/-- The later of two lists of stores decides, where it covers. -/
theorem canon_append (L L' : List (View.Piece Val S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hy⟩ := h
      rcases List.mem_cons.1 hq with rfl | hq
      · exact absurd hy hm
      · exact ⟨q, hq, hy⟩

/-- Eight stores that cover the buffer hide the earlier ones. -/
theorem canon_eight (p₁ p₂ p₃ p₄ p₅ p₆ p₇ p₈ : View.Piece Val S e) (L : List (View.Piece Val S e)) (y : S.Idx)
    (h : ∃ p ∈ [p₁, p₂, p₃, p₄, p₅, p₆, p₇, p₈], y ∈ p.1.set) :
    View.canon (p₁ :: p₂ :: p₃ :: p₄ :: p₅ :: p₆ :: p₇ :: p₈ :: L) y = View.canon [p₁, p₂, p₃, p₄, p₅, p₆, p₇, p₈] y :=
  canon_append [p₁, p₂, p₃, p₄, p₅, p₆, p₇, p₈] L y h

/-- A tile read back from a buffer that one store filled. -/
theorem readCov_whole {sig : RefSig} {κ : Kind} {sp : Space} (v : View sig κ sp S e) {off : Fin S.rank → ℕ} (inb : ∀ a, off a + S.size a ≤ S.size a)
    (w : S.Idx → Val e) (L : List (View.Piece Val S e)) (r : Rect S) :
    v.readCov ((⟨Rect.unit off (no_index S.size) inb, w⟩ : View.Piece Val S e) :: L) r.toLoadRect = View.ld w r := by
  rw [View.readCov_eq_canon', View.canon_cons_unit_lit inb w L fun a => by have := inb a; omega]

/-- A load reads past a store to a rectangle apart from it. -/
theorem readCov_skip {sig : RefSig} {κ : Kind} {sp : Space} (v : View sig κ sp S e) (off size off' size' : Fin S.rank → ℕ)
    (inb : ∀ a, off a + size a ≤ S.size a) (inb' : ∀ a, off' a + size' a ≤ S.size a) (w : (Rect.unit off size inb).shape.Idx → Val e)
    (L : List (View.Piece Val S e)) (a : Fin S.rank) (h : off a + size a ≤ off' a ∨ off' a + size' a ≤ off a) :
    v.readCov ((⟨Rect.unit off size inb, w⟩ : View.Piece Val S e) :: L) (Rect.unit off' size' inb').toLoadRect
      = v.readCov L (Rect.unit off' size' inb').toLoadRect :=
  View.readCov_cons_of_disjoint v ⟨Rect.unit off size inb, w⟩ L _ (Rect.unit_disjoint (inb := inb) (inb' := inb') a h)

/-- A load reads the last store to its own rectangle. -/
theorem readCov_hit {sig : RefSig} {κ : Kind} {sp : Space} (v : View sig κ sp S e) (off size : Fin S.rank → ℕ)
    (inb inb' : ∀ a, off a + size a ≤ S.size a) (w : (Rect.unit off size inb).shape.Idx → Val e) (L : List (View.Piece Val S e)) :
    v.readCov ((⟨Rect.unit off size inb, w⟩ : View.Piece Val S e) :: L) (Rect.unit off size inb').toLoadRect = w :=
  View.readCov_cons_toLoadRect v (Rect.unit off size inb) w L

end Store

end Sgu

end
-- ==== Proof.Sgu.Ref.lean ====
/- What the reference's forward pass computes at real arguments: each of its operations, read at an index, as the gating unit
   over the real numbers. -/
module

public import proofs.«01_k».proof.Proof.Sgu.Real
public import proofs.«01_k».proof.Proof.Gen.Reference5Ideal.Read
public import Idealize.ShloMosaic.Lib.WordCmp

@[expose] public section

set_option maxRecDepth 16384

noncomputable section

namespace Sgu.Ref

open Idealize.ShloMosaic Cert.Reference5Ideal Cert.Reference5Ideal.Gen Cert.Reference5Ideal.Read Ffn

variable (A : Args)

/-- The arguments as the program's arrays. -/
abbrev X0 : (⟨S16384x4096, .f32⟩ : BufTy).Contents (Elt Ideal) := fun i => ((A.z (i 0) (i 1) : ℝ) : EReal)
abbrev X1 : (⟨S2048, .f32⟩ : BufTy).Contents (Elt Ideal) := fun i => ((A.lng (i 0) : ℝ) : EReal)
abbrev X2 : (⟨S2048, .f32⟩ : BufTy).Contents (Elt Ideal) := fun i => ((A.lnb (i 0) : ℝ) : EReal)
abbrev X3 : (⟨S8x128x128, .f32⟩ : BufTy).Contents (Elt Ideal) := fun i => ((A.wsp (i 0) (i 1) (i 2) : ℝ) : EReal)
abbrev X4 : (⟨S8x128, .f32⟩ : BufTy).Contents (Elt Ideal) := fun i => ((A.bsp (i 0) (i 1) : ℝ) : EReal)
abbrev X5 : (⟨S2048x1024, .f32⟩ : BufTy).Contents (Elt Ideal) := fun i => ((A.wo (i 0) (i 1) : ℝ) : EReal)
abbrev X6 : (⟨S1024, .f32⟩ : BufTy).Contents (Elt Ideal) := fun i => ((A.gpost (i 0) : ℝ) : EReal)
abbrev X7 : (⟨S16384x1024, .f32⟩ : BufTy).Contents (Elt Ideal) := fun i => ((A.ct (i 0) (i 1) : ℝ) : EReal)

/-! ### The activation -/

theorem v11 (i : S16384x4096.Idx) : val_main_v11 (F := Ideal) (X0 A) i = ((th (A.z (i 0) (i 1)) : ℝ) : EReal) := by
  simp only [val_main_v11_apply, val_main_v10_apply, val_main_v9_apply, val_main_cst_2_apply, val_main_v8_apply, val_main_v7_apply,
    val_main_v6_apply, val_main_cst_1_apply, val_main_v2_apply, val_main_v1_apply, Ideal.mulf_def, Ideal.addf_def, Ideal.ofBits_def,
    ofBits_c0, ofBits_c1, ← EReal.coe_mul, ← EReal.coe_add, Ideal.hostUnary_tanh_def, tanh_coe, th]
  refine congrArg (fun r : ℝ => ((Real.tanh r : ℝ) : EReal)) ?_
  ring

theorem v20 (i : S16384x4096.Idx) : val_main_v20 (F := Ideal) (X0 A) i = ((cdf (A.z (i 0) (i 1)) : ℝ) : EReal) := by
  simp only [val_main_v20_apply, val_main_v19_apply, val_main_cst_6_apply, val_main_v18_apply, val_main_v17_apply, val_main_cst_5_apply, v11,
    Ideal.mulf_def, Ideal.addf_def, Ideal.ofBits_def, ofBits_half, ofBits_one, ← EReal.coe_mul, ← EReal.coe_add, cdf]
  refine congrArg (fun r : ℝ => (r : EReal)) ?_
  ring

theorem v16 (i : S16384x4096.Idx) :
    val_main_v16 (F := Ideal) (X0 A) i = ((1 - th (A.z (i 0) (i 1)) * th (A.z (i 0) (i 1)) : ℝ) : EReal) := by
  simp only [val_main_v16_apply, val_main_v15_apply, val_main_v14_apply, val_main_cst_4_apply, val_main_v13_apply, val_main_v12_apply,
    val_main_cst_3_apply, v11, Ideal.mulf_def, Ideal.addf_def, Ideal.subf_def, Ideal.ofBits_def, ofBits_one, ← EReal.coe_mul,
    ← EReal.coe_add, ← EReal.coe_sub]
  refine congrArg (fun r : ℝ => (r : EReal)) ?_
  ring

theorem v21 (i : S16384x4096.Idx) : val_main_v21 (F := Ideal) (X0 A) i = ((gelu (A.z (i 0) (i 1)) : ℝ) : EReal) := by
  simp only [val_main_v21_apply, v20, Ideal.mulf_def, ← EReal.coe_mul]
  rfl

theorem v22 (i : S16384x2048.Idx) : val_main_v22 (F := Ideal) (X0 A) i = ((A.all.u (i 0) (i 1) : ℝ) : EReal) := by
  simp only [val_main_v22_apply, v21]
  rfl

theorem v23 (i : S16384x2048.Idx) : val_main_v23 (F := Ideal) (X0 A) i = ((A.all.v (i 0) (i 1) : ℝ) : EReal) := by
  simp only [val_main_v23_apply, v21]
  rfl

/-! ### The layer normalisation -/

theorem v27 (i : S16384x1.Idx) : val_main_v27 (F := Ideal) (X0 A) i = ((mean (A.all.v (i 0)) : ℝ) : EReal) := by
  simp only [val_main_v27_apply, val_main_v26_apply, val_main_cst_8_apply, val_main_v25_apply, val_main_v24_apply, val_main_cst_7_apply, v23,
    Ideal.hostDivf_def, Ideal.ofBits_def, Ideal.ofBits_zero_f32, ofBits_2048, sum_coe, zero_add,
    div_coe _ (show (2048 : ℝ) ≠ 0 by norm_num)]
  rfl

theorem v29 (i : S16384x2048.Idx) : val_main_v29 (F := Ideal) (X0 A) i = ((cen (A.all.v (i 0)) (i 1) : ℝ) : EReal) := by
  simp only [val_main_v29_apply, v23, val_main_v28_apply, v27, Ideal.subf_def, ← EReal.coe_sub]
  rfl

theorem v36 (i : S16384x1.Idx) : val_main_v36 (F := Ideal) (X0 A) i = ((var (A.all.v (i 0)) : ℝ) : EReal) := by
  simp only [val_main_v36_apply, val_main_v35_apply, val_main_cst_11_apply, val_main_v34_apply, val_main_v33_apply, val_main_cst_10_apply,
    val_main_v32_apply, val_main_v31_apply, val_main_cst_9_apply, val_main_v30_apply, v29, Ideal.mulf_def, Ideal.addf_def,
    Ideal.hostDivf_def, Ideal.ofBits_def, Ideal.ofBits_zero_f32, ofBits_2048, ofBits_eps, ← EReal.coe_mul, sum_coe, zero_add,
    ← EReal.coe_add, div_coe _ (show (2048 : ℝ) ≠ 0 by norm_num)]
  rfl

theorem v37 (i : S16384x1.Idx) : val_main_v37 (F := Ideal) (X0 A) i = ((std (A.all.v (i 0)) : ℝ) : EReal) := by
  simp only [val_main_v37_apply, v36, Ideal.hostUnary_rsqrt_def, rsqrt_coe (var_pos _)]
  rfl

theorem v40 (i : S16384x1.Idx) :
    val_main_v40 (F := Ideal) (X0 A) i = ((-(1 / 2) * (std (A.all.v (i 0)) / var (A.all.v (i 0))) : ℝ) : EReal) := by
  simp only [val_main_v40_apply, val_main_v39_apply, val_main_cst_12_apply, val_main_v38_apply, v36, v37, Ideal.hostDivf_def, Ideal.mulf_def,
    Ideal.ofBits_def, ofBits_neg_half, div_coe _ (var_pos _).ne', ← EReal.coe_mul]

theorem v42 (i : S16384x2048.Idx) : val_main_v42 (F := Ideal) (X0 A) i = ((hat (A.all.v (i 0)) (i 1) : ℝ) : EReal) := by
  simp only [val_main_v42_apply, v29, val_main_v41_apply, v37, Ideal.mulf_def, ← EReal.coe_mul]
  rfl

theorem v48 (i : S16384x2048.Idx) :
    val_main_v48 (F := Ideal) (X0 A) (X1 A) (X2 A) i = ((A.all.vln (i 0) (i 1) : ℝ) : EReal) := by
  simp only [val_main_v48_apply, val_main_v45_apply, v42, val_main_v44_apply, val_main_v43_apply, val_main_v47_apply, val_main_v46_apply,
    Ideal.mulf_def, Ideal.addf_def, ← EReal.coe_mul, ← EReal.coe_add]
  rfl

/-! ### The mixing -/

theorem chunk_row (j t : Fin 128) (g : Fin 8) (d : Fin 256) : (((j.val * 128 + t.val) * 8 + g.val) * 256 + d.val) / 2048 = j.val * 128 + t.val := by
  omega
theorem chunk_col (j t : Fin 128) (g : Fin 8) (d : Fin 256) : (((j.val * 128 + t.val) * 8 + g.val) * 256 + d.val) % 2048 = g.val * 256 + d.val := by
  omega

/-- The two-axis index that a four-axis one names. -/
theorem idx4 (i : S128x128x8x256.Idx) :
    idx_main_v49 i 0 = ctok (i 0) (i 1) ∧ idx_main_v49 i 1 = chan (i 2) (i 3) :=
  ⟨Fin.ext (chunk_row (i 0) (i 1) (i 2) (i 3)), Fin.ext (chunk_col (i 0) (i 1) (i 2) (i 3))⟩

/-- The four-axis index that a two-axis one names. -/
theorem idx2 (i : S16384x2048.Idx) : i 0 = ctok (idx_main_v60 i 0) (idx_main_v60 i 1) ∧ i 1 = chan (idx_main_v60 i 2) (idx_main_v60 i 3) := by
  have h0 : (i 0).val < 16384 := (i 0).isLt
  have h1 : (i 1).val < 2048 := (i 1).isLt
  refine ⟨Fin.ext ?_, Fin.ext ?_⟩
  · show (i 0).val = ((i 0).val * 2048 + (i 1).val) / 262144 * 128 + ((i 0).val * 2048 + (i 1).val) / 2048 % 128
    omega
  · show (i 1).val = ((i 0).val * 2048 + (i 1).val) / 256 % 8 * 256 + ((i 0).val * 2048 + (i 1).val) % 256
    omega

theorem grp_chan (g : Fin 8) (d : Fin 256) : grp (chan g d) = g := Fin.ext (show (g.val * 256 + d.val) / 256 = g.val by omega)
theorem pos_ctok (j t : Fin 128) : pos (ctok j t) = t := Fin.ext (show (j.val * 128 + t.val) % 128 = t.val by omega)
theorem mate_ctok (B : Part 16384) (j t s : Fin 128) : B.mate (ctok j t) s = ctok j s :=
  Fin.ext (show j.val * 128 + t.val - (j.val * 128 + t.val) % 128 + s.val = j.val * 128 + s.val by omega)

theorem v49 (i : S128x128x8x256.Idx) :
    val_main_v49 (F := Ideal) (X0 A) (X1 A) (X2 A) i = ((A.all.vln (ctok (i 0) (i 1)) (chan (i 2) (i 3)) : ℝ) : EReal) := by
  rw [val_main_v49_apply, v48, (idx4 i).1, (idx4 i).2]

/-- A position's weight on a later position is masked out. -/
theorem mask (t s : Fin 128) (a b : EReal) :
    Scalar.select (Scalar.select (IntOp.cmpi .sge (IntOp.addi (BitVec.ofNat 32 t.val) 0#32) (BitVec.ofNat 32 s.val)) 1#1 0#1) a b
      = if s.val ≤ t.val then a else b := by
  rw [show IntOp.addi (BitVec.ofNat 32 t.val) 0#32 = BitVec.ofNat 32 t.val from BitVec.add_zero _,
    WordCmp.cmpi_sge_ofNat (by have := t.isLt; omega) (by have := s.isLt; omega)]
  by_cases h : s.val ≤ t.val
  · rw [if_pos h, decide_eq_true h]; rfl
  · rw [if_neg h, decide_eq_false h]; rfl

theorem v53_0 (i : S8x128x128.Idx) : val_main_v53_0 (F := Ideal) (X3 A) i = ((A.ws (i 0) (i 1) (i 2) : ℝ) : EReal) := by
  have h : (FloatOps.sitofp .f32 (0#32) : Ideal .f32) = ((0 : ℝ) : EReal) := by
    show (((0#32 : BitVec 32).toInt : ℝ) : EReal) = _
    simp
  simp only [val_main_v53_0_apply, val_main_v53_1_apply, val_main_v52_apply, val_main_v51_apply, val_main_call0_v4_apply,
    val_main_call0_v2_apply, val_main_call0_v0_apply, val_main_call0_v1_apply, val_main_call0_c_apply, val_main_call0_v3_apply,
    val_main_v50_apply, val_main_c_apply, val_main_call0_v5_apply, val_main_call0_c_0_apply, val_main_call1_v2_apply,
    val_main_call1_v0_apply, val_main_c_13_apply]
  rw [h]
  refine (mask (i 1) (i 2) _ _).trans ?_
  by_cases hs : (i 2).val ≤ (i 1).val
  · rw [if_pos hs]; exact congrArg (fun r : ℝ => (r : EReal)) (if_pos hs).symm
  · rw [if_neg hs]; exact congrArg (fun r : ℝ => (r : EReal)) (if_neg hs).symm

theorem v54 (i : S8x128x256x128.Idx) : val_main_v54 (F := Ideal) (X0 A) (X1 A) (X2 A) (X3 A) i
    = ((∑ s, A.ws (i 0) (i 3) s * A.all.vln (ctok (i 1) s) (chan (i 0) (i 2)) : ℝ) : EReal) := by
  simp only [val_main_v54_apply, v49, v53_0, ← EReal.coe_mul, sum_coe]
  exact congrArg (fun r : ℝ => (r : EReal)) (Finset.sum_congr rfl fun s _ => mul_comm _ _)

theorem mixed_chunk (j t : Fin 128) (g : Fin 8) (d : Fin 256) :
    A.all.mixed (ctok j t) (chan g d) = ∑ s, A.ws g t s * A.all.vln (ctok j s) (chan g d) + A.bsp g t := by
  show ∑ s, A.ws (grp (chan g d)) (pos (ctok j t)) s * A.all.vln (A.all.mate (ctok j t) s) (chan g d)
    + A.bsp (grp (chan g d)) (pos (ctok j t)) = _
  simp only [grp_chan, pos_ctok, mate_ctok]

theorem v59 (i : S128x128x8x256.Idx) : val_main_v59 (F := Ideal) (X0 A) (X1 A) (X2 A) (X3 A) (X4 A) i
    = ((A.all.mixed (ctok (i 0) (i 1)) (chan (i 2) (i 3)) : ℝ) : EReal) := by
  simp only [val_main_v59_apply, val_main_v55_apply, v54, val_main_v58_apply, val_main_v57_apply, val_main_v56_apply, Ideal.addf_def,
    ← EReal.coe_add]
  exact congrArg (fun r : ℝ => (r : EReal)) (mixed_chunk A (i 0) (i 1) (i 2) (i 3)).symm

theorem v60 (i : S16384x2048.Idx) : val_main_v60 (F := Ideal) (X0 A) (X1 A) (X2 A) (X3 A) (X4 A) i = ((A.all.mixed (i 0) (i 1) : ℝ) : EReal) := by
  rw [val_main_v60_apply, v59, ← (idx2 i).1, ← (idx2 i).2]

theorem v62 (i : S16384x1024.Idx) :
    val_main_v62 (F := Ideal) (X0 A) (X1 A) (X2 A) (X3 A) (X4 A) (X5 A) i = ((A.o (i 0) (i 1) : ℝ) : EReal) := by
  simp only [val_main_v62_apply, val_main_v61_apply, v22, v60, Ideal.mulf_def, ← EReal.coe_mul, sum_coe]
  rfl

end Sgu.Ref

end
-- ==== Proof.Sgu.Entry.lean ====
/- What the host hands to the region: the arrays of the forward pass, each as the forward pass's real values. The saved product comes
   from the same host operations in both programs, so the reference's reading of them is used for it. -/
module

public import proofs.«01_k».proof.Proof.Sgu.Ops
public import proofs.«01_k».proof.Proof.Sgu.Ref
public import proofs.«01_k».proof.Proof.Ffn.HostOps
public import proofs.«01_k».proof.Proof.Gen.Kernel5Ideal.Frame

@[expose] public section

set_option maxRecDepth 16384

noncomputable section

open Idealize.ShloMosaic Idealize.ShloMosaic.Tactic Cert.Kernel5Ideal Cert.Kernel5Ideal.Gen Ffn

namespace Sgu

variable (m : (ℓ : Loc nD τ Cert.Kernel5Ideal.sig) → Buf (Elt Ideal) ℓ) (c : Dev nD) (A : Args)

/-- The host operations before the region, in order. -/
abbrev entryOps : List (HloOp τ Cert.Kernel5Ideal.sig (Elt Ideal)) :=
  hostOps0 ++ (hostOps0_1 ++ (hostOps0_2 ++ (hostOps0_3 ++ (hostOps0_4 ++ (hostOps0_5 ++ (hostOps0_6 ++ (hostOps0_7 ++ hostOps0_8)))))))

theorem V_eq (b : Ref Cert.Kernel5Ideal.sig .tc) : V m c b = StableHlo.after entryOps (fun b => m (c, b)) (Proc.devRef .tc b) := by
  have h : ([hostOps0, hostOps0_1, hostOps0_2, hostOps0_3, hostOps0_4, hostOps0_5, hostOps0_6, hostOps0_7, hostOps0_8] :
      List (List (HloOp τ Cert.Kernel5Ideal.sig (Elt Ideal)))).flatten = entryOps := by
    simp only [List.flatten_cons, List.flatten_nil, List.append_nil]
  show StableHlo.after ([hostOps0, hostOps0_1, hostOps0_2, hostOps0_3, hostOps0_4, hostOps0_5, hostOps0_6, hostOps0_7, hostOps0_8] :
      List (List (HloOp τ Cert.Kernel5Ideal.sig (Elt Ideal)))).flatten _ _ = _
  rw [h]

/-- The device's arguments are the real numbers of `A`. -/
structure HoldsArgs : Prop where
  z : (m (c, Proc.devRef .tc main_arg0) : FVec Ideal S16384x4096 .f32) = E2 A.z
  lng : (m (c, Proc.devRef .tc main_arg1) : FVec Ideal S2048 .f32) = E1 A.lng
  lnb : (m (c, Proc.devRef .tc main_arg2) : FVec Ideal S2048 .f32) = E1 A.lnb
  wsp : (m (c, Proc.devRef .tc main_arg3) : FVec Ideal S8x128x128 .f32) = E3 A.wsp
  bsp : (m (c, Proc.devRef .tc main_arg4) : FVec Ideal S8x128 .f32) = E2 A.bsp
  wo : (m (c, Proc.devRef .tc main_arg5) : FVec Ideal S2048x1024 .f32) = E2 A.wo
  gpost : (m (c, Proc.devRef .tc main_arg6) : FVec Ideal S1024 .f32) = E1 A.gpost
  ct : (m (c, Proc.devRef .tc main_arg7) : FVec Ideal S16384x1024 .f32) = E2 A.ct

/-- The first two axes' entries spread over a third, then the last two axes joined. -/
theorem host_bias :
    (fun i => shapeCast S128x2048 (broadcastInDim S128x8x256 ![0, 1] bcast_S128x8_S128x8x256_0_1
      (E2 (fun t g => A.bsp g t) : FVec Ideal S128x8 .f32)) shapeCasts_S128x8x256_S128x2048 i) = E2 fun t e => A.bsp (grp e) t := by
  funext i
  have h0 : (i 0).val < 128 := (i 0).isLt
  have h1 : (i 1).val < 2048 := (i 1).isLt
  refine (shapeCast_apply _ shapeCasts_S128x8x256_S128x2048 i
    (ValueIdx.ix3 (i 0) (grp (i 1)) (⟨(i 1).val % 256, Nat.mod_lt _ (by decide)⟩ : Fin 256)) ?_).trans rfl
  rewrite [Shape.rowMajor_val_three, Shape.rowMajor_val_two]
  show ((i 0).val * 8 + (i 1).val / 256) * 256 + (i 1).val % 256 = (i 0).val * 2048 + (i 1).val
  omega

variable {m c A} (H : HoldsArgs m c A)
include H

theorem V_ct : (V m c main_arg7 : FVec Ideal S16384x1024 .f32) = E2 A.ct := (V_main_arg7 m c).trans H.ct

theorem V_wo : (V m c main_v61 : FVec Ideal S2048x1024 .bf16) = E2 A.wo := by
  rw [V_eq]; simp only [entryOps, hostOps0, hostOps0_1, hostOps0_2, hostOps0_3, hostOps0_4, hostOps0_5, hostOps0_6, hostOps0_7, hostOps0_8, List.cons_append, List.nil_append]; entry_read
  erw [H.wo, E2_truncf]

theorem V_z : (V m c main_v62 : FVec Ideal S16384x4096 .bf16) = E2 A.z := by
  rw [V_eq]; simp only [entryOps, hostOps0, hostOps0_1, hostOps0_2, hostOps0_3, hostOps0_4, hostOps0_5, hostOps0_6, hostOps0_7, hostOps0_8, List.cons_append, List.nil_append]; entry_read
  erw [H.z, E2_truncf]

theorem V_gpost : (V m c main_v60 : FVec Ideal S1x1024 .f32) = E2 (a := 1) fun _ d => A.gpost d := by
  rw [V_eq]; simp only [entryOps, hostOps0, hostOps0_1, hostOps0_2, hostOps0_3, hostOps0_4, hostOps0_5, hostOps0_6, hostOps0_7, hostOps0_8, List.cons_append, List.nil_append]; entry_read
  erw [H.gpost]
  exact E1_row A.gpost shapeCasts_S1024_S1x1024

theorem V_lng : (V m c main_v63 : FVec Ideal S1x2048 .f32) = E2 (a := 1) fun _ e => A.lng e := by
  rw [V_eq]; simp only [entryOps, hostOps0, hostOps0_1, hostOps0_2, hostOps0_3, hostOps0_4, hostOps0_5, hostOps0_6, hostOps0_7, hostOps0_8, List.cons_append, List.nil_append]; entry_read
  erw [H.lng]
  exact E1_row A.lng shapeCasts_S2048_S1x2048

theorem V_lnb : (V m c main_v64 : FVec Ideal S1x2048 .f32) = E2 (a := 1) fun _ e => A.lnb e := by
  rw [V_eq]; simp only [entryOps, hostOps0, hostOps0_1, hostOps0_2, hostOps0_3, hostOps0_4, hostOps0_5, hostOps0_6, hostOps0_7, hostOps0_8, List.cons_append, List.nil_append]; entry_read
  erw [H.lnb]
  exact E1_row A.lnb shapeCasts_S2048_S1x2048

theorem V_bias : (V m c main_v7 : FVec Ideal S128x2048 .f32) = E2 fun t e => A.bsp (grp e) t := by
  rw [V_eq]; simp only [entryOps, hostOps0, hostOps0_1, hostOps0_2, hostOps0_3, hostOps0_4, hostOps0_5, hostOps0_6, hostOps0_7, hostOps0_8, List.cons_append, List.nil_append]; entry_read
  erw [H.bsp, E2_transpose]
  exact host_bias A

theorem V_ws : (V m c main_v4 : FVec Ideal S8x128x128 .bf16) = E3 A.ws := by
  rw [V_eq]; simp only [entryOps, hostOps0, hostOps0_1, hostOps0_2, hostOps0_3, hostOps0_4, hostOps0_5, hostOps0_6, hostOps0_7, hostOps0_8, List.cons_append, List.nil_append]; entry_read
  simp only [StableHlo.TRef.ofBuf, StableHlo.TRef.toBuf, cast_cast, cast_eq]
  erw [H.wsp]
  funext i
  refine (Ref.mask (i 1) (i 2) (E3 A.wsp i) (Ideal.ofBits .f32 0x00000000#32)).trans ?_
  rw [Ideal.ofBits_zero_f32]
  by_cases hs : (i 2).val ≤ (i 1).val
  · rw [if_pos hs]; exact congrArg (fun r : ℝ => (r : EReal)) (if_pos hs).symm
  · rw [if_neg hs]; exact congrArg (fun r : ℝ => (r : EReal)) (if_neg hs).symm

theorem V_wst : (V m c main_v65 : FVec Ideal S8x128x128 .bf16) = E3 fun g t s => A.ws g s t := by
  have h : (V m c main_v65 : FVec Ideal S8x128x128 .bf16)
      = transpose S8x128x128 [0, 2, 1] (V m c main_v4 : FVec Ideal S8x128x128 .bf16) transposes_S8x128x128_S8x128x128_0_2_1 := by
    rw [V_eq, V_eq]; simp only [entryOps, hostOps0, hostOps0_1, hostOps0_2, hostOps0_3, hostOps0_4, hostOps0_5, hostOps0_6, hostOps0_7, hostOps0_8, List.cons_append, List.nil_append]; entry_read
    rfl
  rw [h, V_ws H]
  funext i
  refine (transpose_apply [0, 2, 1] _ transposes_S8x128x128_S8x128x128_0_2_1 i (ValueIdx.ix3 (i 0) (i 2) (i 1)) fun x => ?_).trans rfl
  match x with
  | ⟨0, _⟩ => rfl
  | ⟨1, _⟩ => rfl
  | ⟨2, _⟩ => rfl

set_option maxHeartbeats 4000000 in
theorem V_m : (V m c main_v59 : FVec Ideal S16384x1024 .bf16) = E2 A.o := by
  have h : (V m c main_v59 : FVec Ideal S16384x1024 .bf16) = Cert.Reference5Ideal.Read.val_main_v62 (F := Ideal)
      (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)) := by
    rw [V_eq]; simp only [entryOps, hostOps0, hostOps0_1, hostOps0_2, hostOps0_3, hostOps0_4, hostOps0_5, hostOps0_6, hostOps0_7, hostOps0_8, List.cons_append, List.nil_append]; entry_read
    simp only [StableHlo.TRef.ofBuf, StableHlo.TRef.toBuf, cast_cast, cast_eq]
    rfl
  rw [h]
  erw [H.z, H.lng, H.lnb, H.wsp, H.bsp, H.wo]
  exact funext fun i => Ref.v62 A i

end Sgu

end
-- ==== Proof.Sgu.Block.lean ====
/- What one block of the spatial gating unit's backward kernel computes, from blocks of real numbers. -/
module

public import proofs.«01_k».proof.Proof.Sgu.Ops
public import proofs.«01_k».proof.Proof.Gen.Kernel5Ideal.Skeleton
public import Idealize.ShloMosaic.PureOps.IdealRules

@[expose] public section

set_option maxRecDepth 16384

noncomputable section

open Idealize.ShloMosaic Cert.Kernel5Ideal Cert.Kernel5Ideal.Gen Ffn

namespace Sgu

theorem named_c01 : Named.named (F := Ideal) Cert.Kernel5Ideal.κ "gelu_c01" (φ := .f32) 0x3D122279#32 = ((c0 * c1 : ℝ) : EReal) := by
  rw [IdealRules.named_const.ideal_named_scalar (φ := .f32) Cert.Kernel5Ideal.κ "gelu_c01" _ _ rfl]
  norm_num [c0, c1, -EReal.coe_mul]

theorem named_c01_3 : Named.named (F := Ideal) Cert.Kernel5Ideal.κ "gelu_c01_3" (φ := .f32) 0x3D5B33B6#32 = ((3 / 2 * (c0 * c1) : ℝ) : EReal) := by
  rw [IdealRules.named_const.ideal_named_scalar (φ := .f32) Cert.Kernel5Ideal.κ "gelu_c01_3" _ _ rfl]
  norm_num [c0, c1, -EReal.coe_mul]

/-! ### The products -/

theorem matmul_dgt (A : Fin 256 → Fin 1024 → ℝ) (B : Fin 2048 → Fin 1024 → ℝ) :
    matmul (F := Ideal) (φ₁ := .bf16) (φ₂ := .bf16) dot_S256x1024_S2048x1024_S256x2048_1_1_0_0_n_n none (E2 A) (E2 B) (constant S256x2048 .f32 0x00000000#32)
      = E2 fun q f => ∑ d, A q d * B f d := by
  funext j
  refine (matmul_coe dot_S256x1024_S2048x1024_S256x2048_1_1_0_0_n_n 1024 rfl rfl none (fun i => A (i 0) (i 1)) (fun i => B (i 0) (i 1)) j
    (fun k => ValueIdx.ix2 (j 0) k) (fun k => ValueIdx.ix2 (j 1) k) (fun q x => ?_) (fun q x => ?_)).trans rfl
  · match x with
    | ⟨0, _⟩ => rfl
    | ⟨1, _⟩ => rfl
  · match x with
    | ⟨0, _⟩ => rfl
    | ⟨1, _⟩ => rfl

theorem matmul_mix (A : Fin 128 → Fin 128 → ℝ) (B : Fin 128 → Fin 256 → ℝ) :
    matmul (F := Ideal) (φ₁ := .bf16) (φ₂ := .bf16) dot_S128x128_S128x256_S128x256_1_0_0_1_n_n none (E2 A) (E2 B) (constant S128x256 .f32 0x00000000#32)
      = E2 fun t d => ∑ s, A t s * B s d := by
  funext j
  refine (matmul_coe dot_S128x128_S128x256_S128x256_1_0_0_1_n_n 128 rfl rfl none (fun i => A (i 0) (i 1)) (fun i => B (i 0) (i 1)) j
    (fun k => ValueIdx.ix2 (j 0) k) (fun k => ValueIdx.ix2 k (j 1)) (fun q x => ?_) (fun q x => ?_)).trans rfl
  · match x with
    | ⟨0, _⟩ => rfl
    | ⟨1, _⟩ => rfl
  · match x with
    | ⟨0, _⟩ => rfl
    | ⟨1, _⟩ => rfl

theorem matmul_dws (A B : Fin 128 → Fin 256 → ℝ) :
    matmul (F := Ideal) (φ₁ := .bf16) (φ₂ := .bf16) dot_S128x256_S128x256_S128x128_1_1_0_0_n_n none (E2 A) (E2 B) (constant S128x128 .f32 0x00000000#32)
      = E2 fun t s => ∑ d, A t d * B s d := by
  funext j
  refine (matmul_coe dot_S128x256_S128x256_S128x128_1_1_0_0_n_n 256 rfl rfl none (fun i => A (i 0) (i 1)) (fun i => B (i 0) (i 1)) j
    (fun k => ValueIdx.ix2 (j 0) k) (fun k => ValueIdx.ix2 (j 1) k) (fun q x => ?_) (fun q x => ?_)).trans rfl
  · match x with
    | ⟨0, _⟩ => rfl
    | ⟨1, _⟩ => rfl
  · match x with
    | ⟨0, _⟩ => rfl
    | ⟨1, _⟩ => rfl

/-! ### The second normalisation -/

variable (B : Part 256)

/-- The input blocks' vectors. -/
abbrev iCt : S256x1024.Idx → EReal := E2 B.ct
abbrev iM : S256x1024.Idx → EReal := E2 B.m
abbrev iGp : S1x1024.Idx → EReal := E2 (a := 1) fun _ => B.gpost
abbrev iWo : S2048x1024.Idx → EReal := E2 B.wo
abbrev iZ : S256x4096.Idx → EReal := E2 B.z
abbrev iLg : S1x2048.Idx → EReal := E2 (a := 1) fun _ => B.lng
abbrev iLb : S1x2048.Idx → EReal := E2 (a := 1) fun _ => B.lnb

theorem pay7 : k0_pay7 (F := Ideal) (iM B) = E2 B.m := by
  simp only [k0_pay7, shapeCast_self]
  rfl

theorem pay8 : k0_pay8 (F := Ideal) (iM B) = E2 fun q _ => rstd (B.m q) := by
  simp only [k0_pay8, pay7]
  rw [E2_mulf]
  erw [E2_rowSum]
  rw [E1_col, E2_broadcast ofBits_1024, E2_divf _ _ (fun _ _ => by norm_num), E2_broadcast ofBits_eps, E2_addf]
  exact E2_rsqrt (fun q _ => ms (B.m q)) fun q _ => ms_pos (B.m q)

theorem pay9 : k0_pay9 (F := Ideal) (iM B) = E2 fun q d => B.m q d * rstd (B.m q) := by
  simp only [k0_pay9, pay7, pay8]
  rw [E2_broadcastTo_col _ (by norm_num), E2_mulf]

theorem pay10 (acc : Fin 8 → Fin 1024 → ℝ) : k0_pay10 (F := Ideal) (iCt B) (iM B) (E2 acc)
    = E2 fun s d => acc s d + ∑ k : Fin 32, B.dgpostAt ⟨k.val * 8 + s.val, group_lt rfl k s⟩ d := by
  simp only [k0_pay10, pay9, shapeCast_self]
  rw [E2_mulf]
  erw [E2_groupSum (n := 32) rfl]
  rw [E2_addf]
  rfl

theorem pay11 : k0_pay11 (F := Ideal) (iCt B) (iM B) (iGp B) = E2 B.dm := by
  simp only [k0_pay11, pay9, pay8, shapeCast_self]
  rw [E2_broadcastTo_row _ (by norm_num), E2_mulf, E2_mulf]
  erw [E2_rowSum]
  rw [E1_col, E2_broadcast ofBits_1024,
    E2_divf _ _ (fun _ _ => by norm_num), E2_broadcastTo_col _ (by norm_num), E2_broadcastTo_col _ (by norm_num), E2_mulf, E2_subf, E2_mulf, E2_truncf]
  rfl

theorem pay12 : k0_pay12 (F := Ideal) (k0_pay11 (iCt B) (iM B) (iGp B)) (iWo B) = E2 B.dgt := by
  rw [pay11]
  simp only [k0_pay12, shapeCast_self]
  exact matmul_dgt B.dm B.wo

/-! ### The activation -/

theorem pay13 : k0_pay13 (F := Ideal) (iZ B) = E2 B.z := by
  simp only [k0_pay13, shapeCast_self]
  rfl

theorem pay14 : k0_pay14 (F := Ideal) (iZ B) = E2 fun q e => B.z q (lo e) := by
  simp only [k0_pay14, pay13]
  refine (E2_slice B.z 0 0 _ (by norm_num) (by norm_num)).trans ?_
  simp only [Nat.zero_add]
  rfl

theorem pay15 : k0_pay15 (F := Ideal) (iZ B) = E2 fun q e => B.z q (hi e) := by
  simp only [k0_pay15, pay13]
  refine (E2_slice B.z 0 2048 _ (by norm_num) (by norm_num)).trans ?_
  simp only [Nat.zero_add]
  rfl

theorem pay16 : k0_pay16 (F := Ideal) (iZ B) = E2 fun q e => B.z q (lo e) * B.z q (lo e) := by
  simp only [k0_pay16, pay14]
  rw [E2_mulf]

theorem pay17 : k0_pay17 (F := Ideal) (iZ B) = E2 fun q e => th (B.z q (lo e)) := by
  simp only [k0_pay17, pay14, pay16]
  rw [E2_splat named_c01, E2_mulf, E2_broadcast ofBits_c0, E2_addf, E2_mulf, E2_tanh]
  rfl

theorem pay18 : k0_pay18 (F := Ideal) (iZ B) = E2 fun q e => cdf (B.z q (lo e)) := by
  simp only [k0_pay18, pay17]
  rw [E2_broadcast ofBits_half, E2_mulf, E2_addf]
  rfl

theorem pay19 : k0_pay19 (F := Ideal) (iZ B) = E2 fun q e => B.z q (hi e) * B.z q (hi e) := by
  simp only [k0_pay19, pay15]
  rw [E2_mulf]

theorem pay20 : k0_pay20 (F := Ideal) (iZ B) = E2 fun q e => th (B.z q (hi e)) := by
  simp only [k0_pay20, pay15, pay19]
  rw [E2_splat named_c01, E2_mulf, E2_broadcast ofBits_c0, E2_addf, E2_mulf, E2_tanh]
  rfl

theorem pay21 : k0_pay21 (F := Ideal) (iZ B) = E2 fun q e => cdf (B.z q (hi e)) := by
  simp only [k0_pay21, pay20]
  rw [E2_broadcast ofBits_half, E2_mulf, E2_addf]
  rfl

theorem pay22 : k0_pay22 (F := Ideal) (iZ B) = E2 B.u := by
  simp only [k0_pay22, pay14, pay18]
  rw [E2_mulf]
  rfl

theorem pay23 : k0_pay23 (F := Ideal) (iZ B) = E2 B.v := by
  simp only [k0_pay23, pay15, pay21]
  rw [E2_mulf]
  rfl

/-! ### The layer normalisation -/

theorem pay24 : k0_pay24 (F := Ideal) (iZ B) = E2 fun q _ => ∑ k, B.v q k := by
  simp only [k0_pay24, pay23]
  erw [E2_rowSum]
  rw [E1_col]

theorem pay25 : k0_pay25 (F := Ideal) = E2 (a := 256) (b := 1) fun _ _ => 2048 := by
  simp only [k0_pay25]
  exact E2_broadcast ofBits_2048

/-- The centred row, its deviation's reciprocal, the normalised row and the scaled row, of the pre-activations. -/
abbrev kCen : FVec Ideal S256x2048 .f32 := k0_pay26 (F := Ideal) (k0_pay23 (iZ B)) (k0_pay24 (iZ B)) k0_pay25
abbrev kStd : FVec Ideal S256x1 .f32 := k0_pay27 (F := Ideal) (k0_pay23 (iZ B)) (k0_pay24 (iZ B)) k0_pay25
abbrev kHat : FVec Ideal S256x2048 .f32 := k0_pay28 (F := Ideal) (k0_pay23 (iZ B)) (k0_pay24 (iZ B)) k0_pay25
abbrev kVln : FVec Ideal S256x2048 .bf16 := k0_pay29 (F := Ideal) (k0_pay23 (iZ B)) (k0_pay24 (iZ B)) k0_pay25 (iLg B) (iLb B)

theorem pay26 : kCen B = E2 fun q e => cen (B.v q) e := by
  simp only [kCen, k0_pay26, pay23, pay24, pay25]
  rw [E2_divf _ _ (fun _ _ => by norm_num), E2_broadcastTo_col _ (by norm_num), E2_subf]
  rfl

theorem pay27 : kStd B = E2 fun q _ => std (B.v q) := by
  have h := pay26 B
  simp only [kCen] at h
  simp only [kStd, k0_pay27, h]
  rw [E2_mulf]
  erw [E2_rowSum]
  rw [E1_col, E2_broadcast ofBits_2048, E2_divf _ _ (fun _ _ => by norm_num), E2_broadcast ofBits_eps, E2_addf]
  exact E2_rsqrt (fun q _ => var (B.v q)) fun q _ => var_pos (B.v q)

theorem pay28 : kHat B = E2 fun q e => hat (B.v q) e := by
  have h := pay26 B
  have h' := pay27 B
  simp only [kCen] at h
  simp only [kStd] at h'
  simp only [kHat, k0_pay28, h, h']
  rw [E2_broadcastTo_col _ (by norm_num), E2_mulf]
  rfl

theorem pay29 : kVln B = E2 B.vln := by
  have h := pay28 B
  simp only [kHat] at h
  simp only [kVln, k0_pay29, h, shapeCast_self]
  rw [E2_broadcastTo_row _ (by norm_num), E2_mulf, E2_broadcastTo_row _ (by norm_num), E2_addf, E2_truncf]
  rfl

theorem pay151 (acc : Fin 8 → Fin 2048 → ℝ) : k0_pay151 (F := Ideal) (kHat B) (E2 B.dvln) (E2 acc)
    = E2 fun s e => acc s e + ∑ k : Fin 32, B.dlngAt ⟨k.val * 8 + s.val, group_lt rfl k s⟩ e := by
  rw [pay28]
  simp only [k0_pay151, shapeCast_self]
  rw [E2_mulf]
  erw [E2_groupSum (n := 32) rfl]
  rw [E2_addf]
  rfl

theorem pay152 (acc : Fin 8 → Fin 2048 → ℝ) : k0_pay152 (F := Ideal) (E2 B.dvln) (E2 acc)
    = E2 fun s e => acc s e + ∑ k : Fin 32, B.dvln ⟨k.val * 8 + s.val, group_lt rfl k s⟩ e := by
  simp only [k0_pay152, shapeCast_self]
  erw [E2_groupSum (n := 32) rfl]
  rw [E2_addf]

theorem pay153 : k0_pay153 (F := Ideal) (E2 B.dvln) (iLg B) = E2 fun q e => B.dvln q e * B.lng e := by
  simp only [k0_pay153, shapeCast_self]
  rw [E2_broadcastTo_row _ (by norm_num), E2_mulf]

theorem pay154 : k0_pay154 (F := Ideal) (E2 B.dvln) (iLg B)
    = E2 fun q e => B.dvln q e * B.lng e - (∑ k, B.dvln q k * B.lng k) / 2048 := by
  simp only [k0_pay154, pay153]
  erw [E2_rowSum]
  rw [E1_col, E2_broadcast ofBits_2048, E2_divf _ _ (fun _ _ => by norm_num), E2_broadcastTo_col _ (by norm_num), E2_subf]

theorem pay156 : k0_pay156 (F := Ideal) (kStd B) (kHat B) (k0_pay154 (E2 B.dvln) (iLg B)) (k0_pay155 (kHat B) (E2 B.dvln) (iLg B))
    = E2 B.dv := by
  rw [pay27, pay28, pay154]
  simp only [k0_pay156, k0_pay155, pay153]
  rw [E2_mulf]
  erw [E2_rowSum]
  rw [E1_col, E2_broadcast ofBits_2048, E2_divf _ _ (fun _ _ => by norm_num), E2_broadcastTo_col _ (by norm_num),
    E2_broadcastTo_col _ (by norm_num), E2_mulf, E2_subf, E2_mulf]
  rfl

/-! ### The pre-activations' gradient, its two halves -/

theorem dz_lo : k0_pay157 (F := Ideal) (k0_pay14 (iZ B)) (k0_pay16 (iZ B)) (k0_pay17 (iZ B)) (k0_pay18 (iZ B)) (E2 B.du)
    = E2 fun q e => B.dz q (lo e) := by
  rw [pay14, pay16, pay17, pay18]
  simp only [k0_pay157]
  rw [E2_mulf, E2_broadcast ofBits_one, E2_subf, E2_mulf, E2_splat named_c01_3, E2_mulf, E2_broadcast ofBits_half_c0, E2_addf, E2_mulf, E2_addf,
    E2_mulf, E2_truncf]
  refine congrArg E2 (funext fun q => funext fun e => ?_)
  have h : (lo e).val < 2048 := e.isLt
  rw [Part.dz, dif_pos h]
  rfl

theorem dz_hi : k0_pay1 (F := Ideal) (k0_pay19 (iZ B)) (k0_pay21 (iZ B)) (E2 B.dv) (k0_pay158 (k0_pay15 (iZ B)) (k0_pay20 (iZ B))) k0_pay159
    = E2 fun q e => B.dz q (hi e) := by
  rw [pay15, pay19, pay20, pay21]
  simp only [k0_pay1, k0_pay158, k0_pay159]
  rw [E2_mulf, E2_broadcast ofBits_one, E2_subf, E2_mulf, E2_splat named_c01_3, E2_mulf, E2_broadcast ofBits_half_c0, E2_addf, E2_mulf, E2_addf,
    E2_mulf, E2_truncf]
  refine congrArg E2 (funext fun q => funext fun e => ?_)
  have h : ¬(hi e).val < 2048 := Nat.not_lt.2 (Nat.le_add_right _ _)
  rw [Part.dz, dif_neg h]
  have he : (⟨(hi e).val - 2048, by have := (hi e).isLt; omega⟩ : Fin 2048) = e := Fin.ext (Nat.add_sub_cancel_left _ _)
  rw [he]
  rfl

end Sgu

end
-- ==== Proof.Sgu.Pieces.lean ====
/- The tiles the kernel stores for one chunk of 128 tokens and one group of 256 channels, at an index of the whole buffer. -/
module

public import proofs.«01_k».proof.Proof.Sgu.Block

@[expose] public section

set_option maxRecDepth 16384

noncomputable section

open Idealize.ShloMosaic Cert.Kernel5Ideal Cert.Kernel5Ideal.Gen Ffn

namespace Sgu

variable (B : Part 256) {Dg U : FVec Ideal S256x2048 .f32} {Vl : FVec Ideal S256x2048 .bf16}

/-- A row of the block, from row `k`. -/
def row (k : ℕ) (hk : k + 128 ≤ 256) (q : Fin 128) : Fin 256 := ⟨k + q.val, add_lt hk q⟩

/-- The tile of the mixed channels' cotangent. -/
theorem dmx_tile (hD : Dg = E2 B.dgt) (hU : U = E2 B.u) (k l : ℕ) (g : Fin 8) (hk : k + 128 ≤ 256) (hl : l = g.val * 256)
    (ht : ∀ a : Fin 2, ![k, l] a + ![128, 256] a ≤ S256x2048.size a) (hs : S256x2048.Slices ![k, l] S128x256) :
    mulf (F := Ideal) (φ := .f32) (View.ld (Val := Elt Ideal) (e' := .f32) Dg (Rect.unit (s := S256x2048) ![k, l] ![128, 256] ht))
      (extractStridedSlice S128x256 ![k, l] U hs) = E2 fun q d => B.dmx (row k hk q) (chan g d) := by
  subst hD hU hl
  erw [ld_f32 B.dgt k (g.val * 256) ht]
  rw [E2_slice B.u k (g.val * 256) hs hk (ht 1), E2_mulf]
  rfl

/-- The tile of the gate's cotangent. -/
theorem du_piece (hD : Dg = E2 B.dgt) (hV : Vl = E2 B.vln) (k l G : ℕ) (hG8 : G < 8) (hk : k + 128 ≤ 256) (hkm : k % 128 = 0) (hl : l = G * 256)
    (ht : ∀ a : Fin 2, ![k, l] a + ![128, 256] a ≤ S256x2048.size a) (hs : S256x2048.Slices ![k, l] S128x256)
    (hw : ∀ a : Fin 3, ![G, 0, 0] a + ![1, 128, 128] a ≤ S8x128x128.size a) (hc : S1x128x128.ShapeCasts S128x128)
    (hb : ∀ a : Fin 2, ![0, l] a + ![128, 256] a ≤ S128x2048.size a) (h h' : S128x256.ShapeCasts S128x256)
    (x : S128x256.Idx) (y : S256x2048.Idx) (hy0 : (y 0 : ℕ) = k + x 0) (hy1 : (y 1 : ℕ) = l + x 1) :
    shapeCast S128x256 (mulf (F := Ideal) (φ := .f32) (View.ld (Val := Elt Ideal) (e' := .f32) Dg (Rect.unit (s := S256x2048) ![k, l] ![128, 256] ht))
      (addf (matmul (F := Ideal) (φ₁ := .bf16) (φ₂ := .bf16) dot_S128x128_S128x256_S128x256_1_0_0_1_n_n none
          (shapeCast S128x128 (View.ld (Val := Elt Ideal) (e' := .bf16) (E3 B.ws) (Rect.unit (s := S8x128x128) ![G, 0, 0] ![1, 128, 128] hw)) hc)
          (extractStridedSlice S128x256 ![k, l] Vl hs) (constant S128x256 .f32 0x00000000#32))
        (shapeCast S128x256 (View.ld (Val := Elt Ideal) (e' := .f32) (E2 B.bias) (Rect.unit (s := S128x2048) ![0, l] ![128, 256] hb)) h))) h' x
      = E2 B.du y := by
  obtain ⟨g, rfl⟩ : ∃ g : Fin 8, g.val = G := ⟨⟨G, hG8⟩, rfl⟩
  subst hD hV hl
  erw [ld_f32 B.dgt k (g.val * 256) ht, ld_f32 B.bias 0 (g.val * 256) hb, ld_mat_bf16 B.ws g g.val rfl hw hc]
  erw [shapeCast_self, shapeCast_self]
  rw [E2_slice B.vln k (g.val * 256) hs hk (ht 1), matmul_mix, E2_addf, E2_mulf]
  have h0 : (x 0).val < 128 := (x 0).isLt
  have h1 : (x 1).val < 256 := (x 1).isLt
  have e0 : y 0 = row k hk (x 0) := Fin.ext hy0
  have e1 : y 1 = chan g (x 1) := Fin.ext hy1
  have eg : grp (chan g (x 1)) = g := Fin.ext (by show (g.val * 256 + (x 1).val) / 256 = g.val; omega)
  have ep : pos (row k hk (x 0)) = x 0 := Fin.ext (by show (k + (x 0).val) % 128 = (x 0).val; omega)
  have em : ∀ s, B.mate (row k hk (x 0)) s = row k hk s := fun s =>
    Fin.ext (by show k + (x 0).val - (k + (x 0).val) % 128 + s.val = k + s.val; omega)
  have ez : ∀ q : Fin 128, (⟨0 + q.val, add_lt (hb 0) q⟩ : Fin 128) = q := fun q => Fin.ext (Nat.zero_add _)
  show _ = ((B.du (y 0) (y 1) : ℝ) : EReal)
  rw [e0, e1]
  simp only [E2, Part.du, Part.mixed, eg, ep, em]
  exact congrArg (fun b : Fin 128 => ((B.dgt (row k hk (x 0)) (chan g (x 1)) * (∑ s, B.ws g (x 0) s * B.vln (row k hk s) (chan g (x 1))
    + B.bias b (chan g (x 1))) : ℝ) : EReal)) (ez (x 0))

/-- The tile of the normalised row's cotangent. -/
theorem dvln_piece (hD : Dg = E2 B.dgt) (hU : U = E2 B.u) (W : Fin 8 → Fin 128 → Fin 128 → ℝ) (hW : ∀ g t s, W g t s = B.ws g s t)
    (k l G : ℕ) (hG8 : G < 8) (hk : k + 128 ≤ 256) (hkm : k % 128 = 0) (hl : l = G * 256)
    (ht : ∀ a : Fin 2, ![k, l] a + ![128, 256] a ≤ S256x2048.size a) (hs : S256x2048.Slices ![k, l] S128x256)
    (hw : ∀ a : Fin 3, ![G, 0, 0] a + ![1, 128, 128] a ≤ S8x128x128.size a) (hc : S1x128x128.ShapeCasts S128x128)
    (h : S128x256.ShapeCasts S128x256) (hbl : FTy.bf16.bits < FTy.f32.bits)
    (x : S128x256.Idx) (y : S256x2048.Idx) (hy0 : (y 0 : ℕ) = k + x 0) (hy1 : (y 1 : ℕ) = l + x 1) :
    shapeCast S128x256 (matmul (F := Ideal) (φ₁ := .bf16) (φ₂ := .bf16) dot_S128x128_S128x256_S128x256_1_0_0_1_n_n none
        (shapeCast S128x128 (View.ld (Val := Elt Ideal) (e' := .bf16) (E3 W) (Rect.unit (s := S8x128x128) ![G, 0, 0] ![1, 128, 128] hw)) hc)
        (truncf .bf16 (mulf (F := Ideal) (φ := .f32) (View.ld (Val := Elt Ideal) (e' := .f32) Dg (Rect.unit (s := S256x2048) ![k, l] ![128, 256] ht))
          (extractStridedSlice S128x256 ![k, l] U hs)) hbl)
        (constant S128x256 .f32 0x00000000#32)) h x
      = E2 B.dvln y := by
  obtain ⟨g, rfl⟩ : ∃ g : Fin 8, g.val = G := ⟨⟨G, hG8⟩, rfl⟩
  rw [dmx_tile B hD hU k l g hk hl ht hs, E2_truncf, shapeCast_self]
  erw [ld_mat_bf16 W g g.val rfl hw hc]
  rw [matmul_mix]
  subst hl
  have h0 : (x 0).val < 128 := (x 0).isLt
  have h1 : (x 1).val < 256 := (x 1).isLt
  have e0 : y 0 = row k hk (x 0) := Fin.ext hy0
  have e1 : y 1 = chan g (x 1) := Fin.ext hy1
  have eg : grp (chan g (x 1)) = g := Fin.ext (by show (g.val * 256 + (x 1).val) / 256 = g.val; omega)
  have ep : pos (row k hk (x 0)) = x 0 := Fin.ext (by show (k + (x 0).val) % 128 = (x 0).val; omega)
  have em : ∀ s, B.mate (row k hk (x 0)) s = row k hk s := fun s =>
    Fin.ext (by show k + (x 0).val - (k + (x 0).val) % 128 + s.val = k + s.val; omega)
  show _ = ((B.dvln (y 0) (y 1) : ℝ) : EReal)
  rw [e0, e1]
  simp only [E2, Part.dvln, eg, ep, em]
  refine congrArg (fun r : ℝ => (r : EReal)) (Finset.sum_congr rfl fun s _ => ?_)
  exact congrArg (fun r : ℝ => r * _) (hW g (x 0) s)

/-- The group whose channels start at column `l`. -/
def grpAt (l : ℕ) (hl : l + 256 ≤ 2048) : Fin 8 := ⟨l / 256, by omega⟩

theorem grpAt_mul (l : ℕ) (hl : l + 256 ≤ 2048) (hm : l % 256 = 0) : l = (grpAt l hl).val * 256 := by
  show l = l / 256 * 256
  omega

/-- A tile of the mixing bias's gradient before the point's first chunk. -/
theorem db_acc {X : Vec Ideal S128x2048 .f32} (acc : Fin 128 → Fin 2048 → ℝ) (hX : X = E2 acc) (l : ℕ) (hm : l % 256 = 0) (hb : ∀ a : Fin 2, ![0, l] a + ![128, 256] a ≤ S128x2048.size a) :
    View.ld (Val := Elt Ideal) (e' := .f32) X (Rect.unit (s := S128x2048) ![0, l] ![128, 256] hb)
      = E2 fun q d => acc q (chan (grpAt l (hb 1)) d) := by
  subst hX
  erw [ld_f32 acc 0 l hb]
  refine congrArg E2 (funext fun q => funext fun d => congrArg₂ acc (Fin.ext (Nat.zero_add _)) (Fin.ext ?_))
  exact congrArg (· + d.val) (grpAt_mul l (hb 1) hm)

/-- The tile of the mixing bias's gradient after the first chunk. -/
theorem db_first (hD : Dg = E2 B.dgt) (hU : U = E2 B.u) (acc : Fin 128 → Fin 2048 → ℝ) (l : ℕ) (hm : l % 256 = 0)
    (ht : ∀ a : Fin 2, ![0, l] a + ![128, 256] a ≤ S256x2048.size a) (hs : S256x2048.Slices ![0, l] S128x256)
    (h : S128x256.ShapeCasts S128x256) {P : Vec Ideal S128x256 .f32} (hP : P = E2 fun q d => acc q (chan (grpAt l (ht 1)) d)) :
    addf (F := Ideal) (φ := .f32) (shapeCast S128x256 P h)
      (mulf (F := Ideal) (φ := .f32) (View.ld (Val := Elt Ideal) (e' := .f32) Dg (Rect.unit (s := S256x2048) ![0, l] ![128, 256] ht))
        (extractStridedSlice S128x256 ![0, l] U hs))
      = E2 fun q d => acc q (chan (grpAt l (ht 1)) d) + B.dmx (row 0 (by decide) q) (chan (grpAt l (ht 1)) d) := by
  rw [dmx_tile B hD hU 0 l (grpAt l (ht 1)) (by decide) (grpAt_mul l (ht 1) hm) ht hs, shapeCast_self, hP, E2_addf]

/-- The tile of the mixing bias's gradient after the second chunk, at an index of the whole buffer. -/
theorem db_last (hD : Dg = E2 B.dgt) (hU : U = E2 B.u) (acc : Fin 128 → Fin 2048 → ℝ) (l : ℕ) (hm : l % 256 = 0)
    (ht : ∀ a : Fin 2, ![128, l] a + ![128, 256] a ≤ S256x2048.size a) (hs : S256x2048.Slices ![128, l] S128x256)
    (h : S128x256.ShapeCasts S128x256) {P : Vec Ideal S128x256 .f32}
    (hP : P = E2 fun q d => acc q (chan (grpAt l (ht 1)) d) + B.dmx (row 0 (by decide) q) (chan (grpAt l (ht 1)) d))
    (x : S128x256.Idx) (y : S128x2048.Idx) (hy0 : (y 0 : ℕ) = x 0) (hy1 : (y 1 : ℕ) = l + x 1) :
    addf (F := Ideal) (φ := .f32) (shapeCast S128x256 P h)
      (mulf (F := Ideal) (φ := .f32) (View.ld (Val := Elt Ideal) (e' := .f32) Dg (Rect.unit (s := S256x2048) ![128, l] ![128, 256] ht))
        (extractStridedSlice S128x256 ![128, l] U hs)) x
      = E2 (fun q e => acc q e + B.dmx (row 0 (by decide) q) e + B.dmx (row 128 (by decide) q) e) y := by
  rw [dmx_tile B hD hU 128 l (grpAt l (ht 1)) (by decide) (grpAt_mul l (ht 1) hm) ht hs, shapeCast_self, hP, E2_addf]
  have e0 : y 0 = x 0 := Fin.ext hy0
  have e1 : y 1 = chan (grpAt l (ht 1)) (x 1) :=
    Fin.ext (hy1.trans (congrArg (fun n : ℕ => n + (x 1).val) (grpAt_mul l (ht 1) hm)))
  show _ = ((acc (y 0) (y 1) + B.dmx (row 0 (by decide) (y 0)) (y 1) + B.dmx (row 128 (by decide) (y 0)) (y 1) : ℝ) : EReal)
  rw [e0, e1]
  rfl

/-- A group's matrix stored as three axes and read back as two. -/
theorem mat_back (p : Fin 128 → Fin 128 → ℝ) (hc : S1x128x128.ShapeCasts S128x128) {P : Vec Ideal S1x128x128 .f32} (hP : P = E3 (a := 1) fun _ t s => p t s) :
    shapeCast S128x128 P hc = E2 p := by
  subst hP
  funext j
  refine (shapeCast_apply _ hc j (ValueIdx.ix3 (0 : Fin 1) (j 0) (j 1)) ?_).trans rfl
  rw [Shape.rowMajor_val_two, Shape.rowMajor_val_three]
  show (0 * 128 + (j 0).val) * 128 + (j 1).val = (j 0).val * 128 + (j 1).val
  omega

/-- A group's matrix of the mixing weights' gradient before the point's first chunk. -/
theorem dws_acc {X : Vec Ideal S8x128x128 .f32} (acc : Fin 8 → Fin 128 → Fin 128 → ℝ) (hX : X = E3 acc) (l : ℕ) (hl : l + 256 ≤ 2048) (G : ℕ) (hG : G = (grpAt l hl).val)
    (h : ∀ x : Fin 3, ![G, 0, 0] x + ![1, 128, 128] x ≤ S8x128x128.size x) :
    View.ld (Val := Elt Ideal) (e' := .f32) X (Rect.unit (s := S8x128x128) ![G, 0, 0] ![1, 128, 128] h)
      = E3 (a := 1) fun _ t s => acc (grpAt l hl) t s := by
  subst hG hX
  funext j
  have h0 : (j 0).val < 1 := (j 0).isLt
  refine (View.ld_unit_apply_of (Val := Elt Ideal) (S := S8x128x128) (e := .f32) (E3 acc) ![(grpAt l hl).val, 0, 0] ![1, 128, 128] h j
    (ValueIdx.ix3 (grpAt l hl) (j 1) (j 2)) fun x => ?_).trans rfl
  match x with
  | ⟨0, _⟩ => show (grpAt l hl).val = (grpAt l hl).val + (j 0).val; omega
  | ⟨1, _⟩ => exact (Nat.zero_add _).symm
  | ⟨2, _⟩ => exact (Nat.zero_add _).symm

/-- A group's matrix before anything is added. -/
theorem dws_zero {X : Vec Ideal S8x128x128 .f32} (hX : X = E3 fun _ _ _ => 0) (G : ℕ)
    (h : ∀ a : Fin 3, ![G, 0, 0] a + ![1, 128, 128] a ≤ S8x128x128.size a) :
    View.ld (Val := Elt Ideal) (e' := .f32) X (Rect.unit (s := S8x128x128) ![G, 0, 0] ![1, 128, 128] h) = E3 (a := 1) fun _ _ _ => 0 := by
  subst hX
  rfl

/-- A group's matrix of the mixing weights' gradient after one more chunk. -/
theorem dws_tile (hD : Dg = E2 B.dgt) (hU : U = E2 B.u) (hV : Vl = E2 B.vln) (k l : ℕ) (hk : k + 128 ≤ 256) (hm : l % 256 = 0)
    (ht : ∀ a : Fin 2, ![k, l] a + ![128, 256] a ≤ S256x2048.size a) (hs hs' : S256x2048.Slices ![k, l] S128x256)
    (hc : S128x128.ShapeCasts S1x128x128) (hc' : S1x128x128.ShapeCasts S128x128) (hbl : FTy.bf16.bits < FTy.f32.bits)
    {P : Vec Ideal S1x128x128 .f32} {p : Fin 128 → Fin 128 → ℝ} (hP : P = E3 (a := 1) fun _ t s => p t s) :
    shapeCast S1x128x128 (addf (F := Ideal) (φ := .f32) (shapeCast S128x128 P hc')
      (matmul (F := Ideal) (φ₁ := .bf16) (φ₂ := .bf16) dot_S128x256_S128x256_S128x128_1_1_0_0_n_n none
        (truncf .bf16 (mulf (F := Ideal) (φ := .f32) (View.ld (Val := Elt Ideal) (e' := .f32) Dg (Rect.unit (s := S256x2048) ![k, l] ![128, 256] ht))
          (extractStridedSlice S128x256 ![k, l] U hs)) hbl)
        (extractStridedSlice S128x256 ![k, l] Vl hs') (constant S128x128 .f32 0x00000000#32))) hc
      = E3 (a := 1) fun _ t s => p t s + B.dwsAt (row k hk) (grpAt l (ht 1)) t s := by
  rw [dmx_tile B hD hU k l (grpAt l (ht 1)) hk (grpAt_mul l (ht 1) hm) ht hs, E2_truncf, mat_back p hc' hP, hV,
    E2_slice B.vln k l hs' hk (ht 1), matmul_dws, E2_addf]
  have e1 : ∀ d : Fin 256, (⟨l + d.val, add_lt (ht 1) d⟩ : Fin 2048) = chan (grpAt l (ht 1)) d := fun d =>
    Fin.ext (congrArg (fun n : ℕ => n + d.val) (grpAt_mul l (ht 1) hm))
  funext j
  have h0 : (j 0).val < 1 := (j 0).isLt
  refine (shapeCast_apply _ hc j (ValueIdx.ix2 (j 1) (j 2)) ?_).trans ?_
  · rw [Shape.rowMajor_val_two, Shape.rowMajor_val_three]
    show (j 1).val * 128 + (j 2).val = ((j 0).val * 128 + (j 1).val) * 128 + (j 2).val
    omega
  · simp only [E2, E3, Part.dwsAt, e1]
    rfl

/-- A group's matrix after the first chunk. -/
theorem dws_first (hD : Dg = E2 B.dgt) (hU : U = E2 B.u) (hV : Vl = E2 B.vln) (acc : Fin 8 → Fin 128 → Fin 128 → ℝ) (l : ℕ) (hm : l % 256 = 0)
    (ht : ∀ a : Fin 2, ![0, l] a + ![128, 256] a ≤ S256x2048.size a) (hs hs' : S256x2048.Slices ![0, l] S128x256)
    (hc : S128x128.ShapeCasts S1x128x128) (hc' : S1x128x128.ShapeCasts S128x128) (hbl : FTy.bf16.bits < FTy.f32.bits)
    {P : Vec Ideal S1x128x128 .f32} (hP : P = E3 (a := 1) fun _ t s => acc (grpAt l (ht 1)) t s) :
    shapeCast S1x128x128 (addf (F := Ideal) (φ := .f32) (shapeCast S128x128 P hc')
      (matmul (F := Ideal) (φ₁ := .bf16) (φ₂ := .bf16) dot_S128x256_S128x256_S128x128_1_1_0_0_n_n none
        (truncf .bf16 (mulf (F := Ideal) (φ := .f32) (View.ld (Val := Elt Ideal) (e' := .f32) Dg (Rect.unit (s := S256x2048) ![0, l] ![128, 256] ht))
          (extractStridedSlice S128x256 ![0, l] U hs)) hbl)
        (extractStridedSlice S128x256 ![0, l] Vl hs') (constant S128x128 .f32 0x00000000#32))) hc
      = E3 (a := 1) fun _ t s => acc (grpAt l (ht 1)) t s + B.dwsAt (row 0 (by decide)) (grpAt l (ht 1)) t s :=
  dws_tile B hD hU hV 0 l (by decide) hm ht hs hs' hc hc' hbl hP

/-- A group's matrix after the second chunk, at an index of the whole buffer. -/
theorem dws_last (hD : Dg = E2 B.dgt) (hU : U = E2 B.u) (hV : Vl = E2 B.vln) (acc : Fin 8 → Fin 128 → Fin 128 → ℝ) (l : ℕ) (hm : l % 256 = 0)
    (ht : ∀ a : Fin 2, ![128, l] a + ![128, 256] a ≤ S256x2048.size a) (hs hs' : S256x2048.Slices ![128, l] S128x256)
    (hc : S128x128.ShapeCasts S1x128x128) (hc' : S1x128x128.ShapeCasts S128x128) (hbl : FTy.bf16.bits < FTy.f32.bits)
    {P : Vec Ideal S1x128x128 .f32}
    (hP : P = E3 (a := 1) fun _ t s => acc (grpAt l (ht 1)) t s + B.dwsAt (row 0 (by decide)) (grpAt l (ht 1)) t s)
    (x : S1x128x128.Idx) (y : S8x128x128.Idx) (hy0 : (y 0 : ℕ) = l / 256) (hy1 : (y 1 : ℕ) = x 1) (hy2 : (y 2 : ℕ) = x 2) :
    shapeCast S1x128x128 (addf (F := Ideal) (φ := .f32) (shapeCast S128x128 P hc')
      (matmul (F := Ideal) (φ₁ := .bf16) (φ₂ := .bf16) dot_S128x256_S128x256_S128x128_1_1_0_0_n_n none
        (truncf .bf16 (mulf (F := Ideal) (φ := .f32) (View.ld (Val := Elt Ideal) (e' := .f32) Dg (Rect.unit (s := S256x2048) ![128, l] ![128, 256] ht))
          (extractStridedSlice S128x256 ![128, l] U hs)) hbl)
        (extractStridedSlice S128x256 ![128, l] Vl hs') (constant S128x128 .f32 0x00000000#32))) hc x
      = E3 (fun g t s => acc g t s + B.dwsAt (row 0 (by decide)) g t s + B.dwsAt (row 128 (by decide)) g t s) y := by
  rw [dws_tile B hD hU hV 128 l (by decide) hm ht hs hs' hc hc' hbl hP]
  have e0 : y 0 = grpAt l (ht 1) := Fin.ext hy0
  have e1 : y 1 = x 1 := Fin.ext hy1
  have e2 : y 2 = x 2 := Fin.ext hy2
  simp only [E3]
  rw [e0, e1, e2]

end Sgu

end
-- ==== Proof.Sgu.Out.lean ====
/- What the body leaves in the outputs' buffers at a grid point whose input blocks hold real numbers: the product's cotangent,
   and the pre-activations' gradient. -/
module

public import proofs.«01_k».proof.Proof.Sgu.Pieces
public import proofs.«01_k».proof.Proof.Gen.Kernel5Ideal.Frame

@[expose] public section

set_option maxRecDepth 16384

noncomputable section

open Idealize.ShloMosaic Idealize.ShloMosaic.Tactic Cert.Kernel5Ideal Cert.Kernel5Ideal.Gen Ffn

namespace Sgu

/-- The input blocks of grid point `t` hold `B`'s numbers. -/
structure HoldsBlk (m : (ℓ : Loc nD τ Cert.Kernel5Ideal.sig) → Buf (Elt Ideal) ℓ) (c : Dev nD) (t : Fin cfg0.N) (B : Part 256) : Prop where
  h0 : iblk m c 0 t = E2 B.ct
  h1 : iblk m c 1 t = E2 B.m
  h2 : iblk m c 2 t = E2 (a := 1) fun _ => B.gpost
  h3 : iblk m c 3 t = E2 B.wo
  h4 : iblk m c 4 t = E2 B.z
  h5 : iblk m c 5 t = E2 (a := 1) fun _ => B.lng
  h6 : iblk m c 6 t = E2 (a := 1) fun _ => B.lnb
  h7 : iblk m c 7 t = E3 B.ws
  h8 : iblk m c 8 t = E3 fun g t s => B.ws g s t
  h9 : iblk m c 9 t = E2 B.bias

/-- A whole buffer read back after the stores that fill it. -/
theorem readBack {n k : ℕ} {e : EltTy} (v : View Cert.Kernel5Ideal.sig .tc .vmem (⟨2, ![n, k]⟩ : Shape) e) (L : List (View.Piece (Elt Ideal) (⟨2, ![n, k]⟩ : Shape) e))
    (G : Vec Ideal (⟨2, ![n, k]⟩ : Shape) e) (h : View.canon L = G) (hi : ∀ a, ![0, 0] a + ![n, k] a ≤ (⟨2, ![n, k]⟩ : Shape).size a) :
    v.readCov L (Rect.unit (s := (⟨2, ![n, k]⟩ : Shape)) ![0, 0] ![n, k] hi).toLoadRect = G := by
  rw [View.readCov_eq_canon', h]
  funext j
  refine congrArg G (funext fun a => Fin.ext ?_)
  match a with
  | ⟨0, _⟩ => exact (Nat.zero_add _).trans (Nat.one_mul _)
  | ⟨1, _⟩ => exact (Nat.zero_add _).trans (Nat.one_mul _)

variable {m : (ℓ : Loc nD τ Cert.Kernel5Ideal.sig) → Buf (Elt Ideal) ℓ} {c : Dev nD} {t : Fin cfg0.N} {B : Part 256}

theorem out10 (H : HoldsBlk m c t B) : (outsAt0 m c t.val t.isLt).1 = E2 B.dm := by
  by_cases h : t.val % 64 = 0
  · rw [outsAt0_A m c t h]
    frame_out
    rw [H.h0, H.h1, H.h2]
    exact pay11 B
  · rw [outsAt0_B m c t h]
    frame_out
    rw [H.h0, H.h1, H.h2]
    exact pay11 B

/-- The first half's tile, from the gate's cotangent read back. -/
theorem lo_piece {X : Vec Ideal S256x2048 .f32} (hX : X = E2 B.du) (x : S256x2048.Idx) (y : S256x4096.Idx) (h0 : (y 0 : ℕ) = 0 + x 0) (h1 : (y 1 : ℕ) = 0 + x 1) :
    k0_pay157 (F := Ideal) (k0_pay14 (iZ B)) (k0_pay16 (iZ B)) (k0_pay17 (iZ B)) (k0_pay18 (iZ B)) X x = E2 B.dz y := by
  rw [hX, dz_lo]
  have e0 : y 0 = x 0 := Fin.ext (h0.trans (Nat.zero_add _))
  have e1 : y 1 = lo (x 1) := Fin.ext (h1.trans (Nat.zero_add _))
  show _ = ((B.dz (y 0) (y 1) : ℝ) : EReal)
  rw [e0, e1]
  rfl

/-- The second half's tile, from the normalised row's cotangent read back. -/
theorem hi_piece {X : Vec Ideal S256x2048 .f32} (hX : X = E2 B.dvln) (x : S256x2048.Idx) (y : S256x4096.Idx) (h0 : (y 0 : ℕ) = 0 + x 0)
    (h1 : (y 1 : ℕ) = 2048 + x 1) :
    k0_pay1 (F := Ideal) (k0_pay19 (iZ B)) (k0_pay21 (iZ B)) (k0_pay156 (kStd B) (kHat B) (k0_pay154 X (iLg B)) (k0_pay155 (kHat B) X (iLg B)))
      (k0_pay158 (k0_pay15 (iZ B)) (k0_pay20 (iZ B))) k0_pay159 x = E2 B.dz y := by
  rw [hX, pay156, dz_hi]
  have e0 : y 0 = x 0 := Fin.ext (h0.trans (Nat.zero_add _))
  have e1 : y 1 = hi (x 1) := Fin.ext h1
  show _ = ((B.dz (y 0) (y 1) : ℝ) : EReal)
  rw [e0, e1]
  rfl

set_option maxHeartbeats 4000000 in
theorem out12 (H : HoldsBlk m c t B) : (outsAt0 m c t.val t.isLt).2.2.1 = E2 B.dz := by
  by_cases h : t.val % 64 = 0
  · rw [outsAt0_A m c t h]
    frame_out [readCov_whole]
    simp only [H.h0, H.h1, H.h2, H.h3, H.h4, H.h5, H.h6, H.h7, H.h8, H.h9]
    funext y
    canon_tiles x h
    · refine (hi_piece (B := B) (readBack _ _ _ ?_ _) x y (by omega) (by omega)).trans rfl
      funext y
      canon_tiles x h
      all_goals exact (dvln_piece B (pay12 B) (pay22 B) (fun g t s => B.ws g s t) (fun _ _ _ => rfl) _ _ _ (by decide) (by decide) (by decide) (by decide)
        _ _ _ _ _ _ x y (by omega) (by omega)).trans rfl
    · refine (lo_piece (B := B) (readBack _ _ _ ?_ _) x y (by omega) (by omega)).trans rfl
      funext y
      canon_tiles x h
      all_goals exact (du_piece B (pay12 B) (pay29 B) _ _ _ (by decide) (by decide) (by decide) (by decide) _ _ _ _ _ _ _ x y (by omega) (by omega)).trans rfl
  · rw [outsAt0_B m c t h]
    frame_out [readCov_whole]
    simp only [H.h0, H.h1, H.h2, H.h3, H.h4, H.h5, H.h6, H.h7, H.h8, H.h9]
    funext y
    canon_tiles x h
    · refine (hi_piece (B := B) (readBack _ _ _ ?_ _) x y (by omega) (by omega)).trans rfl
      funext y
      canon_tiles x h
      all_goals exact (dvln_piece B (pay12 B) (pay22 B) (fun g t s => B.ws g s t) (fun _ _ _ => rfl) _ _ _ (by decide) (by decide) (by decide) (by decide)
        _ _ _ _ _ _ x y (by omega) (by omega)).trans rfl
    · refine (lo_piece (B := B) (readBack _ _ _ ?_ _) x y (by omega) (by omega)).trans rfl
      funext y
      canon_tiles x h
      all_goals exact (du_piece B (pay12 B) (pay29 B) _ _ _ (by decide) (by decide) (by decide) (by decide) _ _ _ _ _ _ _ x y (by omega) (by omega)).trans rfl

end Sgu

end
-- ==== Proof.Sgu.Acc.lean ====
/- The gains' and the offset's gradients, accumulated over the grid: after each point, the sum of the parts of the blocks so far. -/
module

public import proofs.«01_k».proof.Proof.Sgu.Out

@[expose] public section

set_option maxRecDepth 16384

noncomputable section

open Idealize.ShloMosaic Idealize.ShloMosaic.Tactic Cert.Kernel5Ideal Cert.Kernel5Ideal.Gen Ffn

namespace Sgu

namespace Part

variable (B : Part 256)

/-- A block's parts of the gains' and the offset's gradients, the rows taken in groups of eight. -/
def gpostPart (s : Fin 8) (d : Fin 1024) : ℝ := ∑ k : Fin 32, B.dgpostAt ⟨k.val * 8 + s.val, group_lt rfl k s⟩ d
def lngPart (s : Fin 8) (e : Fin 2048) : ℝ := ∑ k : Fin 32, B.dlngAt ⟨k.val * 8 + s.val, group_lt rfl k s⟩ e
def lnbPart (s : Fin 8) (e : Fin 2048) : ℝ := ∑ k : Fin 32, B.dvln ⟨k.val * 8 + s.val, group_lt rfl k s⟩ e

end Part

theorem zeros2 : k0_pay2 (F := Ideal) = E2 (a := 8) (b := 1024) fun _ _ => 0 := by
  simp only [k0_pay2]
  exact E2_broadcast Ideal.ofBits_zero_f32
theorem zeros5 : k0_pay5 (F := Ideal) = E2 (a := 8) (b := 2048) fun _ _ => 0 := by
  simp only [k0_pay5]
  exact E2_broadcast Ideal.ofBits_zero_f32
theorem zeros6 : k0_pay6 (F := Ideal) = E2 (a := 8) (b := 2048) fun _ _ => 0 := by
  simp only [k0_pay6]
  exact E2_broadcast Ideal.ofBits_zero_f32

variable {m : (ℓ : Loc nD τ Cert.Kernel5Ideal.sig) → Buf (Elt Ideal) ℓ} {c : Dev nD} {t : Fin cfg0.N} {B : Part 256}

/-- The second gain's accumulator after a block. -/
theorem gpost_block {Z : Vec Ideal S8x1024 .f32} {acc : Fin 8 → Fin 1024 → ℝ} (hZ : Z = E2 acc) :
    k0_pay10 (F := Ideal) (iCt B) (iM B) Z = E2 fun s d => acc s d + B.gpostPart s d := by
  rw [hZ]; exact pay10 B acc

theorem out11_first (H : HoldsBlk m c t B) (h : t.val % 64 = 0) : (outsAt0 m c t.val t.isLt).2.1 = E2 fun s d => 0 + B.gpostPart s d := by
  rw [outsAt0_A m c t h]
  frame_out
  rw [H.h0, H.h1]
  exact gpost_block zeros2

theorem out11_next (H : HoldsBlk m c t B) (h : ¬t.val % 64 = 0) (acc : Fin 8 → Fin 1024 → ℝ)
    (hp : (outsAt0 m c (t.val - 1) (Nat.lt_of_le_of_lt (Nat.sub_le _ _) t.isLt)).2.1 = E2 acc) :
    (outsAt0 m c t.val t.isLt).2.1 = E2 fun s d => acc s d + B.gpostPart s d := by
  rw [outsAt0_B m c t h]
  frame_out
  rw [H.h0, H.h1, hp]
  exact pay10 B acc

/-- The gain's and the offset's accumulators after a block, from the normalised row's cotangent read back. -/
theorem lng_block {X : Vec Ideal S256x2048 .f32} (hX : X = E2 B.dvln) {Z : Vec Ideal S8x2048 .f32} {acc : Fin 8 → Fin 2048 → ℝ}
    (hZ : Z = E2 acc) : k0_pay151 (F := Ideal) (kHat B) X Z = E2 fun s e => acc s e + B.lngPart s e := by
  rw [hX, hZ]; exact pay151 B acc
theorem lnb_block {X : Vec Ideal S256x2048 .f32} (hX : X = E2 B.dvln) {Z : Vec Ideal S8x2048 .f32} {acc : Fin 8 → Fin 2048 → ℝ}
    (hZ : Z = E2 acc) : k0_pay152 (F := Ideal) X Z = E2 fun s e => acc s e + B.lnbPart s e := by
  rw [hX, hZ]; exact pay152 B acc

set_option maxHeartbeats 4000000 in
theorem out15_first (H : HoldsBlk m c t B) (h : t.val % 64 = 0) :
    (outsAt0 m c t.val t.isLt).2.2.2.2.2.1 = E2 fun s e => 0 + B.lngPart s e := by
  rw [outsAt0_A m c t h]
  frame_out [readCov_whole]
  simp only [H.h0, H.h1, H.h2, H.h3, H.h4, H.h5, H.h6, H.h7, H.h8, H.h9]
  refine (lng_block (B := B) (readBack _ _ _ ?_ _) zeros5).trans rfl
  funext y
  canon_tiles x h
  all_goals exact (dvln_piece B (pay12 B) (pay22 B) (fun g t s => B.ws g s t) (fun _ _ _ => rfl) _ _ _ (by decide) (by decide) (by decide) (by decide)
    _ _ _ _ _ _ x y (by omega) (by omega)).trans rfl

set_option maxHeartbeats 4000000 in
theorem out15_next (H : HoldsBlk m c t B) (h : ¬t.val % 64 = 0) (acc : Fin 8 → Fin 2048 → ℝ)
    (hp : (outsAt0 m c (t.val - 1) (Nat.lt_of_le_of_lt (Nat.sub_le _ _) t.isLt)).2.2.2.2.2.1 = E2 acc) :
    (outsAt0 m c t.val t.isLt).2.2.2.2.2.1 = E2 fun s e => acc s e + B.lngPart s e := by
  rw [outsAt0_B m c t h]
  frame_out [readCov_whole]
  simp only [H.h0, H.h1, H.h2, H.h3, H.h4, H.h5, H.h6, H.h7, H.h8, H.h9, hp]
  refine (lng_block (B := B) (readBack _ _ _ ?_ _) (acc := acc) rfl).trans rfl
  funext y
  canon_tiles x h
  all_goals exact (dvln_piece B (pay12 B) (pay22 B) (fun g t s => B.ws g s t) (fun _ _ _ => rfl) _ _ _ (by decide) (by decide) (by decide) (by decide)
    _ _ _ _ _ _ x y (by omega) (by omega)).trans rfl

set_option maxHeartbeats 4000000 in
theorem out16_first (H : HoldsBlk m c t B) (h : t.val % 64 = 0) :
    (outsAt0 m c t.val t.isLt).2.2.2.2.2.2 = E2 fun s e => 0 + B.lnbPart s e := by
  rw [outsAt0_A m c t h]
  frame_out [readCov_whole]
  simp only [H.h0, H.h1, H.h2, H.h3, H.h4, H.h5, H.h6, H.h7, H.h8, H.h9]
  refine (lnb_block (B := B) (readBack _ _ _ ?_ _) zeros6).trans rfl
  funext y
  canon_tiles x h
  all_goals exact (dvln_piece B (pay12 B) (pay22 B) (fun g t s => B.ws g s t) (fun _ _ _ => rfl) _ _ _ (by decide) (by decide) (by decide) (by decide)
    _ _ _ _ _ _ x y (by omega) (by omega)).trans rfl

set_option maxHeartbeats 4000000 in
theorem out16_next (H : HoldsBlk m c t B) (h : ¬t.val % 64 = 0) (acc : Fin 8 → Fin 2048 → ℝ)
    (hp : (outsAt0 m c (t.val - 1) (Nat.lt_of_le_of_lt (Nat.sub_le _ _) t.isLt)).2.2.2.2.2.2 = E2 acc) :
    (outsAt0 m c t.val t.isLt).2.2.2.2.2.2 = E2 fun s e => acc s e + B.lnbPart s e := by
  rw [outsAt0_B m c t h]
  frame_out [readCov_whole]
  simp only [H.h0, H.h1, H.h2, H.h3, H.h4, H.h5, H.h6, H.h7, H.h8, H.h9, hp]
  refine (lnb_block (B := B) (readBack _ _ _ ?_ _) (acc := acc) rfl).trans rfl
  funext y
  canon_tiles x h
  all_goals exact (dvln_piece B (pay12 B) (pay22 B) (fun g t s => B.ws g s t) (fun _ _ _ => rfl) _ _ _ (by decide) (by decide) (by decide) (by decide)
    _ _ _ _ _ _ x y (by omega) (by omega)).trans rfl

variable {Bs : Fin cfg0.N → Part 256}

/-- The block numbers up to `n`. -/
def upto {n : ℕ} (h : n < cfg0.N) (j : Fin (n + 1)) : Fin cfg0.N := ⟨j.val, Nat.lt_of_le_of_lt (Nat.le_of_lt_succ j.isLt) h⟩

theorem out11 (H : ∀ t, HoldsBlk m c t (Bs t)) (n : ℕ) (h : n < cfg0.N) :
    (outsAt0 m c n h).2.1 = E2 fun s d => ∑ j : Fin (n + 1), (Bs (upto h j)).gpostPart s d := by
  have hN : cfg0.N = 64 := by decide +kernel
  induction n with
  | zero =>
    refine (out11_first (H ⟨0, h⟩) rfl).trans (congrArg E2 (funext fun s => funext fun d => ?_))
    rw [zero_add, Fin.sum_univ_one]
    rfl
  | succ n ih =>
    refine (out11_next (H ⟨n + 1, h⟩) (show ¬(n + 1) % 64 = 0 by omega) _ (ih _)).trans (congrArg E2 (funext fun s => funext fun d => ?_))
    exact (Fin.sum_univ_castSucc fun j : Fin (n + 1 + 1) => (Bs (upto h j)).gpostPart s d).symm

theorem out15 (H : ∀ t, HoldsBlk m c t (Bs t)) (n : ℕ) (h : n < cfg0.N) :
    (outsAt0 m c n h).2.2.2.2.2.1 = E2 fun s e => ∑ j : Fin (n + 1), (Bs (upto h j)).lngPart s e := by
  have hN : cfg0.N = 64 := by decide +kernel
  induction n with
  | zero =>
    refine (out15_first (H ⟨0, h⟩) rfl).trans (congrArg E2 (funext fun s => funext fun d => ?_))
    rw [zero_add, Fin.sum_univ_one]
    rfl
  | succ n ih =>
    refine (out15_next (H ⟨n + 1, h⟩) (show ¬(n + 1) % 64 = 0 by omega) _ (ih _)).trans (congrArg E2 (funext fun s => funext fun d => ?_))
    exact (Fin.sum_univ_castSucc fun j : Fin (n + 1 + 1) => (Bs (upto h j)).lngPart s d).symm

theorem out16 (H : ∀ t, HoldsBlk m c t (Bs t)) (n : ℕ) (h : n < cfg0.N) :
    (outsAt0 m c n h).2.2.2.2.2.2 = E2 fun s e => ∑ j : Fin (n + 1), (Bs (upto h j)).lnbPart s e := by
  have hN : cfg0.N = 64 := by decide +kernel
  induction n with
  | zero =>
    refine (out16_first (H ⟨0, h⟩) rfl).trans (congrArg E2 (funext fun s => funext fun d => ?_))
    rw [zero_add, Fin.sum_univ_one]
    rfl
  | succ n ih =>
    refine (out16_next (H ⟨n + 1, h⟩) (show ¬(n + 1) % 64 = 0 by omega) _ (ih _)).trans (congrArg E2 (funext fun s => funext fun d => ?_))
    exact (Fin.sum_univ_castSucc fun j : Fin (n + 1 + 1) => (Bs (upto h j)).lnbPart s d).symm

end Sgu

end
-- ==== Proof.Sgu.AccMix.lean ====
/- The mixing weights' and the mixing bias's gradients, accumulated over the grid: each point adds its two chunks' parts. -/
module

public import proofs.«01_k».proof.Proof.Sgu.Acc

@[expose] public section

set_option maxRecDepth 16384

noncomputable section

open Idealize.ShloMosaic Idealize.ShloMosaic.Tactic Cert.Kernel5Ideal Cert.Kernel5Ideal.Gen Ffn

namespace Sgu

/-- The rows of a block's two chunks. -/
abbrev row0 : Fin 128 → Fin 256 := row 0 (by decide)
abbrev row1 : Fin 128 → Fin 256 := row 128 (by decide)

theorem zeros4 : k0_pay4 (F := Ideal) = E2 (a := 128) (b := 2048) fun _ _ => 0 := by
  simp only [k0_pay4]
  exact E2_broadcast Ideal.ofBits_zero_f32
theorem zeros3 : k0_pay3 (F := Ideal) = E3 (a := 8) (b := 128) (c := 128) fun _ _ _ => 0 := by
  simp only [k0_pay3]
  funext i
  exact Ideal.ofBits_zero_f32

variable {m : (ℓ : Loc nD τ Cert.Kernel5Ideal.sig) → Buf (Elt Ideal) ℓ} {c : Dev nD} {t : Fin cfg0.N} {B : Part 256}

set_option maxHeartbeats 800000 in
theorem out14_next (H : HoldsBlk m c t B) (h : ¬t.val % 64 = 0) (acc : Fin 128 → Fin 2048 → ℝ)
    (hp : (outsAt0 m c (t.val - 1) (Nat.lt_of_le_of_lt (Nat.sub_le _ _) t.isLt)).2.2.2.2.1 = E2 acc) :
    (outsAt0 m c t.val t.isLt).2.2.2.2.1 = E2 fun q e => acc q e + B.dmx (row0 q) e + B.dmx (row1 q) e := by
  rw [outsAt0_B m c t h]
  frame_out [readCov_whole]
  simp only [H.h0, H.h1, H.h2, H.h3, H.h4, H.h5, H.h6, H.h7, H.h8, H.h9, hp]
  funext y
  rw [canon_eight _ _ _ _ _ _ _ _ _ _ (View.cover_of_tiledL _ ![128, 256] (by sl_kernel_rfl) y)]
  canon_tiles x h
  all_goals
    refine (db_last B (pay12 B) (pay22 B) acc _ (by decide) _ _ _ ?_ x y (by omega) (by omega)).trans rfl
    iterate 7 refine (readCov_skip _ _ _ _ _ _ _ _ _ 1 (by decide)).trans ?_
    refine (readCov_hit _ _ _ _ _ _ _).trans ?_
    exact (db_first B (pay12 B) (pay22 B) acc _ (by decide) _ _ _ (db_acc acc rfl _ (by decide) _)).trans rfl

set_option maxHeartbeats 800000 in
theorem out14_first (H : HoldsBlk m c t B) (h : t.val % 64 = 0) :
    (outsAt0 m c t.val t.isLt).2.2.2.2.1 = E2 fun q e => 0 + B.dmx (row0 q) e + B.dmx (row1 q) e := by
  rw [outsAt0_A m c t h]
  frame_out [readCov_whole]
  simp only [H.h0, H.h1, H.h2, H.h3, H.h4, H.h5, H.h6, H.h7, H.h8, H.h9]
  funext y
  rw [canon_eight _ _ _ _ _ _ _ _ _ _ (View.cover_of_tiledL _ ![128, 256] (by sl_kernel_rfl) y)]
  canon_tiles x h
  all_goals
    refine (db_last B (pay12 B) (pay22 B) (fun _ _ => 0) _ (by decide) _ _ _ ?_ x y (by omega) (by omega)).trans rfl
    iterate 7 refine (readCov_skip _ _ _ _ _ _ _ _ _ 1 (by decide)).trans ?_
    refine (readCov_hit _ _ _ _ _ _ _).trans ?_
    refine (db_first B (pay12 B) (pay22 B) (fun _ _ => 0) _ (by decide) _ _ _ ?_).trans rfl
    repeat refine (readCov_skip _ _ _ _ _ _ _ _ _ 1 (by decide)).trans ?_
    first
      | exact db_acc (fun _ _ => 0) zeros4 _ (by decide) _
      | exact (readCov_whole _ _ _ _ _).trans (db_acc (fun _ _ => 0) zeros4 _ (by decide) _)

set_option maxHeartbeats 800000 in
theorem out13_next (H : HoldsBlk m c t B) (h : ¬t.val % 64 = 0) (acc : Fin 8 → Fin 128 → Fin 128 → ℝ)
    (hp : (outsAt0 m c (t.val - 1) (Nat.lt_of_le_of_lt (Nat.sub_le _ _) t.isLt)).2.2.2.1 = E3 acc) :
    (outsAt0 m c t.val t.isLt).2.2.2.1 = E3 fun g t s => acc g t s + B.dwsAt row0 g t s + B.dwsAt row1 g t s := by
  rw [outsAt0_B m c t h]
  frame_out [readCov_whole]
  simp only [H.h0, H.h1, H.h2, H.h3, H.h4, H.h5, H.h6, H.h7, H.h8, H.h9, hp]
  funext y
  rw [canon_eight _ _ _ _ _ _ _ _ _ _ (View.cover_of_tiledL _ ![1, 128, 128] (by sl_kernel_rfl) y)]
  canon_tiles x h
  all_goals
    refine (dws_last B (pay12 B) (pay22 B) (pay29 B) acc _ (by decide) _ _ _ _ _ _ ?_ x y (by omega) (by omega) (by omega)).trans rfl
    iterate 7 refine (readCov_skip _ _ _ _ _ _ _ _ _ 0 (by decide)).trans ?_
    refine (readCov_hit _ _ _ _ _ _ _).trans ?_
    refine (dws_first B (pay12 B) (pay22 B) (pay29 B) acc _ (by decide) _ _ _ _ _ _ ?_).trans rfl
    exact dws_acc acc rfl _ _ _ (by decide) _

set_option maxHeartbeats 800000 in
theorem out13_first (H : HoldsBlk m c t B) (h : t.val % 64 = 0) :
    (outsAt0 m c t.val t.isLt).2.2.2.1 = E3 fun g t s => 0 + B.dwsAt row0 g t s + B.dwsAt row1 g t s := by
  rw [outsAt0_A m c t h]
  frame_out [readCov_whole]
  simp only [H.h0, H.h1, H.h2, H.h3, H.h4, H.h5, H.h6, H.h7, H.h8, H.h9]
  funext y
  rw [canon_eight _ _ _ _ _ _ _ _ _ _ (View.cover_of_tiledL _ ![1, 128, 128] (by sl_kernel_rfl) y)]
  canon_tiles x h
  all_goals
    refine (dws_last B (pay12 B) (pay22 B) (pay29 B) (fun _ _ _ => 0) _ (by decide) _ _ _ _ _ _ ?_ x y (by omega) (by omega) (by omega)).trans rfl
    iterate 7 refine (readCov_skip _ _ _ _ _ _ _ _ _ 0 (by decide)).trans ?_
    refine (readCov_hit _ _ _ _ _ _ _).trans ?_
    refine (dws_first B (pay12 B) (pay22 B) (pay29 B) (fun _ _ _ => 0) _ (by decide) _ _ _ _ _ _ ?_).trans rfl
    repeat refine (readCov_skip _ _ _ _ _ _ _ _ _ 0 (by decide)).trans ?_
    first
      | exact dws_zero zeros3 _ _
      | exact (readCov_whole _ _ _ _ _).trans (dws_zero zeros3 _ _)

variable {Bs : Fin cfg0.N → Part 256}

theorem out13 (H : ∀ t, HoldsBlk m c t (Bs t)) (n : ℕ) (h : n < cfg0.N) :
    (outsAt0 m c n h).2.2.2.1 = E3 fun g t s => ∑ j : Fin (n + 1), ((Bs (upto h j)).dwsAt row0 g t s + (Bs (upto h j)).dwsAt row1 g t s) := by
  have hN : cfg0.N = 64 := by decide +kernel
  induction n with
  | zero =>
    refine (out13_first (H ⟨0, h⟩) rfl).trans (congrArg E3 (funext fun g => funext fun t => funext fun s => ?_))
    rw [zero_add, Fin.sum_univ_one]
    rfl
  | succ n ih =>
    refine (out13_next (H ⟨n + 1, h⟩) (show ¬(n + 1) % 64 = 0 by omega) _ (ih _)).trans
      (congrArg E3 (funext fun g => funext fun t => funext fun s => ?_))
    rw [add_assoc]
    exact (Fin.sum_univ_castSucc fun j : Fin (n + 1 + 1) => (Bs (upto h j)).dwsAt row0 g t s + (Bs (upto h j)).dwsAt row1 g t s).symm

theorem out14 (H : ∀ t, HoldsBlk m c t (Bs t)) (n : ℕ) (h : n < cfg0.N) :
    (outsAt0 m c n h).2.2.2.2.1 = E2 fun q e => ∑ j : Fin (n + 1), ((Bs (upto h j)).dmx (row0 q) e + (Bs (upto h j)).dmx (row1 q) e) := by
  have hN : cfg0.N = 64 := by decide +kernel
  induction n with
  | zero =>
    refine (out14_first (H ⟨0, h⟩) rfl).trans (congrArg E2 (funext fun q => funext fun e => ?_))
    rw [zero_add, Fin.sum_univ_one]
    rfl
  | succ n ih =>
    refine (out14_next (H ⟨n + 1, h⟩) (show ¬(n + 1) % 64 = 0 by omega) _ (ih _)).trans (congrArg E2 (funext fun q => funext fun e => ?_))
    rw [add_assoc]
    exact (Fin.sum_univ_castSucc fun j : Fin (n + 1 + 1) => (Bs (upto h j)).dmx (row0 q) e + (Bs (upto h j)).dmx (row1 q) e).symm

end Sgu

end
-- ==== Proof.Sgu.Arrays.lean ====
/- The arrays the region leaves: every grid point's input blocks hold two chunks' rows of the real arrays, and the output arrays are
   the gating unit's gradients. -/
module

public import proofs.«01_k».proof.Proof.Sgu.Entry
public import proofs.«01_k».proof.Proof.Sgu.AccMix
public import proofs.«01_k».proof.Proof.Ffn.Acc
public import Idealize.ShloMosaic.Lib.Pipeline.ValueKit.Geometry

@[expose] public section

set_option maxRecDepth 16384

noncomputable section

open Idealize.ShloMosaic Idealize.ShloMosaic.Tactic Cert.Kernel5Ideal Cert.Kernel5Ideal.Gen Ffn

namespace Sgu

theorem points : cfg0.N = 64 := by decide +kernel

/-- Token `q` of block `t`. -/
def tok (t : Fin cfg0.N) (q : Fin 256) : Fin 16384 := ⟨t.val * 256 + q.val, by have := lt_of_lt_of_eq t.isLt points; omega⟩

/-- The real numbers in the blocks of grid point `t`. -/
def Args.blk (A : Args) (t : Fin cfg0.N) : Part 256 where
  hn := rfl
  z q := A.z (tok t q)
  lng := A.lng
  lnb := A.lnb
  ws := A.ws
  bias t e := A.bsp (grp e) t
  wo := A.wo
  gpost := A.gpost
  ct q := A.ct (tok t q)
  m q := A.o (tok t q)

/-! ### A block's values are the whole's -/

section parts
variable (A : Args) (t : Fin cfg0.N)

theorem tok_mate (q : Fin 256) (s : Fin 128) : tok t ((A.blk t).mate q s) = A.all.mate (tok t q) s :=
  Fin.ext (show t.val * 256 + (q.val - q.val % 128 + s.val) = t.val * 256 + q.val - (t.val * 256 + q.val) % 128 + s.val by omega)

theorem tok_pos (q : Fin 256) : pos (tok t q) = pos q := Fin.ext (show (t.val * 256 + q.val) % 128 = q.val % 128 by omega)

theorem blk_dmx (q : Fin 256) (e : Fin 2048) : (A.blk t).dmx q e = A.all.dmx (tok t q) e := rfl

theorem blk_mixed (q : Fin 256) (e : Fin 2048) : (A.blk t).mixed q e = A.all.mixed (tok t q) e := by
  have h : ∀ s, (A.blk t).vln ((A.blk t).mate q s) e = A.all.vln (A.all.mate (tok t q) s) e := fun s =>
    congrArg (fun p => A.all.vln p e) (tok_mate A t q s)
  show ∑ s, A.ws (grp e) (pos q) s * (A.blk t).vln ((A.blk t).mate q s) e + A.bsp (grp e) (pos q)
    = ∑ s, A.ws (grp e) (pos (tok t q)) s * A.all.vln (A.all.mate (tok t q) s) e + A.bsp (grp e) (pos (tok t q))
  rw [tok_pos]
  simp only [h]

theorem blk_dvln (q : Fin 256) (e : Fin 2048) : (A.blk t).dvln q e = A.all.dvln (tok t q) e := by
  have h : ∀ s, (A.blk t).dmx ((A.blk t).mate q s) e = A.all.dmx (A.all.mate (tok t q) s) e := fun s =>
    congrArg (fun p => A.all.dmx p e) (tok_mate A t q s)
  show ∑ s, A.ws (grp e) s (pos q) * (A.blk t).dmx ((A.blk t).mate q s) e
    = ∑ s, A.ws (grp e) s (pos (tok t q)) * A.all.dmx (A.all.mate (tok t q) s) e
  rw [tok_pos]
  simp only [h]

theorem blk_dv (q : Fin 256) (e : Fin 2048) : (A.blk t).dv q e = A.all.dv (tok t q) e := by
  show lnGrad (A.all.v (tok t q)) (fun e => (A.blk t).dvln q e * A.lng e) e = lnGrad (A.all.v (tok t q)) (fun e => A.all.dvln (tok t q) e * A.lng e) e
  simp only [blk_dvln]

theorem blk_dz (q : Fin 256) (k : Fin 4096) : (A.blk t).dz q k = A.all.dz (tok t q) k := by
  unfold Part.dz
  split
  · exact congrArg (fun r : ℝ => A.all.dgt (tok t q) _ * r * geluGrad (A.z (tok t q) k)) (blk_mixed A t q _)
  · exact congrArg (fun r : ℝ => r * geluGrad (A.z (tok t q) k)) (blk_dv A t q _)

theorem blk_dlng (q : Fin 256) (e : Fin 2048) : (A.blk t).dlngAt q e = A.all.dlngAt (tok t q) e :=
  congrArg (fun r : ℝ => r * hat (A.all.v (tok t q)) e) (blk_dvln A t q e)

/-- The block's first chunk is the whole's chunk `2t`, its second the chunk `2t + 1`. -/
theorem blk_dws0 (g : Fin 8) (p s : Fin 128) (h : t.val * 2 < 128) :
    (A.blk t).dwsAt row0 g p s = A.all.dwsAt (ctok ⟨t.val * 2, h⟩) g p s := by
  have e : ∀ q : Fin 128, tok t (row0 q) = ctok ⟨t.val * 2, h⟩ q := fun q =>
    Fin.ext (show t.val * 256 + (0 + q.val) = t.val * 2 * 128 + q.val by omega)
  show ∑ d, A.all.dmx (tok t (row0 p)) (chan g d) * A.all.vln (tok t (row0 s)) (chan g d) = _
  rw [e, e]; rfl

theorem blk_dws1 (g : Fin 8) (p s : Fin 128) (h : t.val * 2 + 1 < 128) :
    (A.blk t).dwsAt row1 g p s = A.all.dwsAt (ctok ⟨t.val * 2 + 1, h⟩) g p s := by
  have e : ∀ q : Fin 128, tok t (row1 q) = ctok ⟨t.val * 2 + 1, h⟩ q := fun q =>
    Fin.ext (show t.val * 256 + (128 + q.val) = (t.val * 2 + 1) * 128 + q.val by omega)
  show ∑ d, A.all.dmx (tok t (row1 p)) (chan g d) * A.all.vln (tok t (row1 s)) (chan g d) = _
  rw [e, e]; rfl

theorem blk_dmx0 (q : Fin 128) (e : Fin 2048) (h : t.val * 2 < 128) :
    (A.blk t).dmx (row0 q) e = A.all.dmx (ctok ⟨t.val * 2, h⟩ q) e :=
  congrArg (fun p => A.all.dmx p e) (Fin.ext (show t.val * 256 + (0 + q.val) = t.val * 2 * 128 + q.val by omega))

theorem blk_dmx1 (q : Fin 128) (e : Fin 2048) (h : t.val * 2 + 1 < 128) :
    (A.blk t).dmx (row1 q) e = A.all.dmx (ctok ⟨t.val * 2 + 1, h⟩ q) e :=
  congrArg (fun p => A.all.dmx p e) (Fin.ext (show t.val * 256 + (128 + q.val) = (t.val * 2 + 1) * 128 + q.val by omega))

end parts

/-! ### The windows' blocks -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0, 0] := (by decide +kernel : ∀ t : Fin grid0.N, _)
theorem at8 : ∀ t : Fin cfg0.N, win0_8.index t = ![0, 0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![t.val, 0] := (by decide +kernel : ∀ t : Fin grid0.N, _)
theorem at12 : ∀ t : Fin cfg0.N, win0_12.index t = ![t.val, 0] := (by decide +kernel : ∀ t : Fin grid0.N, _)

/-- Two reads of one real array at equal coordinates. -/
theorem E2_at {a b a' b' : ℕ} (r : Fin a → Fin b → ℝ) (r' : Fin a' → Fin b' → ℝ) (i : (⟨2, ![a, b]⟩ : Shape).Idx) (i' : (⟨2, ![a', b']⟩ : Shape).Idx)
    (h : r (i 0) (i 1) = r' (i' 0) (i' 1)) : (E2 r : FVec Ideal ⟨2, ![a, b]⟩ .f32) i = (E2 r' : FVec Ideal ⟨2, ![a', b']⟩ .f32) i' :=
  congrArg _ h
theorem E3_at {a b c : ℕ} (r : Fin a → Fin b → Fin c → ℝ) (i i' : (⟨3, ![a, b, c]⟩ : Shape).Idx)
    (h0 : (i 0).val = (i' 0).val) (h1 : (i 1).val = (i' 1).val) (h2 : (i 2).val = (i' 2).val) :
    (E3 r : FVec Ideal ⟨3, ![a, b, c]⟩ .f32) i = (E3 r : FVec Ideal ⟨3, ![a, b, c]⟩ .f32) i' := by
  show ((r (i 0) (i 1) (i 2) : ℝ) : EReal) = ((r (i' 0) (i' 1) (i' 2) : ℝ) : EReal)
  rw [show i 0 = i' 0 from Fin.ext h0, show i 1 = i' 1 from Fin.ext h1, show i 2 = i' 2 from Fin.ext h2]

variable {m : (ℓ : Loc nD τ Cert.Kernel5Ideal.sig) → Buf (Elt Ideal) ℓ} {c : Dev nD} {A : Args} (H : HoldsArgs m c A)
include H

set_option maxHeartbeats 2000000 in
theorem holds (t : Fin cfg0.N) : HoldsBlk m c t (A.blk t) where
  h0 := by
    funext y
    blk_simp [iblk]
    rw [V_ct H]
    refine E2_at _ _ _ _ (congrArg₂ A.ct (Fin.ext ?_) (Fin.ext ?_)) <;> blk_simp [at0]
    rfl
  h1 := by
    funext y
    blk_simp [iblk]
    rw [V_m H]
    refine E2_at _ _ _ _ (congrArg₂ A.o (Fin.ext ?_) (Fin.ext ?_)) <;> blk_simp [at1]
    rfl
  h2 := by
    funext y
    blk_simp [iblk]
    rw [V_gpost H]
    refine E2_at _ _ _ _ (congrArg A.gpost (Fin.ext ?_)) <;> blk_simp [at2]
  h3 := by
    funext y
    blk_simp [iblk]
    rw [V_wo H]
    refine E2_at _ _ _ _ (congrArg₂ A.wo (Fin.ext ?_) (Fin.ext ?_)) <;> blk_simp [at3]
  h4 := by
    funext y
    blk_simp [iblk]
    rw [V_z H]
    refine E2_at _ _ _ _ (congrArg₂ A.z (Fin.ext ?_) (Fin.ext ?_)) <;> blk_simp [at4]
    rfl
  h5 := by
    funext y
    blk_simp [iblk]
    rw [V_lng H]
    refine E2_at _ _ _ _ (congrArg A.lng (Fin.ext ?_)) <;> blk_simp [at5]
  h6 := by
    funext y
    blk_simp [iblk]
    rw [V_lnb H]
    refine E2_at _ _ _ _ (congrArg A.lnb (Fin.ext ?_)) <;> blk_simp [at6]
  h7 := by
    funext y
    blk_simp [iblk]
    rw [V_ws H]
    refine E3_at _ _ _ ?_ ?_ ?_ <;> blk_simp [at7]
  h8 := by
    funext y
    blk_simp [iblk]
    rw [V_wst H]
    refine E3_at _ _ _ ?_ ?_ ?_ <;> blk_simp [at8]
  h9 := by
    funext y
    blk_simp [iblk]
    rw [V_bias H]
    refine E2_at _ _ _ _ (congrArg₂ (fun t e => A.bsp (grp e) t) (Fin.ext ?_) (Fin.ext ?_)) <;> blk_simp [at9]

theorem arr10 : (dats m 0 c).arrAt 10 cfg0.N = (E2 A.all.dm : FVec Ideal S16384x1024 .bf16) := by
  refine (dats m 0 c).arrAt_eq_of_covers 10 _ (by decide +kernel) fun t hf y => ?_
  blk_simp
  rw [after0_10, out10 (holds H t)]
  refine E2_at _ _ _ _ (congrArg₂ A.all.dm (Fin.ext ?_) (Fin.ext ?_)) <;> blk_simp [at10]
  rfl

theorem arr12 : (dats m 0 c).arrAt 12 cfg0.N = (E2 A.all.dz : FVec Ideal S16384x4096 .bf16) := by
  refine (dats m 0 c).arrAt_eq_of_covers 12 _ (by decide +kernel) fun t hf y => ?_
  blk_simp
  rw [after0_12, out12 (holds H t)]
  refine E2_at _ _ _ _ (Eq.trans (blk_dz A t _ _) (congrArg₂ A.all.dz (Fin.ext ?_) (Fin.ext ?_))) <;> blk_simp [at12]
  rfl

/-- The last grid point. -/
def lastPoint : Fin cfg0.N := ⟨63, by rw [points]; decide⟩

theorem arr11 : (dats m 0 c).arrAt 11 cfg0.N
    = (E2 fun s d => ∑ j : Fin 64, (A.blk (upto lastPoint.isLt j)).gpostPart s d : FVec Ideal S8x1024 .f32) := by
  refine (dats m 0 c).arrAt_eq_of_after_last 11 lastPoint (by decide +kernel) _ fun j => ?_
  blk_simp
  rw [after0_11, out11 (fun t => holds H t)]
  rfl

theorem arr13 : (dats m 0 c).arrAt 13 cfg0.N
    = (E3 fun g t s => ∑ j : Fin 64, ((A.blk (upto lastPoint.isLt j)).dwsAt row0 g t s + (A.blk (upto lastPoint.isLt j)).dwsAt row1 g t s)
        : FVec Ideal S8x128x128 .f32) := by
  refine (dats m 0 c).arrAt_eq_of_after_last 13 lastPoint (by decide +kernel) _ fun j => ?_
  blk_simp
  rw [after0_13, out13 (fun t => holds H t)]
  rfl

theorem arr14 : (dats m 0 c).arrAt 14 cfg0.N
    = (E2 fun q e => ∑ j : Fin 64, ((A.blk (upto lastPoint.isLt j)).dmx (row0 q) e + (A.blk (upto lastPoint.isLt j)).dmx (row1 q) e)
        : FVec Ideal S128x2048 .f32) := by
  refine (dats m 0 c).arrAt_eq_of_after_last 14 lastPoint (by decide +kernel) _ fun j => ?_
  blk_simp
  rw [after0_14, out14 (fun t => holds H t)]
  rfl

theorem arr15 : (dats m 0 c).arrAt 15 cfg0.N
    = (E2 fun s e => ∑ j : Fin 64, (A.blk (upto lastPoint.isLt j)).lngPart s e : FVec Ideal S8x2048 .f32) := by
  refine (dats m 0 c).arrAt_eq_of_after_last 15 lastPoint (by decide +kernel) _ fun j => ?_
  blk_simp
  rw [after0_15, out15 (fun t => holds H t)]
  rfl

theorem arr16 : (dats m 0 c).arrAt 16 cfg0.N
    = (E2 fun s e => ∑ j : Fin 64, (A.blk (upto lastPoint.isLt j)).lnbPart s e : FVec Ideal S8x2048 .f32) := by
  refine (dats m 0 c).arrAt_eq_of_after_last 16 lastPoint (by decide +kernel) _ fun j => ?_
  blk_simp
  rw [after0_16, out16 (fun t => holds H t)]
  rfl

omit H

/-! ### The points' parts, summed -/

theorem sum_gpost (d : Fin 1024) : ∑ s : Fin 8, ∑ j : Fin 64, (A.blk (upto lastPoint.isLt j)).gpostPart s d = A.dgpost d :=
  sum_tokens (fun p => A.all.dgpostAt p d) fun s j k => by omega

theorem sum_lng (e : Fin 2048) : ∑ s : Fin 8, ∑ j : Fin 64, (A.blk (upto lastPoint.isLt j)).lngPart s e = A.dlng e := by
  refine Eq.trans ?_ (sum_tokens (fun p => A.all.dlngAt p e) fun s j k => by omega)
  exact Finset.sum_congr rfl fun s _ => Finset.sum_congr rfl fun j _ => Finset.sum_congr rfl fun k _ => blk_dlng A _ _ e

theorem sum_lnb (e : Fin 2048) : ∑ s : Fin 8, ∑ j : Fin 64, (A.blk (upto lastPoint.isLt j)).lnbPart s e = A.dlnb e := by
  refine Eq.trans ?_ (sum_tokens (fun p => A.all.dvln p e) fun s j k => by omega)
  exact Finset.sum_congr rfl fun s _ => Finset.sum_congr rfl fun j _ => Finset.sum_congr rfl fun k _ => blk_dvln A _ _ e

/-- Two chunks at each of 64 points are all the chunks. -/
theorem sum_chunks (f : Fin 128 → ℝ) (h0 : ∀ j : Fin 64, j.val * 2 < 128) (h1 : ∀ j : Fin 64, j.val * 2 + 1 < 128) :
    ∑ j : Fin 64, (f ⟨j.val * 2, h0 j⟩ + f ⟨j.val * 2 + 1, h1 j⟩) = ∑ j, f j := by
  refine Eq.trans ?_ (Fin.sum_mul_add_fin 64 2 f)
  exact Finset.sum_congr rfl fun j _ => (Fin.sum_univ_two fun k : Fin 2 => f ⟨j.val * 2 + k.val, by omega⟩).symm

theorem sum_dws (g : Fin 8) (t s : Fin 128) :
    ∑ j : Fin 64, ((A.blk (upto lastPoint.isLt j)).dwsAt row0 g t s + (A.blk (upto lastPoint.isLt j)).dwsAt row1 g t s)
      = ∑ j, A.all.dwsAt (ctok j) g t s := by
  refine Eq.trans ?_ (sum_chunks (fun j => A.all.dwsAt (ctok j) g t s) (fun j => by omega) fun j => by omega)
  exact Finset.sum_congr rfl fun j _ => congrArg₂ (· + ·) (blk_dws0 A _ g t s _) (blk_dws1 A _ g t s _)

theorem sum_dmx (q : Fin 128) (e : Fin 2048) :
    ∑ j : Fin 64, ((A.blk (upto lastPoint.isLt j)).dmx (row0 q) e + (A.blk (upto lastPoint.isLt j)).dmx (row1 q) e)
      = ∑ j, A.all.dmx (ctok j q) e := by
  refine Eq.trans ?_ (sum_chunks (fun j => A.all.dmx (ctok j q) e) (fun j => by omega) fun j => by omega)
  exact Finset.sum_congr rfl fun j _ => congrArg₂ (· + ·) (blk_dmx0 A _ q e _) (blk_dmx1 A _ q e _)

end Sgu

end
-- ==== Proof.Sgu.KernelRun.lean ====
/- The kernel's run: from arguments that are real numbers, its results are the gating unit's gradients. -/
module

public import proofs.«01_k».proof.Proof.Sgu.Arrays

@[expose] public section

set_option maxRecDepth 16384

noncomputable section

open Idealize.ShloMosaic Idealize.ShloMosaic.Tactic Idealize.SL.Sem Cert.Kernel5Ideal Cert.Kernel5Ideal.Gen Ffn

namespace Sgu

variable {m : (ℓ : Loc nD τ Cert.Kernel5Ideal.sig) → Buf (Elt Ideal) ℓ} {A : Dev nD → Args}

/-- The core's buffers as the region leaves them. -/
abbrev exitContents (m : (ℓ : Loc nD τ Cert.Kernel5Ideal.sig) → Buf (Elt Ideal) ℓ) (c : Dev nD) : Valuation τ Cert.Kernel5Ideal.sig (Elt Ideal) :=
  Pipeline.withArrays spec0 c (V0 m c) fun w => (dats m 0 c).arrAt w cfg0.N

/-- The host operations after the region, in order. -/
abbrev tailOps : List (HloOp τ Cert.Kernel5Ideal.sig (Elt Ideal)) := hostOps1 ++ (hostOps1_1 ++ hostOps1_2)

theorem arr_inj : Function.Injective (Pipeline.arrRef spec0) := by decide +kernel

theorem tail_eq (c : Dev nD) (b : Ref Cert.Kernel5Ideal.sig .tc) :
    Pipeline.afterTail₀ cfgs (dats m) 0 (V0 m) [hostOps1, hostOps1_1, hostOps1_2] c b
      = StableHlo.after tailOps (exitContents m c) (Proc.devRef .tc b) := by
  have h : ([hostOps1, hostOps1_1, hostOps1_2] : List (List (HloOp τ Cert.Kernel5Ideal.sig (Elt Ideal)))).flatten = tailOps := by
    simp only [List.flatten_cons, List.flatten_nil, List.append_nil]
  show StableHlo.after ([hostOps1, hostOps1_1, hostOps1_2] : List (List (HloOp τ Cert.Kernel5Ideal.sig (Elt Ideal)))).flatten _ _ = _
  rw [h]

section exits
variable (c : Dev nD) (H : HoldsArgs m c (A c))

theorem exit_mask : exitContents m c (Proc.devRef .tc main_v1) = V m c main_v1 :=
  Pipeline.withArrays_of_ne spec0 c (V0 m c) (fun w => (dats m 0 c).arrAt w cfg0.N) main_v1 (by decide +kernel)

include H

theorem exit_v66_1 : (exitContents m c (Proc.devRef .tc main_v66_1) : FVec Ideal S8x1024 .f32)
    = E2 fun s d => ∑ j : Fin 64, ((A c).blk (upto lastPoint.isLt j)).gpostPart s d :=
  (Pipeline.withArrays_arr spec0 arr_inj c (V0 m c) (fun w => (dats m 0 c).arrAt w cfg0.N) 11).trans (arr11 H)

theorem exit_v66_3 : (exitContents m c (Proc.devRef .tc main_v66_3) : FVec Ideal S8x128x128 .f32)
    = E3 fun g t s => ∑ j, (A c).all.dwsAt (ctok j) g t s :=
  ((Pipeline.withArrays_arr spec0 arr_inj c (V0 m c) (fun w => (dats m 0 c).arrAt w cfg0.N) 13).trans (arr13 H)).trans
    (congrArg E3 (funext fun g => funext fun t => funext fun s => sum_dws g t s))

theorem exit_v66_4 : (exitContents m c (Proc.devRef .tc main_v66_4) : FVec Ideal S128x2048 .f32)
    = E2 fun q e => ∑ j, (A c).all.dmx (ctok j q) e :=
  ((Pipeline.withArrays_arr spec0 arr_inj c (V0 m c) (fun w => (dats m 0 c).arrAt w cfg0.N) 14).trans (arr14 H)).trans
    (congrArg E2 (funext fun q => funext fun e => sum_dmx q e))

theorem exit_v66_5 : (exitContents m c (Proc.devRef .tc main_v66_5) : FVec Ideal S8x2048 .f32)
    = E2 fun s e => ∑ j : Fin 64, ((A c).blk (upto lastPoint.isLt j)).lngPart s e :=
  (Pipeline.withArrays_arr spec0 arr_inj c (V0 m c) (fun w => (dats m 0 c).arrAt w cfg0.N) 15).trans (arr15 H)

theorem exit_v66_6 : (exitContents m c (Proc.devRef .tc main_v66_6) : FVec Ideal S8x2048 .f32)
    = E2 fun s e => ∑ j : Fin 64, ((A c).blk (upto lastPoint.isLt j)).lnbPart s e :=
  (Pipeline.withArrays_arr spec0 arr_inj c (V0 m c) (fun w => (dats m 0 c).arrAt w cfg0.N) 16).trans (arr16 H)

end exits

/-- A row's channels split into their groups. -/
theorem split_groups (r : Fin 128 → Fin 2048 → ℝ) (h : S128x2048.ShapeCasts S128x8x256) :
    (fun i => shapeCast S128x8x256 (E2 r : FVec Ideal S128x2048 .f32) h i) = E3 fun t g d => r t (chan g d) := by
  funext i
  have h0 : (i 0).val < 128 := (i 0).isLt
  have h1 : (i 1).val < 8 := (i 1).isLt
  have h2 : (i 2).val < 256 := (i 2).isLt
  refine (shapeCast_apply _ h i (ValueIdx.ix2 (i 0) (chan (i 1) (i 2))) ?_).trans rfl
  rewrite [Shape.rowMajor_val_three, Shape.rowMajor_val_two]
  show (i 0).val * 2048 + ((i 1).val * 256 + (i 2).val) = ((i 0).val * 8 + (i 1).val) * 256 + (i 2).val
  omega

/-- Each group's sum, on the host. -/
theorem groupSum (r : Fin 128 → Fin 8 → Fin 256 → ℝ) (h' : S128x8x256.ReducesTo [2] S128x8) (h : S128x8x256.Reduces [2] S128x8)
    (h0 : 0 < S_.numel) :
    Host.reduceAdd (F := Ideal) (φ := .f32) (E3 r) (constant S_ .f32 0x00000000#32) h' h0 = E2 fun t g => ∑ d, r t g d := by
  funext j
  refine (Ideal.hostReduceAdd_single h' h (E3 r) _ j).trans ?_
  refine (congrArg₂ (· + ·) Ideal.ofBits_zero_f32 (sum_coe Finset.univ fun k : Fin 256 => r (j 0) (j 1) k)).trans (zero_add _)

section tails
variable (c : Dev nD) (H : HoldsArgs m c (A c))
include H

theorem tail_v72 : (Pipeline.afterTail₀ cfgs (dats m) 0 (V0 m) [hostOps1, hostOps1_1, hostOps1_2] c main_v72 : FVec Ideal S1024 .f32)
    = E1 (A c).dgpost := by
  rw [tail_eq]
  simp only [tailOps, hostOps1, hostOps1_1, hostOps1_2, List.cons_append, List.nil_append]
  entry_read
  rw [exit_v66_1 c H]
  erw [E2_hostColSum _ reducesTo_S8x1024_S1024_d0 (by decide +kernel) h_S_]
  exact congrArg E1 (funext fun d => sum_gpost d)

theorem tail_v73 : (Pipeline.afterTail₀ cfgs (dats m) 0 (V0 m) [hostOps1, hostOps1_1, hostOps1_2] c main_v73 : FVec Ideal S2048 .f32)
    = E1 (A c).dlng := by
  rw [tail_eq]
  simp only [tailOps, hostOps1, hostOps1_1, hostOps1_2, List.cons_append, List.nil_append]
  entry_read
  rw [exit_v66_5 c H]
  erw [E2_hostColSum _ reducesTo_S8x2048_S2048_d0 (by decide +kernel) h_S_]
  exact congrArg E1 (funext fun e => sum_lng e)

theorem tail_v74 : (Pipeline.afterTail₀ cfgs (dats m) 0 (V0 m) [hostOps1, hostOps1_1, hostOps1_2] c main_v74 : FVec Ideal S2048 .f32)
    = E1 (A c).dlnb := by
  rw [tail_eq]
  simp only [tailOps, hostOps1, hostOps1_1, hostOps1_2, List.cons_append, List.nil_append]
  entry_read
  rw [exit_v66_6 c H]
  erw [E2_hostColSum _ reducesTo_S8x2048_S2048_d0 (by decide +kernel) h_S_]
  exact congrArg E1 (funext fun e => sum_lnb e)

/-- The mixing bias's gradient: each group's channels of the region's array, summed. -/
theorem tail_v71 : (Pipeline.afterTail₀ cfgs (dats m) 0 (V0 m) [hostOps1, hostOps1_1, hostOps1_2] c main_v71 : FVec Ideal S8x128 .f32)
    = E2 (A c).dbs := by
  rw [tail_eq]
  simp only [tailOps, hostOps1, hostOps1_1, hostOps1_2, List.cons_append, List.nil_append]
  entry_read
  rw [exit_v66_4 c H]
  erw [split_groups, groupSum _ reducesTo_S128x8x256_S128x8_d2 (by decide +kernel) h_S_, E2_transpose]
  exact congrArg E2 (funext fun g => funext fun t => Finset.sum_congr rfl fun d _ => rfl)

/-- The mixing weight's gradient: the region's array where a position sees an earlier one or itself, zero elsewhere. -/
theorem tail_v68 : (Pipeline.afterTail₀ cfgs (dats m) 0 (V0 m) [hostOps1, hostOps1_1, hostOps1_2] c main_v68 : FVec Ideal S8x128x128 .f32)
    = E3 (A c).dws := by
  rw [tail_eq]
  simp only [tailOps, hostOps1, hostOps1_1, hostOps1_2, List.cons_append, List.nil_append]
  entry_read
  simp only [StableHlo.TRef.ofBuf, StableHlo.TRef.toBuf, cast_cast, cast_eq]
  rw [exit_v66_3 c H, exit_mask c, V_eq]
  simp only [entryOps, hostOps0, hostOps0_1, hostOps0_2, hostOps0_3, hostOps0_4, hostOps0_5, hostOps0_6, hostOps0_7, hostOps0_8, List.cons_append, List.nil_append]
  entry_read
  simp only [StableHlo.TRef.ofBuf, StableHlo.TRef.toBuf, cast_cast, cast_eq]
  funext i
  refine (Ref.mask (i 1) (i 2) (E3 (fun g t s => ∑ j, (A c).all.dwsAt (ctok j) g t s) i) (Ideal.ofBits .f32 0x00000000#32)).trans ?_
  rw [Ideal.ofBits_zero_f32]
  by_cases hs : (i 2).val ≤ (i 1).val
  · rw [if_pos hs]; exact congrArg (fun r : ℝ => (r : EReal)) (if_pos hs).symm
  · rw [if_neg hs]; exact congrArg (fun r : ℝ => (r : EReal)) (if_neg hs).symm

end tails

theorem kernel_run (ρ : Dev nD → PrngReg) (H : ∀ c, HoldsArgs m c (A c)) :
    θ_run (defs (F := Ideal)) (onTc (τ := τ) (main (F := Ideal))) ⟨m, fun _ => 0, ρ⟩ fun r => ∀ c : Dev nD,
      r.2.mem ((c.tc : Thread nD τ).loc main_v66_0) = (E2 (A c).all.dm : FVec Ideal S16384x1024 .bf16)
      ∧ r.2.mem ((c.tc : Thread nD τ).loc main_v72) = (E1 (A c).dgpost : FVec Ideal S1024 .f32)
      ∧ r.2.mem ((c.tc : Thread nD τ).loc main_v66_2) = (E2 (A c).all.dz : FVec Ideal S16384x4096 .bf16)
      ∧ r.2.mem ((c.tc : Thread nD τ).loc main_v68) = (E3 (A c).dws : FVec Ideal S8x128x128 .f32)
      ∧ r.2.mem ((c.tc : Thread nD τ).loc main_v71) = (E2 (A c).dbs : FVec Ideal S8x128 .f32)
      ∧ r.2.mem ((c.tc : Thread nD τ).loc main_v73) = (E1 (A c).dlng : FVec Ideal S2048 .f32)
      ∧ r.2.mem ((c.tc : Thread nD τ).loc main_v74) = (E1 (A c).dlnb : FVec Ideal S2048 .f32) :=
  (θ_run _ _ _).mono (fun r h c => ⟨(h.out_eq c 10).trans (arr10 (H c)), (h.rest_eq c main_v72 (by decide +kernel)).trans (tail_v72 c (H c)),
    (h.out_eq c 12).trans (arr12 (H c)), (h.rest_eq c main_v68 (by decide +kernel)).trans (tail_v68 c (H c)),
    (h.rest_eq c main_v71 (by decide +kernel)).trans (tail_v71 c (H c)), (h.rest_eq c main_v73 (by decide +kernel)).trans (tail_v73 c (H c)),
    (h.rest_eq c main_v74 (by decide +kernel)).trans (tail_v74 c (H c))⟩) (run_main m ρ)

end Sgu

end
-- ==== Proof.Sgu.Sums.lean ====
/- The reference's sums over two axes at once, read at real entries: a sum over the first and the last of four axes, and the product
   that contracts chunks and channels together. -/
module

public import proofs.«01_k».proof.Proof.Sgu.Real
public import proofs.«01_k».proof.Proof.Gen.Reference5Ideal.Read
public import Idealize.ShloMosaic.Lib.TwoAxisContraction
public import Idealize.ShloMosaic.Lib.Pointwise.Reduce

@[expose] public section

set_option maxRecDepth 16384

noncomputable section

namespace Sgu.Ref

open Idealize.ShloMosaic Cert.Reference5Ideal Cert.Reference5Ideal.Gen Ffn

section reduce
variable {n0 n1 n2 n3 : ℕ}

abbrev S4 (n0 n1 n2 n3 : ℕ) : Shape := ⟨4, ![n0, n1, n2, n3]⟩

/-- The index with coordinates `a b c d`. -/
def at4 (a : Fin n0) (b : Fin n1) (c : Fin n2) (d : Fin n3) : (S4 n0 n1 n2 n3).Idx := fun x =>
  match x with
  | ⟨0, _⟩ => a
  | ⟨1, _⟩ => b
  | ⟨2, _⟩ => c
  | ⟨3, _⟩ => d

/-- The host's sum over the first and the last of four axes. -/
theorem reduce_outer (r : Fin n0 → Fin n1 → Fin n2 → Fin n3 → ℝ) (v : (S4 n0 n1 n2 n3).Idx → EReal) (hv : ∀ i, v i = ((r (i 0) (i 1) (i 2) (i 3) : ℝ) : EReal))
    (h : (S4 n0 n1 n2 n3).ReducesTo [0, 3] ⟨2, ![n1, n2]⟩) (j : (⟨2, ![n1, n2]⟩ : Shape).Idx) :
    Ideal.hostReduceAdd h v 0 j = ((∑ a, ∑ d, r a (j 0) (j 1) d : ℝ) : EReal) := by
  have hp : ∀ i : (S4 n0 n1 n2 n3).Idx, h.drop i = j ↔ ∃ k : Fin n0 × Fin n3, at4 k.1 (j 0) (j 1) k.2 = i := by
    intro i
    constructor
    · intro e
      refine ⟨(i 0, i 3), funext fun x => ?_⟩
      match x with
      | ⟨0, _⟩ => rfl
      | ⟨1, _⟩ => exact Fin.ext (congrArg Fin.val (congrFun e 0)).symm
      | ⟨2, _⟩ => exact Fin.ext (congrArg Fin.val (congrFun e 1)).symm
      | ⟨3, _⟩ => rfl
    · rintro ⟨k, rfl⟩
      funext x
      match x with
      | ⟨0, _⟩ => rfl
      | ⟨1, _⟩ => rfl
  have hg : Function.Injective fun k : Fin n0 × Fin n3 => (at4 k.1 (j 0) (j 1) k.2 : (S4 n0 n1 n2 n3).Idx) := fun k l e =>
    Prod.ext (congrFun e 0) (congrFun e 3)
  refine (congrArg (fun s : EReal => 0 + s) (Finset.sum_filter_eq_sum_of_fiber _ _ hg hp v)).trans ?_
  rw [zero_add, Fintype.sum_prod_type, ← sum_coe]
  refine Finset.sum_congr rfl fun a _ => ?_
  rw [← sum_coe]
  exact Finset.sum_congr rfl fun d _ => hv _

end reduce

abbrev dws_dims := dot_S8x128x256x128_S128x128x8x256_S8x128x128_12_03_3_1_0_2

/-- The product of the chunks' two sides, contracted over chunks and channels. -/
theorem dws_dot (l : S8x128x256x128.Idx → EReal) (r : S128x128x8x256.Idx → EReal)
    (i : S8x128x128.Idx) :
    Host.dotGeneral (F := Ideal) (φ₁ := .f32) (φ₂ := .f32) dws_dims none l r i
      = ∑ j : Fin 128, ∑ d : Fin 256, l (at4 (i 0) j d (i 1)) * r (at4 j (i 2) (i 0) d) := by
  refine (Ideal.dotGeneral_apply dws_dims none _ l r i).trans ?_
  refine (ValueIdx.sum_contr2 dws_dims 128 256 rfl rfl rfl _).trans ?_
  refine Finset.sum_congr rfl fun j _ => Finset.sum_congr rfl fun d _ => congrArg₂ (fun x y : EReal => x * y) (congrArg l ?_) (congrArg r ?_)
  · funext x
    match x with
    | ⟨0, _⟩ => rfl
    | ⟨1, _⟩ => rfl
    | ⟨2, _⟩ => rfl
    | ⟨3, _⟩ => rfl
  · funext x
    match x with
    | ⟨0, _⟩ => rfl
    | ⟨1, _⟩ => rfl
    | ⟨2, _⟩ => rfl
    | ⟨3, _⟩ => rfl

end Sgu.Ref

end
-- ==== Proof.Sgu.RefBack.lean ====
/- What the reference's backward pass computes at real arguments: each of its operations, read at an index, as the gating unit's
   gradients over the real numbers. -/
module

public import proofs.«01_k».proof.Proof.Sgu.Ref
public import proofs.«01_k».proof.Proof.Sgu.Sums
public import Idealize.ShloMosaic.Lib.Pipeline.Value

@[expose] public section

set_option maxRecDepth 16384

noncomputable section

namespace Sgu.Ref

open Idealize.ShloMosaic Cert.Reference5Ideal Cert.Reference5Ideal.Gen Cert.Reference5Ideal.Read Ffn

variable (A : Args)

/-- A row vector's second coordinate is its position, and a column vector's first. -/
theorem row1024 (i : S1x1024.Idx) : (i 0).val * 1024 + (i 1).val = (i 1).val := by
  have h0 : (i 0).val < 1 := (i 0).isLt
  omega
theorem row2048 (i : S1x2048.Idx) : (i 0).val * 2048 + (i 1).val = (i 1).val := by
  have h0 : (i 0).val < 1 := (i 0).isLt
  omega
theorem col1 (i : S16384x1.Idx) : (i 0).val * 1 + (i 1).val = (i 0).val := by
  have h1 : (i 1).val < 1 := (i 1).isLt
  omega

/-! ### The product's normalisation -/

theorem v63 (i : S16384x1024.Idx) :
    val_main_v63 (F := Ideal) (X0 A) (X1 A) (X2 A) (X3 A) (X4 A) (X5 A) i = ((A.o (i 0) (i 1) : ℝ) : EReal) := by
  simp only [val_main_v63_apply, v62, val_main_v0_apply, val_main_cst_apply, Ideal.ofBits_def, Ideal.ofBits_zero_f32, Ideal.addf_def, add_zero]

theorem v70 (i : S16384x1.Idx) :
    val_main_v70 (F := Ideal) (X0 A) (X1 A) (X2 A) (X3 A) (X4 A) (X5 A) i = ((ms (A.o (i 0)) : ℝ) : EReal) := by
  simp only [val_main_v70_apply, val_main_v69_apply, val_main_cst_16_apply, val_main_v68_apply, val_main_v67_apply, val_main_cst_15_apply,
    val_main_v66_apply, val_main_v65_apply, val_main_cst_14_apply, val_main_v64_apply, v63, Ideal.mulf_def, Ideal.addf_def,
    Ideal.hostDivf_def, Ideal.ofBits_def, Ideal.ofBits_zero_f32, ofBits_1024, ofBits_eps, ← EReal.coe_mul, sum_coe, zero_add,
    ← EReal.coe_add, div_coe _ (show (1024 : ℝ) ≠ 0 by norm_num)]
  rfl

theorem v71 (i : S16384x1.Idx) :
    val_main_v71 (F := Ideal) (X0 A) (X1 A) (X2 A) (X3 A) (X4 A) (X5 A) i = ((rstd (A.o (i 0)) : ℝ) : EReal) := by
  simp only [val_main_v71_apply, v70, Ideal.hostUnary_rsqrt_def, rsqrt_coe (ms_pos _)]
  rfl

theorem v74 (i : S16384x1.Idx) : val_main_v74 (F := Ideal) (X0 A) (X1 A) (X2 A) (X3 A) (X4 A) (X5 A) i
    = ((-(1 / 2) * (rstd (A.o (i 0)) / ms (A.o (i 0))) : ℝ) : EReal) := by
  simp only [val_main_v74_apply, val_main_v73_apply, val_main_cst_17_apply, val_main_v72_apply, v70, v71, Ideal.hostDivf_def, Ideal.mulf_def,
    Ideal.ofBits_def, ofBits_neg_half, div_coe _ (ms_pos _).ne', ← EReal.coe_mul]

theorem v76 (i : S16384x1024.Idx) : val_main_v76 (F := Ideal) (X0 A) (X1 A) (X2 A) (X3 A) (X4 A) (X5 A) i
    = ((A.o (i 0) (i 1) * rstd (A.o (i 0)) : ℝ) : EReal) := by
  simp only [val_main_v76_apply, v63, val_main_v75_apply, v71, Ideal.mulf_def, ← EReal.coe_mul]
  rfl

theorem v82 (i : S1x1024.Idx) : val_main_v82 (F := Ideal) (X0 A) (X1 A) (X2 A) (X3 A) (X4 A) (X5 A) (X7 A) i
    = ((A.dgpost (i 1) : ℝ) : EReal) := by
  have h : idx_main_v82 i 0 = i 1 := Fin.ext (row1024 i)
  simp only [val_main_v82_apply, val_main_v81_apply, val_main_cst_18_apply, val_main_v80_apply, v76, Ideal.ofBits_def,
    Ideal.ofBits_zero_f32, Ideal.mulf_def, ← EReal.coe_mul, sum_coe, zero_add]
  rw [← h]
  exact congrArg (fun r : ℝ => (r : EReal)) (Finset.sum_congr rfl fun p _ => mul_comm _ _)

theorem v85 (i : S1024.Idx) : val_main_v85 (F := Ideal) (X0 A) (X1 A) (X2 A) (X3 A) (X4 A) (X5 A) (X7 A) i
    = ((A.dgpost (i 0) : ℝ) : EReal) := by
  simp only [val_main_v85_apply, val_main_cst_19_apply, v82, Ideal.ofBits_def, Ideal.ofBits_zero_f32, zero_add, Fin.sum_univ_one]
  rfl

/-- The normalised product's cotangent. -/
theorem v84 (i : S16384x1024.Idx) : val_main_v84 (F := Ideal) (X6 A) (X7 A) i = ((A.ct (i 0) (i 1) * A.gpost (i 1) : ℝ) : EReal) := by
  simp only [val_main_v84_apply, val_main_v83_apply, val_main_v77_apply, Ideal.mulf_def, ← EReal.coe_mul]
  rfl

theorem v88 (i : S16384x1.Idx) : val_main_v88 (F := Ideal) (X0 A) (X1 A) (X2 A) (X3 A) (X4 A) (X5 A) (X6 A) (X7 A) i
    = ((∑ d, A.o (i 0) d * (A.ct (i 0) d * A.gpost d) : ℝ) : EReal) := by
  have h : idx_main_v88 i 0 = i 0 := Fin.ext (col1 i)
  simp only [val_main_v88_apply, val_main_v87_apply, val_main_cst_20_apply, val_main_v86_apply, v63, v84, Ideal.ofBits_def,
    Ideal.ofBits_zero_f32, Ideal.mulf_def, ← EReal.coe_mul, sum_coe, zero_add]
  rw [← h]
  rfl

theorem v93 (i : S16384x1.Idx) : val_main_v93 (F := Ideal) (X0 A) (X1 A) (X2 A) (X3 A) (X4 A) (X5 A) (X6 A) (X7 A) i
    = (((∑ d, A.o (i 0) d * (A.ct (i 0) d * A.gpost d)) * (-(1 / 2) * (rstd (A.o (i 0)) / ms (A.o (i 0)))) / 1024 : ℝ) : EReal) := by
  simp only [val_main_v93_apply, val_main_v92_apply, val_main_cst_21_apply, val_main_v91_apply, v88, v74, Ideal.mulf_def, Ideal.hostDivf_def,
    Ideal.ofBits_def, ofBits_1024, ← EReal.coe_mul, div_coe _ (show (1024 : ℝ) ≠ 0 by norm_num)]

theorem v95 (i : S16384x1024.Idx) : val_main_v95 (F := Ideal) (X0 A) (X1 A) (X2 A) (X3 A) (X4 A) (X5 A) (X6 A) (X7 A) i
    = (((∑ d, A.o (i 0) d * (A.ct (i 0) d * A.gpost d)) * (-(1 / 2) * (rstd (A.o (i 0)) / ms (A.o (i 0)))) / 1024 : ℝ) : EReal) := by
  simp only [val_main_v95_apply, val_main_v94_apply, val_main_cst_22_apply, v93, Ideal.ofBits_def, Ideal.ofBits_zero_f32,
    zero_add, Fin.sum_univ_one]
  rfl

/-- The product's cotangent. -/
theorem v99 (i : S16384x1024.Idx) : val_main_v99 (F := Ideal) (X0 A) (X1 A) (X2 A) (X3 A) (X4 A) (X5 A) (X6 A) (X7 A) i
    = ((A.all.dm (i 0) (i 1) : ℝ) : EReal) := by
  refine Eq.trans ?_ (congrArg (fun r : ℝ => (r : EReal)) (rmsGrad_eq (A.o (i 0)) (fun d => A.ct (i 0) d * A.gpost d) (i 1)))
  simp only [val_main_v99_apply, val_main_v98_apply, val_main_v97_apply, val_main_v96_apply, val_main_v90_apply, val_main_v89_apply, v63, v71, v84, v95,
    Ideal.mulf_def, Ideal.addf_def, ← EReal.coe_mul, ← EReal.coe_add]
  rfl

/-! ### The mixing -/

theorem v100 (i : S16384x2048.Idx) : val_main_v100 (F := Ideal) (X0 A) (X1 A) (X2 A) (X3 A) (X4 A) (X5 A) (X6 A) (X7 A) i
    = ((A.all.dgt (i 0) (i 1) : ℝ) : EReal) := by
  simp only [val_main_v100_apply, v99, ← EReal.coe_mul, sum_coe]
  rfl

theorem v101 (i : S16384x2048.Idx) : val_main_v101 (F := Ideal) (X0 A) (X1 A) (X2 A) (X3 A) (X4 A) (X5 A) (X6 A) (X7 A) i
    = ((A.all.dmx (i 0) (i 1) : ℝ) : EReal) := by
  simp only [val_main_v101_apply, v22, v100, Ideal.mulf_def, ← EReal.coe_mul]
  exact congrArg (fun r : ℝ => (r : EReal)) (mul_comm _ _)

theorem v102 (i : S16384x2048.Idx) : val_main_v102 (F := Ideal) (X0 A) (X1 A) (X2 A) (X3 A) (X4 A) (X5 A) (X6 A) (X7 A) i
    = ((A.all.du (i 0) (i 1) : ℝ) : EReal) := by
  simp only [val_main_v102_apply, v60, v100, Ideal.mulf_def, ← EReal.coe_mul]
  rfl

theorem v103 (i : S128x128x8x256.Idx) : val_main_v103 (F := Ideal) (X0 A) (X1 A) (X2 A) (X3 A) (X4 A) (X5 A) (X6 A) (X7 A) i
    = ((A.all.dmx (ctok (i 0) (i 1)) (chan (i 2) (i 3)) : ℝ) : EReal) := by
  rw [val_main_v103_apply, v101]
  exact congrArg₂ (fun p e => ((A.all.dmx p e : ℝ) : EReal)) (idx4 i).1 (idx4 i).2

theorem v104 (i : S128x8.Idx) : val_main_v104 (F := Ideal) (X0 A) (X1 A) (X2 A) (X3 A) (X4 A) (X5 A) (X6 A) (X7 A) i
    = ((A.dbs (i 1) (i 0) : ℝ) : EReal) := by
  refine (congrArg (fun x : EReal => Ideal.hostReduceAdd reducesTo_S128x128x8x256_S128x8_d0_3 _ x i) Ideal.ofBits_zero_f32).trans ?_
  refine (reduce_outer (fun j t g d => A.all.dmx (ctok j t) (chan g d)) _ (v103 A) _ i).trans ?_
  exact congrArg (fun r : ℝ => (r : EReal)) Finset.sum_comm

theorem v105 (i : S1x128x8x1.Idx) : val_main_v105 (F := Ideal) (X0 A) (X1 A) (X2 A) (X3 A) (X4 A) (X5 A) (X6 A) (X7 A) i
    = ((A.dbs (i 2) (i 1) : ℝ) : EReal) := by
  have h0 : (i 0).val < 1 := (i 0).isLt
  have h1 : (i 1).val < 128 := (i 1).isLt
  have h2 : (i 2).val < 8 := (i 2).isLt
  have h3 : (i 3).val < 1 := (i 3).isLt
  rw [val_main_v105_apply, v104]
  refine congrArg₂ (fun g t => ((A.dbs g t : ℝ) : EReal)) (Fin.ext ?_) (Fin.ext ?_)
  · show ((((i 0).val * 128 + (i 1).val) * 8 + (i 2).val) * 1 + (i 3).val) % 8 = (i 2).val
    omega
  · show ((((i 0).val * 128 + (i 1).val) * 8 + (i 2).val) * 1 + (i 3).val) / 8 = (i 1).val
    omega

theorem v106 (i : S128x8.Idx) : val_main_v106 (F := Ideal) (X0 A) (X1 A) (X2 A) (X3 A) (X4 A) (X5 A) (X6 A) (X7 A) i
    = ((A.dbs (i 1) (i 0) : ℝ) : EReal) := by
  refine (congrArg (fun x : EReal => Ideal.hostReduceAdd reducesTo_S1x128x8x1_S128x8_d0_3 _ x i) Ideal.ofBits_zero_f32).trans ?_
  refine (reduce_outer (fun _ t g _ => A.dbs g t) _ (v105 A) _ i).trans ?_
  simp only [Fin.sum_univ_one]

theorem v107 (i : S8x128.Idx) : val_main_v107 (F := Ideal) (X0 A) (X1 A) (X2 A) (X3 A) (X4 A) (X5 A) (X6 A) (X7 A) i
    = ((A.dbs (i 0) (i 1) : ℝ) : EReal) := by
  rw [val_main_v107_apply, v106]
  rfl

theorem v108 (i : S8x128x256x128.Idx) : val_main_v108 (F := Ideal) (X0 A) (X1 A) (X2 A) (X3 A) (X4 A) (X5 A) (X6 A) (X7 A) i
    = ((A.all.dmx (ctok (i 1) (i 3)) (chan (i 0) (i 2)) : ℝ) : EReal) := by
  rw [val_main_v108_apply, v103]
  rfl

theorem v109 (i : S8x128x128.Idx) : val_main_v109 (F := Ideal) (X0 A) (X1 A) (X2 A) (X3 A) (X4 A) (X5 A) (X6 A) (X7 A) i
    = ((∑ j, A.all.dwsAt (ctok j) (i 0) (i 1) (i 2) : ℝ) : EReal) := by
  refine (dws_dot _ _ i).trans ?_
  simp only [v108, v49, ← EReal.coe_mul, sum_coe]
  rfl

theorem v112 (i : S8x128x128.Idx) : val_main_v112 (F := Ideal) (X0 A) (X1 A) (X2 A) (X3 A) (X4 A) (X5 A) (X6 A) (X7 A) i
    = ((A.dws (i 0) (i 1) (i 2) : ℝ) : EReal) := by
  simp only [val_main_v112_apply, v109, val_main_v53_1_apply, val_main_v52_apply, val_main_v51_apply, val_main_call0_v4_apply,
    val_main_call0_v2_apply, val_main_call0_v0_apply, val_main_call0_v1_apply, val_main_call0_c_apply, val_main_call0_v3_apply,
    val_main_v50_apply, val_main_c_apply, val_main_call0_v5_apply, val_main_call0_c_0_apply, val_main_call2_v0_apply,
    val_main_call2_cst_apply, Ideal.ofBits_def, Ideal.ofBits_zero_f32]
  refine (mask (i 1) (i 2) _ _).trans ?_
  by_cases hs : (i 2).val ≤ (i 1).val
  · rw [if_pos hs]; exact congrArg (fun r : ℝ => (r : EReal)) (if_pos hs).symm
  · rw [if_neg hs]; exact congrArg (fun r : ℝ => (r : EReal)) (if_neg hs).symm

theorem dvln_chunk (j s : Fin 128) (g : Fin 8) (d : Fin 256) :
    A.all.dvln (ctok j s) (chan g d) = ∑ t, A.ws g t s * A.all.dmx (ctok j t) (chan g d) := by
  show ∑ t, A.ws (grp (chan g d)) t (pos (ctok j s)) * A.all.dmx (A.all.mate (ctok j s) t) (chan g d) = _
  simp only [grp_chan, pos_ctok, mate_ctok]

theorem v110 (i : S8x128x256x128.Idx) : val_main_v110 (F := Ideal) (X0 A) (X1 A) (X2 A) (X3 A) (X4 A) (X5 A) (X6 A) (X7 A) i
    = ((A.all.dvln (ctok (i 1) (i 3)) (chan (i 0) (i 2)) : ℝ) : EReal) := by
  simp only [val_main_v110_apply, v108, v53_0, ← EReal.coe_mul, sum_coe]
  refine congrArg (fun r : ℝ => (r : EReal)) (Eq.trans ?_ (dvln_chunk A (i 1) (i 3) (i 0) (i 2)).symm)
  exact Finset.sum_congr rfl fun t _ => mul_comm _ _

theorem v111 (i : S128x128x8x256.Idx) : val_main_v111 (F := Ideal) (X0 A) (X1 A) (X2 A) (X3 A) (X4 A) (X5 A) (X6 A) (X7 A) i
    = ((A.all.dvln (ctok (i 0) (i 1)) (chan (i 2) (i 3)) : ℝ) : EReal) := by
  rw [val_main_v111_apply, v110]
  rfl

theorem v113 (i : S16384x2048.Idx) : val_main_v113 (F := Ideal) (X0 A) (X1 A) (X2 A) (X3 A) (X4 A) (X5 A) (X6 A) (X7 A) i
    = ((A.all.dvln (i 0) (i 1) : ℝ) : EReal) := by
  rw [val_main_v113_apply, v111]
  exact congrArg₂ (fun p e => ((A.all.dvln p e : ℝ) : EReal)) (idx2 i).1.symm (idx2 i).2.symm

/-! ### The layer normalisation -/

theorem v115 (i : S1x2048.Idx) : val_main_v115 (F := Ideal) (X0 A) (X1 A) (X2 A) (X3 A) (X4 A) (X5 A) (X6 A) (X7 A) i
    = ((A.dlnb (i 1) : ℝ) : EReal) := by
  have h : idx_main_v115 i 0 = i 1 := Fin.ext (row2048 i)
  simp only [val_main_v115_apply, val_main_v114_apply, val_main_cst_25_apply, v113, Ideal.ofBits_def, Ideal.ofBits_zero_f32, sum_coe, zero_add]
  rw [← h]
  rfl

theorem v116 (i : S2048.Idx) : val_main_v116 (F := Ideal) (X0 A) (X1 A) (X2 A) (X3 A) (X4 A) (X5 A) (X6 A) (X7 A) i
    = ((A.dlnb (i 0) : ℝ) : EReal) := by
  simp only [val_main_v116_apply, val_main_cst_26_apply, v115, Ideal.ofBits_def, Ideal.ofBits_zero_f32, zero_add, Fin.sum_univ_one]
  rfl

theorem v119 (i : S1x2048.Idx) : val_main_v119 (F := Ideal) (X0 A) (X1 A) (X2 A) (X3 A) (X4 A) (X5 A) (X6 A) (X7 A) i
    = ((A.dlng (i 1) : ℝ) : EReal) := by
  have h : idx_main_v119 i 0 = i 1 := Fin.ext (row2048 i)
  simp only [val_main_v119_apply, val_main_v118_apply, val_main_cst_27_apply, val_main_v117_apply, v42, v113, Ideal.ofBits_def,
    Ideal.ofBits_zero_f32, Ideal.mulf_def, ← EReal.coe_mul, sum_coe, zero_add]
  rw [← h]
  exact congrArg (fun r : ℝ => (r : EReal)) (Finset.sum_congr rfl fun p _ => mul_comm _ _)

theorem v122 (i : S2048.Idx) : val_main_v122 (F := Ideal) (X0 A) (X1 A) (X2 A) (X3 A) (X4 A) (X5 A) (X6 A) (X7 A) i
    = ((A.dlng (i 0) : ℝ) : EReal) := by
  simp only [val_main_v122_apply, val_main_cst_28_apply, v119, Ideal.ofBits_def, Ideal.ofBits_zero_f32, zero_add, Fin.sum_univ_one]
  rfl

/-- The normalised half's cotangent. -/
abbrev w (p : Fin 16384) (e : Fin 2048) : ℝ := A.all.dvln p e * A.lng e

theorem v121 (i : S16384x2048.Idx) : val_main_v121 (F := Ideal) (X0 A) (X1 A) (X2 A) (X3 A) (X4 A) (X5 A) (X6 A) (X7 A) i
    = ((w A (i 0) (i 1) : ℝ) : EReal) := by
  simp only [val_main_v121_apply, v113, val_main_v120_apply, val_main_v43_apply, Ideal.mulf_def, ← EReal.coe_mul]
  rfl

theorem v125 (i : S16384x1.Idx) : val_main_v125 (F := Ideal) (X0 A) (X1 A) (X2 A) (X3 A) (X4 A) (X5 A) (X6 A) (X7 A) i
    = ((∑ k, cen (A.all.v (i 0)) k * w A (i 0) k : ℝ) : EReal) := by
  have h : idx_main_v125 i 0 = i 0 := Fin.ext (col1 i)
  simp only [val_main_v125_apply, val_main_v124_apply, val_main_cst_29_apply, val_main_v123_apply, v29, v121, Ideal.ofBits_def,
    Ideal.ofBits_zero_f32, Ideal.mulf_def, ← EReal.coe_mul, sum_coe, zero_add]
  rw [← h]
  rfl

theorem v130 (i : S16384x1.Idx) : val_main_v130 (F := Ideal) (X0 A) (X1 A) (X2 A) (X3 A) (X4 A) (X5 A) (X6 A) (X7 A) i
    = ((varPart (A.all.v (i 0)) (w A (i 0)) : ℝ) : EReal) := by
  simp only [val_main_v130_apply, val_main_v129_apply, val_main_cst_30_apply, val_main_v128_apply, v125, v40, Ideal.mulf_def, Ideal.hostDivf_def,
    Ideal.ofBits_def, ofBits_2048, ← EReal.coe_mul, div_coe _ (show (2048 : ℝ) ≠ 0 by norm_num)]
  rfl

theorem v132 (i : S16384x2048.Idx) : val_main_v132 (F := Ideal) (X0 A) (X1 A) (X2 A) (X3 A) (X4 A) (X5 A) (X6 A) (X7 A) i
    = ((varPart (A.all.v (i 0)) (w A (i 0)) : ℝ) : EReal) := by
  have h : val_main_v132 (F := Ideal) (X0 A) (X1 A) (X2 A) (X3 A) (X4 A) (X5 A) (X6 A) (X7 A) i = _ := val_main_v132_apply _ _ _ _ _ _ _ _ i
  simp only [h, val_main_v131_apply, val_main_cst_31_apply, v130, Ideal.ofBits_def, Ideal.ofBits_zero_f32, zero_add, Fin.sum_univ_one]
  rfl

theorem v136 (i : S16384x2048.Idx) : val_main_v136 (F := Ideal) (X0 A) (X1 A) (X2 A) (X3 A) (X4 A) (X5 A) (X6 A) (X7 A) i
    = ((cenGrad (A.all.v (i 0)) (w A (i 0)) (i 1) : ℝ) : EReal) := by
  simp only [val_main_v136_apply, val_main_v135_apply, val_main_v134_apply, val_main_v133_apply, val_main_v127_apply, val_main_v126_apply, v121,
    v29, v37, v132, Ideal.mulf_def, Ideal.addf_def, ← EReal.coe_mul, ← EReal.coe_add]
  rfl

theorem v141 (i : S16384x1.Idx) : val_main_v141 (F := Ideal) (X0 A) (X1 A) (X2 A) (X3 A) (X4 A) (X5 A) (X6 A) (X7 A) i
    = (((∑ k, -cenGrad (A.all.v (i 0)) (w A (i 0)) k) / 2048 : ℝ) : EReal) := by
  have h : idx_main_v139 i 0 = i 0 := Fin.ext (col1 i)
  simp only [val_main_v141_apply, val_main_v140_apply, val_main_cst_33_apply, val_main_v139_apply, val_main_v138_apply, val_main_cst_32_apply,
    val_main_v137_apply, v136, Ideal.hostNegf_def, Ideal.negf_def, Ideal.hostDivf_def, Ideal.ofBits_def, ofBits_2048, Ideal.ofBits_zero_f32,
    ← EReal.coe_neg, sum_coe, zero_add, div_coe _ (show (2048 : ℝ) ≠ 0 by norm_num)]
  rw [← h]
  rfl

theorem v144 (i : S16384x2048.Idx) : val_main_v144 (F := Ideal) (X0 A) (X1 A) (X2 A) (X3 A) (X4 A) (X5 A) (X6 A) (X7 A) i
    = ((A.all.dv (i 0) (i 1) : ℝ) : EReal) := by
  refine Eq.trans ?_ (congrArg (fun r : ℝ => (r : EReal)) (lnGrad_eq (A.all.v (i 0)) (w A (i 0)) (i 1)))
  simp only [val_main_v144_apply, v136, val_main_v143_apply, val_main_v142_apply, val_main_cst_34_apply, v141, Ideal.addf_def, Ideal.ofBits_def,
    Ideal.ofBits_zero_f32, zero_add, Fin.sum_univ_one, ← EReal.coe_add]
  rfl

/-! ### The two halves side by side, and the activation -/

/-- The activation's cotangent. -/
def dact (p : Fin 16384) (k : Fin 4096) : ℝ := if h : k.val < 2048 then A.all.du p ⟨k.val, h⟩ else A.all.dv p ⟨k.val - 2048, by omega⟩

theorem v145 (i : S16384x4096.Idx) : val_main_v145 (F := Ideal) (X0 A) (X1 A) (X2 A) (X3 A) (X4 A) (X5 A) (X6 A) (X7 A) i
    = ((dact A (i 0) (i 1) : ℝ) : EReal) := by
  have h1 : (i 1).val < 4096 := (i 1).isLt
  by_cases hk : (i 1).val < 2048
  · refine Eq.trans ?_ (congrArg (fun r : ℝ => (r : EReal)) (dif_pos hk).symm)
    refine (concatenate_pair_apply_left 1 _ _ concatenates_S16384x2048_S16384x2048_S16384x4096_d1 i rfl
      (ValueIdx.ix2 (i 0) (⟨(i 1).val, hk⟩ : Fin 2048)) fun b => ?_).trans (v102 A _)
    match b with
    | ⟨0, _⟩ => rfl
    | ⟨1, _⟩ => rfl
  · refine Eq.trans ?_ (congrArg (fun r : ℝ => (r : EReal)) (dif_neg hk).symm)
    refine (concatenate_pair_apply_right 1 _ _ concatenates_S16384x2048_S16384x2048_S16384x4096_d1 i rfl rfl
      (ValueIdx.ix2 (i 0) (⟨(i 1).val - 2048, by omega⟩ : Fin 2048)) (fun b hb => ?_) ?_).trans (v144 A _)
    · match b with
      | ⟨0, _⟩ => rfl
      | ⟨1, _⟩ => exact absurd rfl hb
    · show (i 1).val - 2048 + 2048 = (i 1).val
      omega

theorem dz_eq (p : Fin 16384) (k : Fin 4096) : A.all.dz p k = dact A p k * geluGrad (A.z p k) := by
  unfold Part.dz dact
  split <;> rfl

theorem v157 (i : S16384x4096.Idx) : val_main_v157 (F := Ideal) (X0 A) (X1 A) (X2 A) (X3 A) (X4 A) (X5 A) (X6 A) (X7 A) i
    = ((A.all.dz (i 0) (i 1) : ℝ) : EReal) := by
  simp only [val_main_v157_apply, val_main_v156_apply, val_main_v155_apply, val_main_v154_apply, val_main_cst_37_apply, val_main_v153_apply,
    val_main_v152_apply, val_main_v151_apply, val_main_cst_36_apply, val_main_v150_apply, val_main_v149_apply, val_main_v148_apply,
    val_main_cst_35_apply, val_main_v147_apply, val_main_v146_apply, val_main_v5_apply, val_main_v4_apply, val_main_cst_0_apply,
    val_main_v3_apply, v145, v20, v16, Ideal.mulf_def, Ideal.addf_def, Ideal.ofBits_def, ofBits_half, ofBits_c0, ofBits_c1, ofBits_three,
    ← EReal.coe_mul, ← EReal.coe_add]
  refine congrArg (fun r : ℝ => (r : EReal)) (Eq.trans ?_ (dz_eq A (i 0) (i 1)).symm)
  unfold geluGrad
  ring

end Sgu.Ref

end
-- ==== Proof.Sgu.RefRun.lean ====
/- The reference's run: from arguments that are real numbers, its results are the gating unit's gradients. -/
module

public import proofs.«01_k».proof.Proof.Sgu.RefBack
public import proofs.«01_k».proof.Proof.Sgu.Ops
public import proofs.«01_k».proof.Proof.Gen.Reference5Ideal.Run

@[expose] public section

set_option maxRecDepth 16384

noncomputable section

open Idealize.ShloMosaic Idealize.SL.Sem Cert.Reference5Ideal Cert.Reference5Ideal.Gen Cert.Reference5Ideal.Read Ffn

namespace Sgu.Ref

variable {m : (ℓ : Loc nD τ Cert.Reference5Ideal.sig) → Buf (Elt Ideal) ℓ} {A : Dev nD → Args}

/-- The device's arguments are the real numbers of `A`. -/
structure HoldsArgs (m : (ℓ : Loc nD τ Cert.Reference5Ideal.sig) → Buf (Elt Ideal) ℓ) (c : Dev nD) (A : Args) : Prop where
  z : m ((c.tc : Thread nD τ).loc main_arg0) = X0 A
  lng : m ((c.tc : Thread nD τ).loc main_arg1) = X1 A
  lnb : m ((c.tc : Thread nD τ).loc main_arg2) = X2 A
  wsp : m ((c.tc : Thread nD τ).loc main_arg3) = X3 A
  bsp : m ((c.tc : Thread nD τ).loc main_arg4) = X4 A
  wo : m ((c.tc : Thread nD τ).loc main_arg5) = X5 A
  gpost : m ((c.tc : Thread nD τ).loc main_arg6) = X6 A
  ct : m ((c.tc : Thread nD τ).loc main_arg7) = X7 A

variable {c : Dev nD} {B : Args} (H : HoldsArgs m c B)
include H

theorem a0 : StableHlo.launchContents m c (Proc.devRef .tc main_arg0) = X0 B := H.z
theorem a1 : StableHlo.launchContents m c (Proc.devRef .tc main_arg1) = X1 B := H.lng
theorem a2 : StableHlo.launchContents m c (Proc.devRef .tc main_arg2) = X2 B := H.lnb
theorem a3 : StableHlo.launchContents m c (Proc.devRef .tc main_arg3) = X3 B := H.wsp
theorem a4 : StableHlo.launchContents m c (Proc.devRef .tc main_arg4) = X4 B := H.bsp
theorem a5 : StableHlo.launchContents m c (Proc.devRef .tc main_arg5) = X5 B := H.wo
theorem a6 : StableHlo.launchContents m c (Proc.devRef .tc main_arg6) = X6 B := H.gpost
theorem a7 : StableHlo.launchContents m c (Proc.devRef .tc main_arg7) = X7 B := H.ct

omit H in
theorem reference_run (ρ : Dev nD → PrngReg) (H : ∀ c, HoldsArgs m c (A c)) :
    θ_run (defs (F := Ideal)) (onTc (τ := τ) (main (F := Ideal))) ⟨m, fun _ => 0, ρ⟩ fun r => ∀ c : Dev nD,
      r.2.mem ((c.tc : Thread nD τ).loc main_v158) = (E2 (A c).all.dm : FVec Ideal S16384x1024 .bf16)
      ∧ r.2.mem ((c.tc : Thread nD τ).loc main_v85) = (E1 (A c).dgpost : FVec Ideal S1024 .f32)
      ∧ r.2.mem ((c.tc : Thread nD τ).loc main_v159) = (E2 (A c).all.dz : FVec Ideal S16384x4096 .bf16)
      ∧ r.2.mem ((c.tc : Thread nD τ).loc main_v112) = (E3 (A c).dws : FVec Ideal S8x128x128 .f32)
      ∧ r.2.mem ((c.tc : Thread nD τ).loc main_v107) = (E2 (A c).dbs : FVec Ideal S8x128 .f32)
      ∧ r.2.mem ((c.tc : Thread nD τ).loc main_v122) = (E1 (A c).dlng : FVec Ideal S2048 .f32)
      ∧ r.2.mem ((c.tc : Thread nD τ).loc main_v116) = (E1 (A c).dlnb : FVec Ideal S2048 .f32) := by
  refine (θ_run _ _ _).mono (fun r h c => ?_) (Cert.Reference5Ideal.Value.run m ρ)
  obtain ⟨h158, h85, h159, h112, h107, h122, h116, -⟩ := h c
  refine ⟨?_, ?_, ?_, ?_, ?_, ?_, ?_⟩
  · rw [h158, val_main_v158_eq, a0 (H c), a1 (H c), a2 (H c), a3 (H c), a4 (H c), a5 (H c), a6 (H c), a7 (H c)]
    exact funext fun i => v99 (A c) i
  · rw [h85, val_main_v85_eq, a0 (H c), a1 (H c), a2 (H c), a3 (H c), a4 (H c), a5 (H c), a7 (H c)]
    exact funext fun i => v85 (A c) i
  · rw [h159, val_main_v159_eq, a0 (H c), a1 (H c), a2 (H c), a3 (H c), a4 (H c), a5 (H c), a6 (H c), a7 (H c)]
    exact funext fun i => v157 (A c) i
  · rw [h112, val_main_v112_eq, a0 (H c), a1 (H c), a2 (H c), a3 (H c), a4 (H c), a5 (H c), a6 (H c), a7 (H c)]
    exact funext fun i => v112 (A c) i
  · rw [h107, val_main_v107_eq, a0 (H c), a1 (H c), a2 (H c), a3 (H c), a4 (H c), a5 (H c), a6 (H c), a7 (H c)]
    exact funext fun i => v107 (A c) i
  · rw [h122, val_main_v122_eq, a0 (H c), a1 (H c), a2 (H c), a3 (H c), a4 (H c), a5 (H c), a6 (H c), a7 (H c)]
    exact funext fun i => v122 (A c) i
  · rw [h116, val_main_v116_eq, a0 (H c), a1 (H c), a2 (H c), a3 (H c), a4 (H c), a5 (H c), a6 (H c), a7 (H c)]
    exact funext fun i => v116 (A c) i

end Sgu.Ref

end
-- ==== Proof.Sgu.Run.lean ====
/- The gating unit's gradient: the kernel and the reference end with the same results. -/
module

public import proofs.«01_k».proof.Proof.Sgu.KernelRun
public import proofs.«01_k».proof.Proof.Sgu.RefRun
public import proofs.«01_k».proof.Proof.Ffn.Pre
public import proofs.«01_k».proof.Proof.Gen.Pre_finite5
public import proofs.«01_k».proof.Proof.Gen.Reference5Ideal.Run
public import proofs.«01_k».proof.Defs

@[expose] public section

set_option maxRecDepth 16384

noncomputable section

open Idealize.ShloMosaic Idealize.SL.Sem Ffn

namespace Sgu

theorem E3_of_real {a b c : ℕ} (x : FVec Ideal ⟨3, ![a, b, c]⟩ .f32) (h : ∀ i, ∃ r : ℝ, x i = ((r : ℝ) : EReal)) :
    ∃ r : Fin a → Fin b → Fin c → ℝ, x = E3 r := by
  choose r hr using h
  refine ⟨fun p q d => r (ValueIdx.ix3 p q d), funext fun i => (hr i).trans ?_⟩
  refine congrArg (fun j => ((r j : ℝ) : EReal)) (funext fun k => ?_)
  match k with
  | ⟨0, _⟩ => rfl
  | ⟨1, _⟩ => rfl
  | ⟨2, _⟩ => rfl

/-- Finite arguments are the real numbers of some `Args`. -/
theorem args_of_finite (m : (ℓ : Loc Cert.Kernel5Ideal.nD Cert.Kernel5Ideal.τ Cert.Kernel5Ideal.sig) → Buf (Elt Ideal) ℓ)
    (hpre : Cert.Pre_Kernel5Ideal_finite5 m) (c : Dev Cert.Kernel5Ideal.nD) : ∃ A : Args, HoldsArgs m c A := by
  obtain ⟨h0, h1, h2, h3, h4, h5, h6, h7⟩ := hpre c
  obtain ⟨z, hz⟩ := E2_of_real _ fun i => real_of_lt _ (congrFun h0 i)
  obtain ⟨lng, hlng⟩ := E1_of_real _ fun i => real_of_lt _ (congrFun h1 i)
  obtain ⟨lnb, hlnb⟩ := E1_of_real _ fun i => real_of_lt _ (congrFun h2 i)
  obtain ⟨wsp, hwsp⟩ := E3_of_real _ fun i => real_of_lt _ (congrFun h3 i)
  obtain ⟨bsp, hbsp⟩ := E2_of_real _ fun i => real_of_lt _ (congrFun h4 i)
  obtain ⟨wo, hwo⟩ := E2_of_real _ fun i => real_of_lt _ (congrFun h5 i)
  obtain ⟨gpost, hgpost⟩ := E1_of_real _ fun i => real_of_lt _ (congrFun h6 i)
  obtain ⟨ct, hct⟩ := E2_of_real _ fun i => real_of_lt _ (congrFun h7 i)
  exact ⟨{ z := z, lng := lng, lnb := lnb, wsp := wsp, bsp := bsp, wo := wo, gpost := gpost, ct := ct },
    { z := hz, lng := hlng, lnb := hlnb, wsp := hwsp, bsp := hbsp, wo := hwo, gpost := hgpost, ct := hct }⟩

/-- The kernel holds two rounded products of gelu's constants; each is named the exact product. -/
theorem preserves : Cert.preserves_Kernel5_Kernel5Ideal :=
  ⟨IdealRules.named_const.statement Cert.Kernel5Ideal.κ "gelu_c01" .f32 0x3D122279#32 ((80338380498831 / 2251799813685248 : ℝ) : EReal) rfl,
    IdealRules.named_const.statement Cert.Kernel5Ideal.κ "gelu_c01_3" .f32 0x3D5B33B6#32 ((241015141496493 / 4503599627370496 : ℝ) : EReal) rfl⟩

/-- The reference leaves its arguments unchanged; it declares no semaphore. -/
theorem reference_frame : Cert.quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run m ρ)

theorem algebraic : Cert.algebraic_Kernel5Ideal_Reference5Ideal_pre_finite5 := by
  intro m g m' g' hpre hargs
  choose A H using args_of_finite m hpre
  have H' : ∀ c, Ref.HoldsArgs m' c (A c) := fun c => by
    obtain ⟨h0, h1, h2, h3, h4, h5, h6, h7⟩ := hargs c
    exact { z := h0.trans (H c).z, lng := h1.trans (H c).lng, lnb := h2.trans (H c).lnb, wsp := h3.trans (H c).wsp,
            bsp := h4.trans (H c).bsp, wo := h5.trans (H c).wo, gpost := h6.trans (H c).gpost, ct := h7.trans (H c).ct }
  refine ⟨fun c => E2 (A c).all.dm, fun c => E1 (A c).dgpost, fun c => E2 (A c).all.dz, fun c => E3 (A c).dws, fun c => E2 (A c).dbs,
    fun c => E1 (A c).dlng, fun c => E1 (A c).dlnb, ?_, ?_⟩
  · refine (θ_run _ _ _).mono (fun r h c => ?_) (θ_run_and (kernel_run g H) (Cert.Kernel5Ideal.Gen.unchanged m g))
    obtain ⟨h0, h1, h2, h3, h4, h5, h6⟩ := h.1 c
    exact ⟨h0, h1, h2, h3, h4, h5, h6, h.2 c⟩
  · refine (θ_run _ _ _).mono (fun r h c => ?_) (θ_run_and (Ref.reference_run g' H') (reference_frame m' g' trivial))
    obtain ⟨h0, h1, h2, h3, h4, h5, h6⟩ := h.1 c
    exact ⟨h0, h1, h2, h3, h4, h5, h6, h.2.1 c⟩

end Sgu

end
-- ==== Proof.lean ====
/- The claims about the feed-forward sub-layer's four calls and the spatial gating unit's two backward calls: each program's frame, and that
   each kernel and its reference end with the same results. The mathematics of the sub-layer's gradient is in Proof/Ffn/: the real
   numbers (`Real`), the reference (`Ref`, `RefRun`), one grid point (`Block`, `Out`), the accumulators (`Acc`), the region's arrays
   (`Entry`, `Arrays`), the kernel (`KernelRun`), the precondition (`Pre`). Proof/Wgrad/ has a weight's gradient, Proof/FfnOut/ the
   forward pass's output side, Proof/FfnIn/ its input side. Proof/Sgu/ has the gating unit's gradient, in files of the same names, and
   Proof/MatBwd/ that of its projection and pre-norm. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite5
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Ffn.KernelRun
public import proofs.«01_k».proof.Proof.Ffn.RefRun
public import proofs.«01_k».proof.Proof.Ffn.Pre
public import proofs.«01_k».proof.Proof.Wgrad.Run
public import proofs.«01_k».proof.Proof.FfnOut.Run
public import proofs.«01_k».proof.Proof.FfnIn.Run
public import proofs.«01_k».proof.Proof.MatBwd.Run
public import proofs.«01_k».proof.Proof.Sgu.Run
public import Idealize.ShloMosaic.Adequacy
public import Idealize.ShloMosaic.Init

@[expose] public section

noncomputable section

namespace Cert.Proof

open Idealize.ShloMosaic Idealize.SL.Sem Ffn

/-- Finite arguments are the real numbers of some `Args`. -/
theorem args_of_finite (m : (ℓ : Loc KernelIdeal.nD KernelIdeal.τ KernelIdeal.sig) → Buf (Elt Ideal) ℓ)
    (hpre : Pre_KernelIdeal_finite m) (c : Dev KernelIdeal.nD) : ∃ A : Args, HoldsArgs m c A := by
  obtain ⟨h0, h1, h2, h3, h4, h5, h6⟩ := hpre c
  obtain ⟨x, hx⟩ := E2_of_real _ fun i => real_of_lt _ (congrFun h0 i)
  obtain ⟨gpre, hgpre⟩ := E1_of_real _ fun i => real_of_lt _ (congrFun h1 i)
  obtain ⟨gpost, hgpost⟩ := E1_of_real _ fun i => real_of_lt _ (congrFun h2 i)
  obtain ⟨wg, hwg⟩ := E2_of_real _ fun i => real_of_lt _ (congrFun h3 i)
  obtain ⟨wu, hwu⟩ := E2_of_real _ fun i => real_of_lt _ (congrFun h4 i)
  obtain ⟨wd, hwd⟩ := E2_of_real _ fun i => real_of_lt _ (congrFun h5 i)
  obtain ⟨ct, hct⟩ := E2_of_real _ fun i => real_of_lt _ (congrFun h6 i)
  exact ⟨⟨x, gpre, gpost, wg, wu, wd, ct⟩, ⟨hx, hgpre, hgpost, hwg, hwu, hwd, hct⟩⟩

/-- The reference leaves its arguments unchanged; it declares no semaphore. -/
theorem reference_frame : quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run m ρ)

theorem algebraic : algebraic_KernelIdeal_ReferenceIdeal_pre_finite := by
  intro m g m' g' hpre hargs
  choose A H using args_of_finite m hpre
  have H' : ∀ c, Ref.HoldsArgs m' c (A c) := fun c => by
    obtain ⟨h0, h1, h2, h3, h4, h5, h6⟩ := hargs c
    exact ⟨h0.trans (H c).x, h1.trans (H c).gpre, h2.trans (H c).gpost, h3.trans (H c).wg, h4.trans (H c).wu, h5.trans (H c).wd,
      h6.trans (H c).ct⟩
  refine ⟨fun c => E2 (A c).dm, fun c => E1 (A c).dgpost, fun c => E2 (A c).dgate, fun c => E2 (A c).dup, fun c => E2 (A c).dx,
    fun c => E2 (A c).hn, fun c => E1 (A c).dgpre, ?_, ?_⟩
  · refine (θ_run _ _ _).mono (fun r h c => ?_) (θ_run_and (kernel_run g H) (Cert.KernelIdeal.Gen.unchanged m g))
    obtain ⟨h0, h1, h2, h3, h4, h5, h6⟩ := h.1 c
    exact ⟨h0, h1, h2, h3, h4, h5, h6, h.2 c⟩
  · refine (θ_run _ _ _).mono (fun r h c => ?_) (θ_run_and (Ref.reference_run g' H') (reference_frame m' g' trivial))
    obtain ⟨h0, h1, h2, h3, h4, h5, h6⟩ := h.1 c
    exact ⟨h0, h1, h2, h3, h4, h5, h6, h.2.1 c⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Pre_finite.Gen.facts, Cert.Pre_finite4.Gen.facts,
    Cert.Pre_finite5.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, Wgrad.reference_frame,
    fun m ρ _ => Cert.Kernel3.Gen.frame m ρ, fun m ρ _ => Cert.Kernel3Ideal.Gen.frame m ρ, FfnOut.reference_frame,
    fun m ρ _ => Cert.Kernel4.Gen.frame m ρ, fun m ρ _ => Cert.Kernel4Ideal.Gen.frame m ρ, fun m ρ _ => Cert.Kernel4Ideal.Gen.frame m ρ,
    FfnIn.reference_frame, fun m ρ _ => FfnIn.reference_frame m ρ trivial,
    fun m ρ _ => Cert.Kernel5.Gen.frame m ρ, fun m ρ _ => Cert.Kernel5Ideal.Gen.frame m ρ, fun m ρ _ => Cert.Kernel5Ideal.Gen.frame m ρ,
    Sgu.reference_frame, fun m ρ _ => Sgu.reference_frame m ρ trivial,
    fun m ρ _ => Cert.Kernel6.Gen.frame m ρ, fun m ρ _ => Cert.Kernel6Ideal.Gen.frame m ρ, MatBwd.reference_frame,
    trivial, algebraic, trivial, Wgrad.algebraic, trivial, FfnOut.algebraic, trivial, FfnIn.algebraic,
    Sgu.preserves, Sgu.algebraic, trivial, MatBwd.algebraic⟩

end Cert.Proof

end
